-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_3)) (v3 : (c : Dev Cert.KernelIdeal.nD) → Buf (Elt Ideal) ((c.tc : Thread Cert.KernelIdeal.nD Cert.KernelIdeal.τ).loc Cert.KernelIdeal.main_v106_2)) (v4 : (c : Dev Cert.KernelIdeal.nD) → Buf (Elt Ideal) ((c.tc : Thread Cert.KernelIdeal.nD Cert.KernelIdeal.τ).loc Cert.KernelIdeal.main_v106_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_3) = v2 c
          ∧ r.2.mem ((c.tc : Thread Cert.KernelIdeal.nD Cert.KernelIdeal.τ).loc Cert.KernelIdeal.main_v106_2) = v3 c
          ∧ r.2.mem ((c.tc : Thread Cert.KernelIdeal.nD Cert.KernelIdeal.τ).loc Cert.KernelIdeal.main_v106_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S49152x2048 : Shape := ⟨2, ![49152, 2048]⟩
abbrev S8 : Shape := ⟨1, ![8]⟩
abbrev S8x2048 : Shape := ⟨2, ![8, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v14 : FVec F S8x2048 .f32) : IVec S_ 1 :=
  let main_v15 : IVec S8x2048 1 := cmpf .ole main_arg4 main_v14
  let main_c_7 : IVec S_ 1 := constantI S_ 1 1#1
  let main_v16 : IVec S_ 1 := (fun x v => Host.reduce IntOp.andi x v reducesTo_S8x2048_S_d0_1 h_S_) main_v15 main_c_7
  let main_v17 : IVec S_ 1 := andi main_v13 main_v16
  main_v17

def fn {F : FTy → Type} [FloatOps F] (main_arg0 : FVec F S49152x2048 .bf16) (main_arg1 : FVec F S49152x2048 .bf16) (main_arg2 : IVec S8 32) (main_arg3 : FVec F S8x2048 .f32) (main_arg4 : FVec F S8x2048 .f32) : IVec S_ 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 49152#32
  let main_v3 : IVec S8 32 := broadcastInDim S8 ![] bcast_S_S8 main_c_1
  let main_v4 : IVec S8 1 := cmpi .sle main_arg2 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg2 main_c_3
  let main_c_4 : IVec S_ 32 := constantI S_ 32 49152#32
  let main_v8 : IVec S_ 1 := cmpi .eq main_v7 main_c_4
  let main_v9 : IVec S_ 1 := andi main_v6 main_v8
  let main_cst : FVec F S_ .f32 := constant S_ .f32 0x7F7FFFFF#32
  let main_v10 : FVec F S8x2048 .f32 := broadcastInDim S8x2048 ![] bcast_S_S8x2048 main_cst
  let main_v11 : IVec S8x2048 1 := cmpf .ole main_arg3 main_v10
  let main_c_5 : IVec S_ 1 := constantI S_ 1 1#1
  let main_v12 : IVec S_ 1 := (fun x v => Host.reduce IntOp.andi x v reducesTo_S8x2048_S_d0_1 h_S_) main_v11 main_c_5
  let main_v13 : IVec S_ 1 := andi main_v9 main_v12
  let main_cst_6 : FVec F S_ .f32 := constant S_ .f32 0x7F7FFFFF#32
  let main_v14 : FVec F S8x2048 .f32 := broadcastInDim S8x2048 ![] bcast_S_S8x2048 main_cst_6
  fn_part1 (F := F) main_arg4 main_v13 main_v14
-- ==== Kernel.lean ====
abbrev S49152x2048 : Shape := ⟨2, ![49152, 2048]⟩
abbrev S8 : Shape := ⟨1, ![8]⟩
abbrev S8x2048 : Shape := ⟨2, ![8, 2048]⟩
abbrev S_ : Shape := ⟨0, ![]⟩
abbrev S103 : Shape := ⟨1, ![103]⟩
abbrev S1 : Shape := ⟨1, ![1]⟩
abbrev S103x1 : Shape := ⟨2, ![103, 1]⟩
abbrev S1x8 : Shape := ⟨2, ![1, 8]⟩
abbrev S103x8 : Shape := ⟨2, ![103, 8]⟩
abbrev S1x103 : Shape := ⟨2, ![1, 103]⟩
abbrev S7x103 : Shape := ⟨2, ![7, 103]⟩
abbrev S8x2048x2048 : Shape := ⟨3, ![8, 2048, 2048]⟩
abbrev S512x2048 : Shape := ⟨2, ![512, 2048]⟩
abbrev S1x1 : Shape := ⟨2, ![1, 1]⟩
abbrev S1x2048x2048 : Shape := ⟨3, ![1, 2048, 2048]⟩
abbrev S1x2048 : Shape := ⟨2, ![1, 2048]⟩
abbrev S2048x2048 : Shape := ⟨2, ![2048, 2048]⟩
abbrev S128x2048 : Shape := ⟨2, ![128, 2048]⟩
abbrev S2048x128 : Shape := ⟨2, ![2048, 128]⟩
abbrev S2048x1 : Shape := ⟨2, ![2048, 1]⟩

abbrev nBuf : Space → Nat
  | .hbm => 201
  | .vmem => 15
  | .smem => 1
  | _ => 0

abbrev hbmTy0_0 (i : Nat) : BufTy := match i % 128 with
  | 0 => ⟨S49152x2048, .bf16⟩
  | 1 => ⟨S49152x2048, .bf16⟩
  | 2 => ⟨S8, .i32⟩
  | 3 => ⟨S8x2048, .f32⟩
  | 4 => ⟨S8x2048, .f32⟩
  | 5 => ⟨S_, .i32⟩
  | 6 => ⟨S_, .i32⟩
  | 7 => ⟨S8, .i32⟩
  | 8 => ⟨S8, .i32⟩
  | 9 => ⟨S_, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S8, .i32⟩
  | 18 => ⟨S8, .i32⟩
  | 19 => ⟨S_, .i32⟩
  | 20 => ⟨S8, .i32⟩
  | 21 => ⟨S8, .i1⟩
  | 22 => ⟨S8, .i1⟩
  | 23 => ⟨S_, .i32⟩
  | 24 => ⟨S8, .i32⟩
  | 25 => ⟨S8, .i32⟩
  | 26 => ⟨S8, .i32⟩
  | 27 => ⟨S_, .i32⟩
  | 28 => ⟨S8, .i32⟩
  | 29 => ⟨S8, .i1⟩
  | 30 => ⟨S_, .i32⟩
  | 31 => ⟨S8, .i32⟩
  | 32 => ⟨S8, .i32⟩
  | 33 => ⟨S_, .i32⟩
  | 34 => ⟨S_, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8, .i32⟩
  | 42 => ⟨S8, .i32⟩
  | 43 => ⟨S_, .i32⟩
  | 44 => ⟨S8, .i32⟩
  | 45 => ⟨S8, .i1⟩
  | 46 => ⟨S8, .i1⟩
  | 47 => ⟨S_, .i32⟩
  | 48 => ⟨S8, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S_, .i32⟩
  | 56 => ⟨S_, .i32⟩
  | 57 => ⟨S8, .i32⟩
  | 58 => ⟨S8, .i32⟩
  | 59 => ⟨S_, .i32⟩
  | 60 => ⟨S_, .i32⟩
  | 61 => ⟨S8, .i32⟩
  | 62 => ⟨S103, .i32⟩
  | 63 => ⟨S1, .i32⟩
  | 64 => ⟨S_, .i32⟩
  | 65 => ⟨S_, .i32⟩
  | 66 => ⟨S_, .i32⟩
  | 67 => ⟨S103, .i32⟩
  | 68 => ⟨S103, .i32⟩
  | 69 => ⟨S103x1, .i32⟩
  | 70 => ⟨S1x8, .i32⟩
  | 71 => ⟨S103x8, .i32⟩
  | 72 => ⟨S103x8, .i32⟩
  | 73 => ⟨S103x8, .i1⟩
  | 74 => ⟨S103x8, .i32⟩
  | 75 => ⟨S_, .i32⟩
  | 76 => ⟨S103, .i32⟩
  | 77 => ⟨S103x1, .i32⟩
  | 78 => ⟨S8, .i32⟩
  | 79 => ⟨S1x8, .i32⟩
  | 80 => ⟨S103x8, .i32⟩
  | 81 => ⟨S103x8, .i32⟩
  | 82 => ⟨S103x8, .i1⟩
  | 83 => ⟨S103x8, .i32⟩
  | 84 => ⟨S8, .i32⟩
  | 85 => ⟨S1x8, .i32⟩
  | 86 => ⟨S103x8, .i32⟩
  | 87 => ⟨S103x8, .i32⟩
  | 88 => ⟨S_, .i32⟩
  | 89 => ⟨S103, .i32⟩
  | 90 => ⟨S103, .i32⟩
  | 91 => ⟨S1x8, .i32⟩
  | 92 => ⟨S103x8, .i32⟩
  | 93 => ⟨S103x8, .i32⟩
  | 94 => ⟨S_, .i32⟩
  | 95 => ⟨S103, .i32⟩
  | 96 => ⟨S1x8, .i32⟩
  | 97 => ⟨S103x8, .i32⟩
  | 98 => ⟨S103x8, .i32⟩
  | 99 => ⟨S_, .i32⟩
  | 100 => ⟨S103, .i32⟩
  | 101 => ⟨S103, .i32⟩
  | 102 => ⟨S_, .i32⟩
  | 103 => ⟨S103, .i32⟩
  | 104 => ⟨S103, .i32⟩
  | 105 => ⟨S_, .i32⟩
  | 106 => ⟨S103, .i32⟩
  | 107 => ⟨S103, .i1⟩
  | 108 => ⟨S1x8, .i32⟩
  | 109 => ⟨S103x8, .i32⟩
  | 110 => ⟨S103x8, .i32⟩
  | 111 => ⟨S_, .i32⟩
  | 112 => ⟨S103, .i32⟩
  | 113 => ⟨S1x8, .i32⟩
  | 114 => ⟨S103x8, .i32⟩
  | 115 => ⟨S103x8, .i32⟩
  | 116 => ⟨S_, .i32⟩
  | 117 => ⟨S103, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S103, .i32⟩
  | 125 => ⟨S103, .i32⟩
  | 126 => ⟨S_, .i32⟩
  | 127 => ⟨S103, .i32⟩
  | _ => ⟨S49152x2048, .bf16⟩

abbrev hbmTy0_1 (i : Nat) : BufTy := match i % 128 with
  | 0 => ⟨S103, .i1⟩
  | 1 => ⟨S_, .i32⟩
  | 2 => ⟨S103, .i32⟩
  | 3 => ⟨S103, .i1⟩
  | 4 => ⟨S_, .i32⟩
  | 5 => ⟨S_, .i1⟩
  | 6 => ⟨S103, .i1⟩
  | 7 => ⟨S103, .i1⟩
  | 8 => ⟨S103, .i1⟩
  | 9 => ⟨S103, .i32⟩
  | 10 => ⟨S103, .i32⟩
  | 11 => ⟨S103, .i32⟩
  | 12 => ⟨S_, .i32⟩
  | 13 => ⟨S103, .i32⟩
  | 14 => ⟨S103, .i1⟩
  | 15 => ⟨S_, .i32⟩
  | 16 => ⟨S_, .i32⟩
  | 17 => ⟨S103, .i32⟩
  | 18 => ⟨S103, .i32⟩
  | 19 => ⟨S103, .i32⟩
  | 20 => ⟨S103, .i32⟩
  | 21 => ⟨S103, .i32⟩
  | 22 => ⟨S_, .i32⟩
  | 23 => ⟨S103, .i32⟩
  | 24 => ⟨S103, .i32⟩
  | 25 => ⟨S103, .i32⟩
  | 26 => ⟨S1, .i32⟩
  | 27 => ⟨S_, .i32⟩
  | 28 => ⟨S103, .i32⟩
  | 29 => ⟨S103, .i1⟩
  | 30 => ⟨S_, .i32⟩
  | 31 => ⟨S103, .i32⟩
  | 32 => ⟨S103, .i1⟩
  | 33 => ⟨S103, .i1⟩
  | 34 => ⟨S1x8, .i32⟩
  | 35 => ⟨S103x8, .i32⟩
  | 36 => ⟨S103x8, .i32⟩
  | 37 => ⟨S_, .i32⟩
  | 38 => ⟨S103, .i32⟩
  | 39 => ⟨S_, .i32⟩
  | 40 => ⟨S103, .i32⟩
  | 41 => ⟨S103, .i32⟩
  | 42 => ⟨S103, .i1⟩
  | 43 => ⟨S103, .i1⟩
  | 44 => ⟨S_, .i32⟩
  | 45 => ⟨S103, .i32⟩
  | 46 => ⟨S103, .i1⟩
  | 47 => ⟨S103, .i1⟩
  | 48 => ⟨S1x8, .i32⟩
  | 49 => ⟨S103x8, .i32⟩
  | 50 => ⟨S103x8, .i32⟩
  | 51 => ⟨S_, .i32⟩
  | 52 => ⟨S103, .i32⟩
  | 53 => ⟨S1x8, .i32⟩
  | 54 => ⟨S103x8, .i32⟩
  | 55 => ⟨S103x8, .i32⟩
  | 56 => ⟨S_, .i32⟩
  | 57 => ⟨S103, .i32⟩
  | 58 => ⟨S103, .i32⟩
  | 59 => ⟨S103, .i32⟩
  | 60 => ⟨S103, .i32⟩
  | 61 => ⟨S1x103, .i32⟩
  | 62 => ⟨S1x103, .i32⟩
  | 63 => ⟨S1x103, .i32⟩
  | 64 => ⟨S1x103, .i32⟩
  | 65 => ⟨S1x103, .i32⟩
  | 66 => ⟨S1x103, .i32⟩
  | 67 => ⟨S1x103, .i32⟩
  | 68 => ⟨S8x2048x2048, .f32⟩
  | 69 => ⟨S49152x2048, .fp8e4m3⟩
  | 70 => ⟨S49152x2048, .fp8e5m2⟩
  | 71 => ⟨S8x2048, .f32⟩
  | 72 => ⟨S8x2048, .f32⟩
  | _ => ⟨S49152x2048, .bf16⟩

abbrev hbmTy (i : Nat) : BufTy := match i / 128 with
  | 0 => hbmTy0_0 i
  | 1 => hbmTy0_1 i
  | _ => ⟨S49152x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S8x2048, .f32⟩
  | .local _ .vmem, ⟨5, _⟩ => ⟨S8x2048, .f32⟩
  | .local _ .vmem, ⟨6, _⟩ => ⟨S1x2048x2048, .f32⟩
  | .local _ .vmem, ⟨7, _⟩ => ⟨S1x2048x2048, .f32⟩
  | .local _ .vmem, ⟨8, _⟩ => ⟨S512x2048, .fp8e4m3⟩
  | .local _ .vmem, ⟨9, _⟩ => ⟨S512x2048, .fp8e4m3⟩
  | .local _ .vmem, ⟨10, _⟩ => ⟨S512x2048, .fp8e5m2⟩
  | .local _ .vmem, ⟨11, _⟩ => ⟨S512x2048, .fp8e5m2⟩
  | .local _ .vmem, ⟨12, _⟩ => ⟨S8x2048, .f32⟩
  | .local _ .vmem, ⟨13, _⟩ => ⟨S8x2048, .f32⟩
  | .local _ .vmem, ⟨14, _⟩ => ⟨S512x2048, .fp8e4m3⟩
  | .local _ .smem, ⟨0, _⟩ => ⟨S7x103, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_5 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_6 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_7 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_8 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_c_9 : Ref sig .tc := ⟨.hbm, 99, rfl⟩
abbrev main_v46 : Ref sig .tc := ⟨.hbm, 100, rfl⟩
abbrev main_v47 : Ref sig .tc := ⟨.hbm, 101, rfl⟩
abbrev main_c_10 : Ref sig .tc := ⟨.hbm, 102, rfl⟩
abbrev main_v48 : Ref sig .tc := ⟨.hbm, 103, rfl⟩
abbrev main_v49 : Ref sig .tc := ⟨.hbm, 104, rfl⟩
abbrev main_c_11 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_c_12 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_13 : Ref sig .tc := ⟨.hbm, 116, rfl⟩
abbrev main_v59 : Ref sig .tc := ⟨.hbm, 117, rfl⟩
abbrev main_c_14 : Ref sig .tc := ⟨.hbm, 118, rfl⟩
abbrev main_call5_v0 : Ref sig .tc := ⟨.hbm, 119, rfl⟩
abbrev main_call5_c : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_c_1 : Ref sig .tc := ⟨.hbm, 126, rfl⟩
abbrev main_call5_v5 : Ref sig .tc := ⟨.hbm, 127, rfl⟩
abbrev main_call5_v6 : Ref sig .tc := ⟨.hbm, 128, rfl⟩
abbrev main_call5_c_2 : Ref sig .tc := ⟨.hbm, 129, rfl⟩
abbrev main_call5_v7 : Ref sig .tc := ⟨.hbm, 130, rfl⟩
abbrev main_call5_v8 : Ref sig .tc := ⟨.hbm, 131, rfl⟩
abbrev main_call5_c_3 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_v12 : Ref sig .tc := ⟨.hbm, 136, rfl⟩
abbrev main_call5_v13 : Ref sig .tc := ⟨.hbm, 137, rfl⟩
abbrev main_call5_v14 : Ref sig .tc := ⟨.hbm, 138, rfl⟩
abbrev main_v60 : Ref sig .tc := ⟨.hbm, 139, rfl⟩
abbrev main_c_15 : Ref sig .tc := ⟨.hbm, 140, rfl⟩
abbrev main_v61 : Ref sig .tc := ⟨.hbm, 141, rfl⟩
abbrev main_v62 : Ref sig .tc := ⟨.hbm, 142, rfl⟩
abbrev main_c_16 : Ref sig .tc := ⟨.hbm, 143, rfl⟩
abbrev main_c_17 : Ref sig .tc := ⟨.hbm, 144, rfl⟩
abbrev main_call6_v0 : Ref sig .tc := ⟨.hbm, 145, rfl⟩
abbrev main_call6_v1 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_c_18 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_c_19 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_c_20 : Ref sig .tc := ⟨.hbm, 165, rfl⟩
abbrev main_v79 : Ref sig .tc := ⟨.hbm, 166, rfl⟩
abbrev main_c_21 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_c_22 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_c_23 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_c_24 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v106_0 : Ref sig .tc := ⟨.hbm, 196, rfl⟩
abbrev main_v106_1 : Ref sig .tc := ⟨.hbm, 197, rfl⟩
abbrev main_v106_2 : Ref sig .tc := ⟨.hbm, 198, rfl⟩
abbrev main_v106_3 : Ref sig .tc := ⟨.hbm, 199, rfl⟩
abbrev main_v106_4 : Ref sig .tc := ⟨.hbm, 200, rfl⟩
abbrev main_v105 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![103], ![false]⟩

abbrev pre0 : Pipeline.Prefetch sig := ⟨1, ![main_v105.idx], fun | 0 => main_v105.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c1 : Index := 1#32
  let arg0 : BitVec 32 := BitVec.ofNat 32 (i 0).val
  let v0 : Index := Scalar.indexCast arg0
  ![1, v0.toNat]
def k0_off2 (i : grid0.Coords) : Fin 2 → Nat :=
  let c0 : Index := 0#32
  let arg0 : BitVec 32 := BitVec.ofNat 32 (i 0).val
  let v0 : Index := Scalar.indexCast arg0
  ![0, v0.toNat]
def k0_off3 (i : grid0.Coords) : Fin 2 → Nat :=
  let c2 : Index := 2#32
  let arg0 : BitVec 32 := BitVec.ofNat 32 (i 0).val
  let v4 : Index := Scalar.indexCast arg0
  ![2, v4.toNat]
def k0_off4 (i : grid0.Coords) : Fin 2 → Nat :=
  let c3 : Index := 3#32
  let arg0 : BitVec 32 := BitVec.ofNat 32 (i 0).val
  let v6 : Index := Scalar.indexCast arg0
  ![3, v6.toNat]
def k0_off5 (i : grid0.Coords) : Fin 2 → Nat :=
  let c4 : Index := 4#32
  let arg0 : BitVec 32 := BitVec.ofNat 32 (i 0).val
  let v8 : Index := Scalar.indexCast arg0
  ![4, v8.toNat]
def k0_off6 (i : grid0.Coords) : Fin 2 → Nat :=
  let c5 : Index := 5#32
  let arg0 : BitVec 32 := BitVec.ofNat 32 (i 0).val
  let v10 : Index := Scalar.indexCast arg0
  ![5, v10.toNat]
def k0_off7 (i : grid0.Coords) : Fin 2 → Nat :=
  let c6 : Index := 6#32
  let arg0 : BitVec 32 := BitVec.ofNat 32 (i 0).val
  let v12 : Index := Scalar.indexCast arg0
  ![6, v12.toNat]
def k0_off8 (v1 : BitVec 32) : Fin 2 → Nat :=
  let v19 : Index := Scalar.indexCast v1
  let c0_1 : Index := 0#32
  ![v19.toNat, 0]

def k0_chk1 (v1 : BitVec 32) : Prop :=
  (∀ a, (k0_off8 v1) a + S1x2048.size a ≤ S8x2048.size a)
theorem k0_off8_inb : ∀ (v1 : BitVec 32) (k0_hw1 : k0_chk1 v1), ∀ a, (k0_off8 v1) a + S1x2048.size a ≤ S8x2048.size a := fun v1 k0_hw1 => k0_hw1

def k0_cond3 (v9 : BitVec 32) : BitVec 1 :=
  let c1_i32_63 : BitVec 32 := 1#32
  let v224 : BitVec 1 := Scalar.cmpi .eq v9 c1_i32_63
  let v225 : BitVec 32 := Scalar.extui v224
  let c0_i32_64 : BitVec 32 := 0#32
  let v226 : BitVec 1 := Scalar.cmpi .ne v225 c0_i32_64
  v226

def k0_cond4 (v13 : BitVec 32) : BitVec 1 :=
  let c1_i32_65 : BitVec 32 := 1#32
  let v227 : BitVec 1 := Scalar.cmpi .eq v13 c1_i32_65
  let v228 : BitVec 32 := Scalar.extui v227
  let c0_i32_66 : BitVec 32 := 0#32
  let v229 : BitVec 1 := Scalar.cmpi .ne v228 c0_i32_66
  v229

def k0_cond5 (v11 : BitVec 32) : BitVec 1 :=
  let c1_i32_67 : BitVec 32 := 1#32
  let v230 : BitVec 1 := Scalar.cmpi .eq v11 c1_i32_67
  let v231 : BitVec 32 := Scalar.extui v230
  let c0_i32_68 : BitVec 32 := 0#32
  let v232 : BitVec 1 := Scalar.cmpi .ne v231 c0_i32_68
  v232

def k0_cond1 (v3 : BitVec 32) (v5 : BitVec 32) (v7 : BitVec 32) (v13 : BitVec 32) : BitVec 1 :=
  let c1_i32_59 : BitVec 32 := 1#32
  let v215 : BitVec 1 := Scalar.cmpi .eq v13 c1_i32_59
  let c512_i32 : BitVec 32 := 512#32
  let v14 : BitVec 32 := Scalar.muli v3 c512_i32
  let v15 : BitVec 1 := Scalar.cmpi .sle v5 v14
  let c512_i32_0 : BitVec 32 := 512#32
  let v16 : BitVec 32 := Scalar.addi v14 c512_i32_0
  let v17 : BitVec 1 := Scalar.cmpi .sge v7 v16
  let v18 : BitVec 1 := Scalar.andi v15 v17
  let v216 : BitVec 1 := Scalar.andi v215 v18
  let v217 : BitVec 32 := Scalar.extui v216
  let c0_i32_60 : BitVec 32 := 0#32
  let v218 : BitVec 1 := Scalar.cmpi .ne v217 c0_i32_60
  v218

def k0_cond2 (v3 : BitVec 32) (v5 : BitVec 32) (v7 : BitVec 32) (v13 : BitVec 32) : BitVec 1 :=
  let c1_i32_61 : BitVec 32 := 1#32
  let v219 : BitVec 1 := Scalar.cmpi .eq v13 c1_i32_61
  let c512_i32 : BitVec 32 := 512#32
  let v14 : BitVec 32 := Scalar.muli v3 c512_i32
  let v15 : BitVec 1 := Scalar.cmpi .sle v5 v14
  let c512_i32_0 : BitVec 32 := 512#32
  let v16 : BitVec 32 := Scalar.addi v14 c512_i32_0
  let v17 : BitVec 1 := Scalar.cmpi .sge v7 v16
  let v18 : BitVec 1 := Scalar.andi v15 v17
  let v_true : BitVec 1 := 1#1
  let v220 : BitVec 1 := Scalar.xori v18 v_true
  let v221 : BitVec 1 := Scalar.andi v219 v220
  let v222 : BitVec 32 := Scalar.extui v221
  let c0_i32_62 : BitVec 32 := 0#32
  let v223 : BitVec 1 := Scalar.cmpi .ne v222 c0_i32_62
  v223

def cc0_transform_0 (k0_off1_inb : ∀ i : grid0.Coords, ∀ a, (k0_off1 i) a + S1x1.size a ≤ S7x103.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S7x103) ![1, v0.toNat] S1x1.size (k0_off1_inb i)) numel1_S1x1
  let c0_i32 : BitVec 32 := 0#32
  let c0_i32_0 : BitVec 32 := 0#32
  ![v1.toNat, c0_i32.toNat]

def cc0_transform_1 (k0_off1_inb : ∀ i : grid0.Coords, ∀ a, (k0_off1 i) a + S1x1.size a ≤ S7x103.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S7x103) ![1, v0.toNat] S1x1.size (k0_off1_inb i)) numel1_S1x1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off2_inb : ∀ i : grid0.Coords, ∀ a, (k0_off2 i) a + S1x1.size a ≤ S7x103.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S7x103) ![0, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1x1.size a ≤ S7x103.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S7x103) ![1, v0.toNat] S1x1.size (k0_off1_inb i)) numel1_S1x1
  let c0_i32 : BitVec 32 := 0#32
  let c0_i32_0 : BitVec 32 := 0#32
  ![v1.toNat, c0_i32.toNat]

def cc0_transform_6 (k0_off1_inb : ∀ i : grid0.Coords, ∀ a, (k0_off1 i) a + S1x1.size a ≤ S7x103.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S7x103) ![1, v0.toNat] S1x1.size (k0_off1_inb i)) numel1_S1x1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S49152x2048 : Shape := ⟨2, ![49152, 2048]⟩
abbrev S8 : Shape := ⟨1, ![8]⟩
abbrev S8x2048 : Shape := ⟨2, ![8, 2048]⟩
abbrev S_ : Shape := ⟨0, ![]⟩
abbrev S49152 : Shape := ⟨1, ![49152]⟩
abbrev S49152x1 : Shape := ⟨2, ![49152, 1]⟩
abbrev S1x8 : Shape := ⟨2, ![1, 8]⟩
abbrev S49152x8 : Shape := ⟨2, ![49152, 8]⟩
abbrev S8x2048x2048 : Shape := ⟨3, ![8, 2048, 2048]⟩
abbrev S1x2048 : Shape := ⟨2, ![1, 2048]⟩
abbrev S2048x2048 : Shape := ⟨2, ![2048, 2048]⟩
abbrev S2048 : Shape := ⟨1, ![2048]⟩
abbrev S2048x1 : Shape := ⟨2, ![2048, 1]⟩
abbrev S1x2048x2048 : Shape := ⟨3, ![1, 2048, 2048]⟩

abbrev nBuf : Space → Nat
  | .hbm => 31
  | .vmem => 10
  | .smem => 0
  | _ => 0

abbrev bufTy : (tb : Table) → Fin (tcTables nBuf tb) → BufTy
  | .hbm, ⟨0, _⟩ => ⟨S49152x2048, .bf16⟩
  | .hbm, ⟨1, _⟩ => ⟨S49152x2048, .bf16⟩
  | .hbm, ⟨2, _⟩ => ⟨S8, .i32⟩
  | .hbm, ⟨3, _⟩ => ⟨S8x2048, .f32⟩
  | .hbm, ⟨4, _⟩ => ⟨S8x2048, .f32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S49152, .i32⟩
  | .hbm, ⟨9, _⟩ => ⟨S49152x1, .i32⟩
  | .hbm, ⟨10, _⟩ => ⟨S1x8, .i32⟩
  | .hbm, ⟨11, _⟩ => ⟨S49152x8, .i32⟩
  | .hbm, ⟨12, _⟩ => ⟨S49152x8, .i32⟩
  | .hbm, ⟨13, _⟩ => ⟨S49152x8, .i1⟩
  | .hbm, ⟨14, _⟩ => ⟨S49152x8, .i32⟩
  | .hbm, ⟨15, _⟩ => ⟨S_, .i32⟩
  | .hbm, ⟨16, _⟩ => ⟨S49152, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S49152, .i32⟩
  | .hbm, ⟨21, _⟩ => ⟨S49152, .i32⟩
  | .hbm, ⟨22, _⟩ => ⟨S_, .i32⟩
  | .hbm, ⟨23, _⟩ => ⟨S49152, .i32⟩
  | .hbm, ⟨24, _⟩ => ⟨S49152, .i32⟩
  | .hbm, ⟨25, _⟩ => ⟨S49152x1, .i32⟩
  | .hbm, ⟨26, _⟩ => ⟨S8x2048x2048, .f32⟩
  | .hbm, ⟨27, _⟩ => ⟨S49152x2048, .fp8e4m3⟩
  | .hbm, ⟨28, _⟩ => ⟨S8x2048, .f32⟩
  | .hbm, ⟨29, _⟩ => ⟨S49152x2048, .fp8e5m2⟩
  | .hbm, ⟨30, _⟩ => ⟨S8x2048, .f32⟩
  | .local _ .vmem, ⟨0, _⟩ => ⟨S49152x1, .i32⟩
  | .local _ .vmem, ⟨1, _⟩ => ⟨S49152x2048, .bf16⟩
  | .local _ .vmem, ⟨2, _⟩ => ⟨S49152x2048, .bf16⟩
  | .local _ .vmem, ⟨3, _⟩ => ⟨S8x2048, .f32⟩
  | .local _ .vmem, ⟨4, _⟩ => ⟨S8x2048, .f32⟩
  | .local _ .vmem, ⟨5, _⟩ => ⟨S8x2048x2048, .f32⟩
  | .local _ .vmem, ⟨6, _⟩ => ⟨S49152x2048, .fp8e4m3⟩
  | .local _ .vmem, ⟨7, _⟩ => ⟨S8x2048, .f32⟩
  | .local _ .vmem, ⟨8, _⟩ => ⟨S49152x2048, .fp8e5m2⟩
  | .local _ .vmem, ⟨9, _⟩ => ⟨S8x2048, .f32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c254_i32 : BitVec 32 := 254#32
  let v4 : BitVec 32 := Scalar.addi c0_i32 c254_i32
  let c1_i32 : BitVec 32 := 1#32
  ⟨c0_i32, v4, c1_i32⟩
@[reducible] def k0_t2_loop : Scf.Loop 32 :=
  let c0_i32_38 : BitVec 32 := 0#32
  let c254_i32_39 : BitVec 32 := 254#32
  let v111 : BitVec 32 := Scalar.addi c0_i32_38 c254_i32_39
  let c1_i32_40 : BitVec 32 := 1#32
  ⟨c0_i32_38, v111, c1_i32_40⟩
abbrev stage0_0 : Fin 1 → Memref sig .tc .vmem S49152x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S49152x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S49152x2048 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Plan.lean ====
module

public import Mathlib.Data.Nat.Count
public import Idealize.ShloMosaic.Lib.Routing.Words
public import Mathlib.Algebra.BigOperators.Group.List.Basic

/-!
The arithmetic of the schedule: eight groups of rows, `g k` rows in group `k`, 49152 rows in all, in blocks of 512. A
group with rows visits each block that it touches, an empty group visits one block, and the visits past the last
group's repeat the last visit's place.
-/

@[expose] public section

namespace Cert.Plan

/-- The sum of the first `k` numbers. -/
def S (g : Nat → Nat) (k : Nat) : Nat := ((List.range k).map g).sum
theorem S_zero (g : Nat → Nat) : S g 0 = 0 := rfl
theorem S_succ (g : Nat → Nat) (k : Nat) : S g (k + 1) = S g k + g k := by
  unfold S; rw [List.range_succ, List.map_append, List.sum_append]; simp

variable (g : Nat → Nat)

theorem S_mono {a b : Nat} (h : a ≤ b) : S g a ≤ S g b := by
  induction b with
  | zero => have : a = 0 := by omega
            subst this; exact le_refl _
  | succ b ih => rcases Nat.lt_or_ge b a with h' | h'
                 · have : a = b + 1 := by omega
                   subst this; exact le_refl _
                 · have := ih h'; rw [S_succ]; omega

/-- The number of visits of group `k`, and of the groups before `k`. -/
def nb (k : Nat) : Nat := if 0 < g k then (S g (k + 1) - 1) / 512 - S g k / 512 + 1 else 1
def P (k : Nat) : Nat := S (nb g) k
/-- The place of a visit among the planned ones, the group there, the visit's number within the group, and the block. -/
def vc (v : Nat) : Nat := min v (P g 8 - 1)
def e (v : Nat) : Nat := Nat.count (fun j => P g (j + 1) ≤ vc g v) 8
def kk (v : Nat) : Nat := vc g v - P g (e g v)
def blk (v : Nat) : Nat :=
  if 0 < g (e g v) then min (S g (e g v) / 512 + kk g v) 95 else S g (e g v) / 512 - (if S g (e g v) % 512 = 0 then 1 else 0)
/-- The group's first row, and the row past its last. -/
def lo (v : Nat) : Nat := S g (e g v)
def hi (v : Nat) : Nat := S g (e g v + 1)
abbrev live (v : Nat) : Prop := v < P g 8
abbrev first (v : Nat) : Prop := live g v ∧ kk g v = 0
abbrev last (v : Nat) : Prop := live g v ∧ kk g v = nb g (e g v) - 1
abbrev act (v : Nat) : Prop := live g v ∧ 0 < g (e g v)

theorem nb_pos (k : Nat) : 0 < nb g k := by unfold nb; split <;> omega
theorem P_succ (k : Nat) : P g (k + 1) = P g k + nb g k := S_succ _ _
theorem P_zero : P g 0 = 0 := rfl
theorem P_mono {a b : Nat} (h : a ≤ b) : P g a ≤ P g b := S_mono _ h

/-- The counted group is the one whose visits hold the place. -/
theorem count_spec (x : Nat) : ∀ n, x < P g n →
    Nat.count (fun j => P g (j + 1) ≤ x) n < n ∧ P g (Nat.count (fun j => P g (j + 1) ≤ x) n) ≤ x
      ∧ x < P g (Nat.count (fun j => P g (j + 1) ≤ x) n + 1) := by
  intro n
  induction n with
  | zero => intro h; rw [P_zero] at h; omega
  | succ n ih =>
    intro h
    rcases Nat.lt_or_ge x (P g n) with h1 | h1
    · have := ih h1
      rw [Nat.count_succ, if_neg (by omega)]
      exact ⟨by omega, this.2⟩
    · have hn : Nat.count (fun j => P g (j + 1) ≤ x) n = n :=
        Nat.count_of_forall fun {j} hj => le_trans (P_mono g (show j + 1 ≤ n by omega)) h1
      rw [Nat.count_succ, if_neg (by omega), hn]
      exact ⟨by omega, h1, h⟩

theorem uniq {a b x : Nat} (h1 : P g a ≤ x) (h2 : x < P g (a + 1)) (h3 : P g b ≤ x) (h4 : x < P g (b + 1)) : a = b := by
  rcases Nat.lt_trichotomy a b with h | h | h
  · have := P_mono g (show a + 1 ≤ b by omega); omega
  · exact h
  · have := P_mono g (show b + 1 ≤ a by omega); omega

theorem P8_pos : 0 < P g 8 := by
  have h := P_mono g (show 1 ≤ 8 by decide)
  have h1 := P_succ g 0
  have := nb_pos g 0
  rw [P_zero] at h1
  have h2 : P g 1 = nb g 0 := by simpa using h1
  omega

theorem spec (v : Nat) : e g v < 8 ∧ P g (e g v) ≤ vc g v ∧ vc g v < P g (e g v) + nb g (e g v) := by
  have hp := P8_pos g
  have h := count_spec g (vc g v) 8 (by unfold vc; omega)
  rw [P_succ] at h
  exact h

theorem e_lt (v : Nat) : e g v < 8 := (spec g v).1
theorem kk_add (v : Nat) : P g (e g v) + kk g v = vc g v := by have := spec g v; unfold kk; omega
theorem kk_lt (v : Nat) : kk g v < nb g (e g v) := by have := spec g v; unfold kk; omega

theorem e_eq {v k : Nat} (h1 : P g k ≤ vc g v) (h2 : vc g v < P g (k + 1)) : e g v = k := by
  have h := spec g v
  exact uniq g h.2.1 (by rw [P_succ]; exact h.2.2) h1 h2

/-- Past the planned visits everything stands still. -/
theorem dead_step {v : Nat} (h : ¬ live g (v + 1)) :
    e g (v + 1) = e g v ∧ kk g (v + 1) = kk g v ∧ blk g (v + 1) = blk g v ∧ lo g (v + 1) = lo g v ∧ hi g (v + 1) = hi g v := by
  have hv : vc g (v + 1) = vc g v := by unfold vc; unfold live at h; omega
  have he : e g (v + 1) = e g v := by unfold e; rw [hv]
  have hk : kk g (v + 1) = kk g v := by unfold kk; rw [hv, he]
  refine ⟨he, hk, ?_, ?_, ?_⟩
  · unfold blk; rw [he, hk]
  · unfold lo; rw [he]
  · unfold hi; rw [he]

/-- One planned visit to the next: the same group's next visit, or the next group's first after this one's last. -/
theorem live_step {v : Nat} (h : live g (v + 1)) :
    (e g (v + 1) = e g v ∧ kk g (v + 1) = kk g v + 1)
      ∨ (e g (v + 1) = e g v + 1 ∧ kk g (v + 1) = 0 ∧ kk g v = nb g (e g v) - 1) := by
  have hv : vc g (v + 1) = vc g v + 1 := by unfold vc; unfold live at h; omega
  have hs := spec g v
  rcases Nat.lt_or_ge (vc g v + 1) (P g (e g v) + nb g (e g v)) with h1 | h1
  · left
    have he : e g (v + 1) = e g v := e_eq g (by omega) (by rw [P_succ]; omega)
    refine ⟨he, ?_⟩
    unfold kk; rw [hv, he]; omega
  · right
    have hP := P_succ g (e g v)
    have he : e g (v + 1) = e g v + 1 := e_eq g (by omega) (by
      rw [P_succ]; have := nb_pos g (e g v + 1); omega)
    refine ⟨he, ?_, ?_⟩
    · unfold kk; rw [hv, he]; omega
    · unfold kk; omega

theorem e_zero : e g 0 = 0 := e_eq g (by rw [P_zero]; omega) (by
  rw [P_succ, P_zero]; have := nb_pos g 0; unfold vc; omega)
theorem kk_zero : kk g 0 = 0 := by unfold kk vc; omega

/-- The group grows by at most one. -/
theorem e_step (v : Nat) : e g (v + 1) = e g v ∨ e g (v + 1) = e g v + 1 := by
  by_cases h : live g (v + 1)
  · rcases live_step g h with h | h
    · exact .inl h.1
    · exact .inr h.1
  · exact .inl (dead_step g h).1

/-- A group's last visit is the one before the group changes. -/
theorem last_of_step {v : Nat} (h : e g (v + 1) ≠ e g v) : kk g v = nb g (e g v) - 1 := by
  by_cases hl : live g (v + 1)
  · rcases live_step g hl with h' | h'
    · exact absurd h'.1 h
    · exact h'.2.2
  · exact absurd (dead_step g hl).1 h

variable {g} (hS : S g 8 = 49152)
include hS

theorem S_le {k : Nat} (h : k ≤ 8) : S g k ≤ 49152 := hS ▸ S_mono g h

theorem P_bound : ∀ k, k ≤ 8 → k ≤ P g k ∧ P g k - k ≤ (S g k - 1) / 512 := by
  intro k
  induction k with
  | zero => intro _; rw [P_zero]; omega
  | succ k ih =>
    intro hk
    have h := ih (by omega)
    have h1 := P_succ g k
    have h2 := S_succ g k
    have h3 := nb_pos g k
    have h4 : nb g k = if 0 < g k then (S g (k + 1) - 1) / 512 - S g k / 512 + 1 else 1 := rfl
    split at h4 <;> omega

theorem P8_le : P g 8 ≤ 103 := by have := P_bound hS 8 (le_refl _); omega
theorem nb_le {k : Nat} (h : k < 8) : nb g k ≤ 96 := by
  have h1 := S_le hS (show k + 1 ≤ 8 by omega)
  unfold nb; split <;> omega

/-- The block, said plainly. -/
theorem blk_eq (v : Nat) : blk g v = if 0 < g (e g v) then S g (e g v) / 512 + kk g v else (S g (e g v) - 1) / 512 := by
  have h := e_lt g v
  have h1 := S_le hS (show e g v + 1 ≤ 8 by omega)
  have h2 := S_succ g (e g v)
  have h3 := kk_lt g v
  have h4 : nb g (e g v) = if 0 < g (e g v) then (S g (e g v + 1) - 1) / 512 - S g (e g v) / 512 + 1 else 1 := rfl
  unfold blk
  split
  · rw [if_pos (by assumption)] at h4; omega
  · split <;> omega

/-- Where the block, the rows and the visit's number stand to each other. -/
theorem place (v : Nat) : (0 < g (e g v) → blk g v = lo g v / 512 + kk g v ∧ blk g v ≤ (hi g v - 1) / 512 ∧ lo g v < hi g v)
    ∧ (g (e g v) = 0 → blk g v = (lo g v - 1) / 512 ∧ hi g v = lo g v ∧ kk g v = 0 ∧ nb g (e g v) = 1)
    ∧ (kk g v = nb g (e g v) - 1 → blk g v = (hi g v - 1) / 512) ∧ lo g v ≤ hi g v ∧ hi g v ≤ 49152 := by
  have h := e_lt g v
  have h1 := S_le hS (show e g v + 1 ≤ 8 by omega)
  have h2 := S_succ g (e g v)
  have h3 := kk_lt g v
  have h4 : nb g (e g v) = if 0 < g (e g v) then (S g (e g v + 1) - 1) / 512 - S g (e g v) / 512 + 1 else 1 := rfl
  have h5 := blk_eq hS v
  have hlo : lo g v = S g (e g v) := rfl
  have hhi : hi g v = S g (e g v + 1) := rfl
  rw [hlo, hhi]
  split at h4 <;> split at h5 <;> refine ⟨?_, ?_, ?_, ?_, ?_⟩ <;> omega

theorem blk_le (v : Nat) : blk g v ≤ 95 := by
  have h := place hS v
  rcases Nat.eq_zero_or_pos (g (e g v)) with h0 | h0
  · have := h.2.1 h0; omega
  · have := h.1 h0; omega

theorem e_end : e g 102 = 7 ∧ kk g 102 = nb g 7 - 1 := by
  have h := P8_le hS
  have hp := P8_pos g
  have hv : vc g 102 = P g 8 - 1 := by unfold vc; omega
  have h7 := P_succ g 7
  have hn := nb_pos g 7
  have h7' : P g 8 = P g 7 + nb g 7 := h7
  have he : e g 102 = 7 := e_eq g (by rw [hv]; omega) (by rw [hv]; show _ < P g 8; omega)
  refine ⟨he, ?_⟩
  unfold kk; rw [he, hv]
  change P g 8 = _ at h7
  omega

theorem dead_last {v : Nat} (h : ¬ live g v) : e g v = 7 ∧ kk g v = nb g (e g v) - 1 := by
  have hp := P8_pos g
  have hv : vc g v = P g 8 - 1 := by unfold vc; unfold live at h; omega
  have h7 : P g 8 = P g 7 + nb g 7 := P_succ g 7
  have hn := nb_pos g 7
  have he : e g v = 7 := e_eq g (by rw [hv]; omega) (by rw [hv]; show _ < P g 8; omega)
  refine ⟨he, ?_⟩
  unfold kk; rw [he, hv]
  omega

/-- The block stays or grows by one. -/
theorem blk_step (v : Nat) : blk g (v + 1) = blk g v ∨ blk g (v + 1) = blk g v + 1 := by
  by_cases h : live g (v + 1)
  · have p := place hS v
    have q := place hS (v + 1)
    rcases live_step g h with ⟨h1, h2⟩ | ⟨h1, h2, h3⟩
    · right
      have hlo : lo g (v + 1) = lo g v := by unfold lo; rw [h1]
      rw [h1, hlo, h2] at q
      rcases Nat.eq_zero_or_pos (g (e g v)) with h0 | h0
      · have := q.2.1 h0; omega
      · have := q.1 h0; have := p.1 h0; omega
    · have hlo : lo g (v + 1) = hi g v := by unfold lo hi; rw [h1]
      have h5 := p.2.2.1 h3
      rw [hlo, h2] at q
      rcases Nat.eq_zero_or_pos (g (e g (v + 1))) with h0 | h0
      · have := q.2.1 h0; omega
      · have := q.1 h0; omega
  · exact .inl (dead_step g h).2.2.1

theorem blk_zero : blk g 0 = 0 := by
  have p := place hS 0
  have hlo : lo g 0 = 0 := by unfold lo; rw [e_zero, S_zero]
  rw [kk_zero, hlo] at p
  rcases Nat.eq_zero_or_pos (g (e g 0)) with h0 | h0
  · have := p.2.1 h0; omega
  · have := p.1 h0; omega

theorem hi_end : hi g 102 = 49152 := by unfold hi; rw [(e_end hS).1]; exact hS
theorem blk_end : blk g 102 = 95 := by
  have p := (place hS 102).2.2.1 (by rw [(e_end hS).1]; exact (e_end hS).2)
  rw [hi_end hS] at p; omega

/-- A group that begins inside its block came after one that ended there. -/
theorem inside {v : Nat} (h : 512 * blk g v < lo g v) : ∃ u, v = u + 1 ∧ blk g v = blk g u ∧ lo g v ≤ hi g u := by
  cases v with
  | zero =>
    have hlo : lo g 0 = 0 := by unfold lo; rw [e_zero, S_zero]
    omega
  | succ u =>
    refine ⟨u, rfl, ?_⟩
    by_cases hl : live g (u + 1)
    · have p := place hS u
      have q := place hS (u + 1)
      rcases live_step g hl with ⟨h1, h2⟩ | ⟨h1, h2, h3⟩
      · have hlo : lo g (u + 1) = lo g u := by unfold lo; rw [h1]
        rw [h1, hlo, h2] at q
        rw [hlo] at h
        rcases Nat.eq_zero_or_pos (g (e g u)) with h0 | h0
        · have := q.2.1 h0; omega
        · have := q.1 h0; omega
      · have hlo : lo g (u + 1) = hi g u := by unfold lo hi; rw [h1]
        have h5 := p.2.2.1 h3
        rw [hlo, h2] at q
        rw [hlo] at h ⊢
        rcases Nat.eq_zero_or_pos (g (e g (u + 1))) with h0 | h0
        · have := q.2.1 h0; omega
        · have := q.1 h0; omega
    · have d := dead_step g hl
      have p := place hS u
      exact ⟨d.2.2.1, by rw [d.2.2.2.1]; omega⟩

/-- A visit that does nothing has no rows, or stands where the visit before stood. -/
theorem idle {v : Nat} (h : ¬ act g v) : hi g v = lo g v ∨ ∃ u, v = u + 1 ∧ blk g v = blk g u ∧ hi g v = hi g u := by
  by_cases hl : live g v
  · left
    have h0 : g (e g v) = 0 := by unfold act at h; omega
    exact ((place hS v).2.1 h0).2.1
  · right
    cases v with
    | zero => have := P8_pos g; unfold live at hl; omega
    | succ u => have d := dead_step g hl; exact ⟨u, rfl, d.2.2.1, d.2.2.2.2⟩

/-- When the block changes, its rows are all behind. -/
theorem done_block {v : Nat} (h : blk g (v + 1) ≠ blk g v) : 512 * (blk g v + 1) ≤ hi g v := by
  by_cases hl : live g (v + 1)
  · have p := place hS v
    have q := place hS (v + 1)
    rcases live_step g hl with ⟨h1, h2⟩ | ⟨h1, h2, h3⟩
    · have hlo : lo g (v + 1) = lo g v := by unfold lo; rw [h1]
      have hhi : hi g (v + 1) = hi g v := by unfold hi; rw [h1]
      rw [h1, hlo, hhi, h2] at q
      rcases Nat.eq_zero_or_pos (g (e g v)) with h0 | h0
      · have := q.2.1 h0; omega
      · have := q.1 h0; have := p.1 h0; omega
    · have hlo : lo g (v + 1) = hi g v := by unfold lo hi; rw [h1]
      have h5 := p.2.2.1 h3
      rw [hlo, h2] at q
      rcases Nat.eq_zero_or_pos (g (e g (v + 1))) with h0 | h0
      · have := q.2.1 h0; omega
      · have := q.1 h0; omega
  · exact absurd (dead_step g hl).2.2.1 h

/-- A group's first visit is to the block of its first row; -/
theorem first_rows {v : Nat} (h : kk g v = 0) (h0 : 0 < g (e g v)) : 512 * blk g v ≤ lo g v := by
  have := (place hS v).1 h0; omega

/-- a later one is to the next block; -/
theorem later {v : Nat} (h : kk g v ≠ 0) (hl : live g v) :
    ∃ u, v = u + 1 ∧ live g u ∧ e g v = e g u ∧ kk g u ≠ nb g (e g u) - 1 ∧ blk g v = blk g u + 1 := by
  cases v with
  | zero => exact absurd (kk_zero g) h
  | succ u =>
    have p := place hS u
    have q := place hS (u + 1)
    rcases live_step g hl with ⟨h1, h2⟩ | ⟨h1, h2, h3⟩
    · have hlo : lo g (u + 1) = lo g u := by unfold lo; rw [h1]
      have hlt := kk_lt g (u + 1)
      rw [h1, h2] at hlt
      rw [h1, hlo, h2] at q
      refine ⟨u, rfl, by unfold live at hl ⊢; omega, h1, by omega, ?_⟩
      rcases Nat.eq_zero_or_pos (g (e g u)) with h0 | h0
      · have := q.2.1 h0; omega
      · have := q.1 h0; have := p.1 h0; omega
    · exact absurd h2 h

/-- and its last one ends it. -/
theorem last_rows {v : Nat} (h : kk g v = nb g (e g v) - 1) : hi g v ≤ 512 * (blk g v + 1) := by
  have := (place hS v).2.2.1 h; omega

/-- Every block is left at some visit, and so is every group. -/
theorem hits {f : Nat → Nat} (h0 : f 0 = 0) (hs : ∀ v, f (v + 1) = f v ∨ f (v + 1) = f v + 1) (n : Nat) :
    ∀ b, b ≤ f n → ∃ v, v ≤ n ∧ f v = b ∧ (v = n ∨ f (v + 1) ≠ b) := by
  induction n with
  | zero => intro b hb; exact ⟨0, le_refl _, by omega, .inl rfl⟩
  | succ n ih =>
    intro b hb
    by_cases h : b = f (n + 1)
    · exact ⟨n + 1, le_refl _, h.symm, .inl rfl⟩
    · have hn := hs n
      obtain ⟨v, hv, hf, hor⟩ := ih b (by omega)
      refine ⟨v, by omega, hf, .inr ?_⟩
      rcases hor with rfl | h'
      · omega
      · exact h'

end Cert.Plan

end
-- ==== Proof.Sched.lean ====
module

public import proofs.«01_k».proof.Proof.Gen.KernelIdeal
public import Idealize.ShloMosaic.Lib.Routing.Words
public import Idealize.ShloMosaic.Lib.Routing.Ops

/-!
The schedule that the host computes from the group sizes, as functions of the vector of sizes: the seven rows of the
table that the kernel reads, each the composition of the host's operations on vectors of words.
-/

@[expose] public section

noncomputable section

namespace Cert.Sched

open Idealize.ShloMosaic Idealize.ShloMosaic.Routing Idealize.ShloMosaic.ValueIdx

abbrev V8 : Type := IVec (shape1 8) 32
abbrev V103 : Type := IVec (shape1 103) 32
abbrev M103 : Type := IVec (shape2 103 8) 32

theorem b8 : shape0.BroadcastsInDim (shape1 8) (![] : Fin 0 → Fin (shape1 8).rank) := by decide
theorem b103 : shape0.BroadcastsInDim (shape1 103) (![] : Fin 0 → Fin (shape1 103).rank) := by decide
theorem b0 : shape0.BroadcastsInDim shape0 (![] : Fin 0 → Fin shape0.rank) := by decide
theorem bRow1 : (shape1 103).BroadcastsInDim (shape2 103 1) (![0] : Fin 1 → Fin (shape2 103 1).rank) := by decide
theorem bRow2 : (shape2 103 1).BroadcastsInDim (shape2 103 8) (![0, 1] : Fin 2 → Fin (shape2 103 8).rank) := by decide
theorem bCol1 : (shape1 8).BroadcastsInDim (shape2 1 8) (![1] : Fin 1 → Fin (shape2 1 8).rank) := by decide
theorem bCol2 : (shape2 1 8).BroadcastsInDim (shape2 103 8) (![0, 1] : Fin 2 → Fin (shape2 103 8).rank) := by decide
theorem bT : (shape1 103).BroadcastsInDim (shape2 1 103) (![1] : Fin 1 → Fin (shape2 1 103).rank) := by decide
theorem rw8 : (shape1 8).ReduceWindows (![8] : Fin 1 → Nat) ![1] ![7] ![0] (shape1 8) := by decide
theorem hu0 : 0 < shape0.numel := by decide
theorem sl7 : (shape1 8).Slices ![7] (shape1 1) := by decide
theorem sc1 : (shape1 1).ShapeCasts shape0 := by decide
theorem red : (shape2 103 8).ReducesTo [1] (shape1 103) := Cert.KernelIdeal.Gen.reducesTo_S103x8_S103_d1
theorem lt132 : 1 < 32 := by decide

theorem cc7 : Shape.Concatenates [shape2 1 103, shape2 1 103, shape2 1 103, shape2 1 103, shape2 1 103, shape2 1 103, shape2 1 103] (shape2 7 103) 0 := by decide

def k8 (w : BitVec 32) : V8 := broadcastInDim (shape1 8) ![] b8 (constantI shape0 32 w)
def k103 (w : BitVec 32) : V103 := broadcastInDim (shape1 103) ![] b103 (constantI shape0 32 w)
/-- Running sums of eight words. -/
def cum (x : V8) : V8 := Host.reduceWindow IntOp.addi ![8] ![1] ![7] ![0] x (broadcastInDim shape0 ![] b0 (constantI shape0 32 0#32)) rw8 hu0
def starts (gs : V8) : V8 := subi (cum gs) gs
def c512 : IVec shape0 32 := constantI shape0 32 512#32
def bfirst (gs : V8) : V8 := pyDiv b8 (starts gs) c512
def blast (gs : V8) : V8 := pyDiv b8 (subi (cum gs) (k8 1#32)) c512
/-- How many blocks a group's rows touch; one for an empty group. -/
def nblk (gs : V8) : V8 := select (cmpi .sgt gs (k8 0#32)) (addi (subi (blast gs) (bfirst gs)) (k8 1#32)) (k8 1#32)
def vend (gs : V8) : V8 := cum (nblk gs)
def tot (gs : V8) : IVec shape0 32 := shapeCast shape0 (extractStridedSlice (shape1 1) ![7] (vend gs) sl7) sc1
def iota : V103 := iotaInDim (shape1 103) 32 0
def vc (gs : V8) : V103 := minsi iota (broadcastInDim (shape1 103) ![] b103 (subi (tot gs) (constantI shape0 32 1#32)))
def rows {w : Nat} (x : IVec (shape1 103) w) : IVec (shape2 103 8) w := broadcastInDim (shape2 103 8) ![0, 1] bRow2 (broadcastInDim (shape2 103 1) ![0] bRow1 x)
def cols {w : Nat} (x : IVec (shape1 8) w) : IVec (shape2 103 8) w := broadcastInDim (shape2 103 8) ![0, 1] bCol2 (broadcastInDim (shape2 1 8) ![1] bCol1 x)
def rsum (x : M103) : V103 := Host.reduce IntOp.addi x (constantI shape0 32 0#32) red hu0
/-- The group of each visit, and the eight flags that pick it. -/
def ex (gs : V8) : V103 := rsum (extui 32 (cmpi .sge (rows (vc gs)) (cols (vend gs))) lt132)
def oh (gs : V8) : M103 := extui 32 (cmpi .eq (rows (ex gs)) (cols (iotaInDim (shape1 8) 32 0))) lt132
def pick (gs f : V8) : V103 := rsum (muli (oh gs) (cols f))
def kk (gs : V8) : V103 := subi (vc gs) (pick gs (subi (vend gs) (nblk gs)))
def size (gs : V8) : V103 := pick gs gs
def blkA (gs : V8) : V103 := minsi (addi (pick gs (bfirst gs)) (kk gs)) (k103 95#32)
def rem0 (gs : V8) : IVec (shape1 103) 1 := cmpi .eq (pyRem b103 (pick gs (starts gs)) c512) (k103 0#32)
def blkB (gs : V8) : V103 := maxsi (subi (pick gs (bfirst gs)) (select (rem0 gs) (k103 1#32) (k103 0#32))) (k103 0#32)
def nonempty (gs : V8) : IVec (shape1 103) 1 := cmpi .sgt (size gs) (k103 0#32)
def blk (gs : V8) : V103 := select (nonempty gs) (blkA gs) (blkB gs)
def live (gs : V8) : IVec (shape1 103) 1 := cmpi .slt iota (broadcastInDim (shape1 103) ![] b103 (tot gs))
def first (gs : V8) : V103 := extui 32 (andi (live gs) (cmpi .eq (kk gs) (k103 0#32))) lt132
def last (gs : V8) : V103 := extui 32 (andi (live gs) (cmpi .eq (kk gs) (subi (pick gs (nblk gs)) (k103 1#32)))) lt132
def act (gs : V8) : V103 := extui 32 (andi (live gs) (nonempty gs)) lt132
def row1 (x : V103) : IVec (shape2 1 103) 32 := broadcastInDim (shape2 1 103) ![1] bT x
/-- The table. -/
def tbl (gs : V8) : IVec (shape2 7 103) 32 :=
  concatenate (shape2 7 103) 0 [⟨shape2 1 103, row1 (ex gs)⟩, ⟨shape2 1 103, row1 (blk gs)⟩, ⟨shape2 1 103, row1 (pick gs (starts gs))⟩,
    ⟨shape2 1 103, row1 (pick gs (cum gs))⟩, ⟨shape2 1 103, row1 (first gs)⟩, ⟨shape2 1 103, row1 (last gs)⟩, ⟨shape2 1 103, row1 (act gs)⟩]
    cc7

end Cert.Sched

end
-- ==== Proof.SchedVal.lean ====
module

public import proofs.«01_k».proof.Proof.Sched
public import proofs.«01_k».proof.Proof.Plan
public import Idealize.ShloMosaic.Lib.WordCmp
public import Idealize.ShloMosaic.Lib.Pointwise.SelectCore
public import Idealize.ShloMosaic.Lib.Pipeline.Value

/-!
The host's table holds the words of the plan's numbers.
-/

@[expose] public section

open Idealize.ShloMosaic hiding ix0 ix1 ix2
open Idealize.ShloMosaic.ValueIdx

noncomputable section

namespace Cert.Sched

open Idealize.ShloMosaic.Routing Cert.Plan Idealize.ShloMosaic.WordCmp

/-- A row whose entries off one column are zero sums to that entry. -/
theorem rsum_pick (x : M103) (t : Fin 103) (q : Fin 8) (hz : ∀ r : Fin 8, r ≠ q → x (ix2 t r) = 0#32) :
    rsum x (ix1 t) = x (ix2 t q) := by
  classical
  unfold rsum
  rw [Host.reduce_eq_fold]
  have hdrop : ∀ i : (shape2 103 8).Idx, red.drop i = ix1 t ↔ i 0 = t := by
    intro i
    have hv : (red.drop i 0 : Nat) = i 0 := Shape.ReducesTo.drop_apply_val red i 0
    constructor
    · intro e; rw [e] at hv; exact Fin.ext hv.symm
    · intro e; funext b; have hb : b = 0 := Subsingleton.elim _ _; subst hb; exact Fin.ext (by rw [hv, e])
  have hsum : (∑ i ∈ Finset.univ.filter (fun i : (shape2 103 8).Idx => red.drop i = ix1 t), x i) = x (ix2 t q) := by
    refine Finset.sum_eq_single (ix2 t q) (fun i hi hne => ?_) (fun h => absurd (Finset.mem_filter.2 ⟨Finset.mem_univ (ix2 t q), (hdrop (ix2 t q)).2 rfl⟩) h)
    have h0 := (hdrop i).1 (Finset.mem_filter.1 hi).2
    have hi' : i = ix2 t (i 1) := by
      funext b; match b with
      | ⟨0, _⟩ => exact h0
      | ⟨1, _⟩ => rfl
    rw [hi']
    exact hz _ fun h => hne (by rw [hi', h]; rfl)
  exact hsum

theorem rows_ap {w : Nat} (x : IVec (shape1 103) w) (t : Fin 103) (q : Fin 8) : rows x (ix2 t q) = x (ix1 t) := bcRows _ _ _ _ _
theorem cols_ap {w : Nat} (x : IVec (shape1 8) w) (t : Fin 103) (q : Fin 8) : cols x (ix2 t q) = x (ix1 q) := bcCols _ _ _ _ _
theorem k8_ap (w : BitVec 32) (q : Fin 8) : k8 w (ix1 q) = w := bc0 _ _ _
theorem k103_ap (w : BitVec 32) (t : Fin 103) : k103 w (ix1 t) = w := bc0 _ _ _

variable {g : Nat → Nat} {gs : V8} (hg : ∀ k : Fin 8, gs (ix1 k) = BitVec.ofNat 32 (g k)) (hS : S g 8 = 49152)
include hg hS

theorem cum_ap' {f : Nat → Nat} {x : V8} (hx : ∀ k : Fin 8, x (ix1 k) = BitVec.ofNat 32 (f k)) (j : Fin 8) :
    cum x (ix1 j) = BitVec.ofNat 32 (S f (j + 1)) :=
  cumsum1 (N := 8) (Nm1 := 7) rfl x f hx _ (bc0 _ _ _) rw8 hu0 j

theorem cum_ap (j : Fin 8) : cum gs (ix1 j) = BitVec.ofNat 32 (S g (j + 1)) := cum_ap' hg hS hg j

theorem starts_ap (j : Fin 8) : starts gs (ix1 j) = BitVec.ofNat 32 (S g j) := by
  unfold starts
  rw [subi_ap, cum_ap hg hS, hg, ofNat32_sub (by rw [S_succ]; omega), S_succ, Nat.add_sub_cancel]

theorem g_le (j : Fin 8) : S g j ≤ 49152 ∧ S g (j + 1) ≤ 49152 ∧ g j ≤ 49152 ∧ S g (j + 1) = S g j + g j := by
  have h1 := S_le hS (show (j : Nat) ≤ 8 by omega)
  have h2 := S_le hS (show (j : Nat) + 1 ≤ 8 by omega)
  have h3 := S_succ g j
  omega

theorem bfirst_ap (j : Fin 8) : bfirst gs (ix1 j) = BitVec.ofNat 32 (S g j / 512) :=
  pyDiv_ap b8 _ c512 (ix1 j) (starts_ap hg hS j) rfl (by have := g_le hg hS j; omega) (by decide) (by decide)

theorem nblk_ap (j : Fin 8) : nblk gs (ix1 j) = BitVec.ofNat 32 (nb g j) := by
  have hb := g_le hg hS j
  unfold nblk nb
  rw [select_at, cmpi_at, hg, k8_ap, k8_ap, show (0#32 : BitVec 32) = BitVec.ofNat 32 0 from rfl,
    cmpi_sgt_ofNat (w := 32) (by omega) (by decide), select_decide]
  by_cases h : 0 < g j
  · rw [if_pos h, if_pos h, addi_ap, subi_ap, bfirst_ap hg hS, k8_ap]
    have hl : blast gs (ix1 j) = BitVec.ofNat 32 ((S g (j + 1) - 1) / 512) :=
      pyDiv_ap b8 _ c512 (ix1 j) (by rw [subi_ap, cum_ap hg hS, k8_ap, show (1#32 : BitVec 32) = BitVec.ofNat 32 1 from rfl, ofNat32_sub (by omega)]) rfl
        (by omega) (by decide) (by decide)
    rw [hl, ofNat32_sub (by omega), show (1#32 : BitVec 32) = BitVec.ofNat 32 1 from rfl, ← BitVec.ofNat_add]
  · rw [if_neg h, if_neg h]

theorem vend_ap (j : Fin 8) : vend gs (ix1 j) = BitVec.ofNat 32 (P g (j + 1)) := cum_ap' hg hS (nblk_ap hg hS) j

theorem tot_ap : tot gs ix0 = BitVec.ofNat 32 (P g 8) := by
  unfold tot
  have h := vend_ap hg hS (7 : Fin 8)
  refine Eq.trans ?_ h
  have key : ∀ j : (shape1 1).Idx, extractStridedSlice (shape1 1) (![7] : Fin 1 → Nat) (vend gs) sl7 j = vend gs (ix1 (7 : Fin 8)) := by
    intro j
    refine congrArg (vend gs) (funext fun a => Fin.ext ?_)
    match a with
    | ⟨0, _⟩ =>
      have hlt := (j 0).isLt
      have h1 : (shape1 1).size 0 = 1 := rfl
      show 7 + (j 0).val = 7
      omega
  exact key _

theorem vc_ap (t : Fin 103) : vc gs (ix1 t) = BitVec.ofNat 32 (Plan.vc g t) := by
  have h := P8_le hS
  have hp := P8_pos g
  unfold Sched.vc Plan.vc
  show IntOp.minsi (iota (ix1 t)) (broadcastInDim (shape1 103) ![] b103 (subi (tot gs) (constantI shape0 32 1#32)) (ix1 t)) = _
  rw [bc0, subi_ap, tot_ap hg hS, show constantI shape0 32 1#32 ix0 = BitVec.ofNat 32 1 from rfl, ofNat32_sub (by omega),
    show iota (ix1 t) = BitVec.ofNat 32 t.val from rfl]
  unfold IntOp.minsi
  rw [slt_ofNat32 (by omega) (by omega)]
  by_cases hl : t.val < P g 8 - 1
  · simp only [hl, decide_true, if_true]; rw [Nat.min_eq_left (by omega)]
  · simp only [hl, decide_false]; rw [Nat.min_eq_right (by omega)]; rfl

theorem ex_ap (t : Fin 103) : ex gs (ix1 t) = BitVec.ofNat 32 (e g t) := by
  unfold ex rsum e
  refine reduce_count (n := 103) (m := 8) (by decide) _ lt132 red hu0 t _ fun q => ?_
  have h := P8_le hS
  have hp := P8_pos g
  have hm := P_mono g (show (q : Nat) + 1 ≤ 8 by omega)
  rw [cmpi_at, rows_ap, cols_ap, vc_ap hg hS, vend_ap hg hS]
  exact cmpi_sge_ofNat_eq_one_iff (w := 32) (by unfold Plan.vc; omega) (by omega)

theorem oh_ap (t : Fin 103) (q : Fin 8) : oh gs (ix2 t q) = if e g t = q then 1#32 else 0#32 := by
  have he := e_lt g t
  unfold oh
  show (cmpi .eq (rows (ex gs)) (cols (iotaInDim (shape1 8) 32 0)) (ix2 t q)).setWidth 32 = _
  rw [cmpi_at, rows_ap, cols_ap, ex_ap hg hS, iota1_ap, cmpi_eq_ofNat (w := 32) (by omega) (by omega)]
  by_cases h : e g t = q
  · simp only [h, decide_true, if_true]; rfl
  · simp only [h, decide_false, if_false]; rfl

theorem pick_ap (f : V8) (t : Fin 103) : pick gs f (ix1 t) = f (ix1 ⟨e g t, e_lt g t⟩) := by
  unfold pick
  rw [rsum_pick _ t ⟨e g t, e_lt g t⟩ (fun r hr => ?_)]
  · rw [muli_ap, oh_ap hg hS, cols_ap, if_pos rfl, BitVec.one_mul]
  · rw [muli_ap, oh_ap hg hS, if_neg (fun h => hr (Fin.ext h.symm)), BitVec.zero_mul]

theorem bfirst_e (t : Fin 103) : bfirst gs (ix1 ⟨e g t, e_lt g t⟩) = BitVec.ofNat 32 (S g (e g t) / 512) := bfirst_ap hg hS _
theorem starts_e (t : Fin 103) : starts gs (ix1 ⟨e g t, e_lt g t⟩) = BitVec.ofNat 32 (S g (e g t)) := starts_ap hg hS _
theorem cum_e (t : Fin 103) : cum gs (ix1 ⟨e g t, e_lt g t⟩) = BitVec.ofNat 32 (S g (e g t + 1)) := cum_ap hg hS _
theorem nblk_e (t : Fin 103) : nblk gs (ix1 ⟨e g t, e_lt g t⟩) = BitVec.ofNat 32 (nb g (e g t)) := nblk_ap hg hS _
theorem vend_e (t : Fin 103) : vend gs (ix1 ⟨e g t, e_lt g t⟩) = BitVec.ofNat 32 (P g (e g t + 1)) := vend_ap hg hS _
theorem g_e (t : Fin 103) : S g (e g t) ≤ 49152 ∧ S g (e g t + 1) ≤ 49152 ∧ g (e g t) ≤ 49152 ∧ S g (e g t + 1) = S g (e g t) + g (e g t) := g_le hg hS ⟨e g t, e_lt g t⟩

theorem kk_ap (t : Fin 103) : kk gs (ix1 t) = BitVec.ofNat 32 (Plan.kk g t) := by
  have h := spec g t
  unfold Sched.kk Plan.kk
  rw [subi_ap, vc_ap hg hS, pick_ap hg hS, subi_ap, vend_e hg hS, nblk_e hg hS, ofNat32_sub (by rw [P_succ]; omega), P_succ, Nat.add_sub_cancel,
    ofNat32_sub h.2.1]

theorem size_ap (t : Fin 103) : size gs (ix1 t) = BitVec.ofNat 32 (g (e g t)) := by
  unfold size; rw [pick_ap hg hS, hg]

theorem nonempty_ap (t : Fin 103) : nonempty gs (ix1 t) = BitVec.ofBool (decide (0 < g (e g t))) := by
  have h := (g_e hg hS t).2.2.1
  unfold nonempty
  rw [cmpi_at, size_ap hg hS, k103_ap]
  exact cmpi_sgt_ofNat (w := 32) (a := g (e g t)) (b := 0) (lt_of_le_of_lt h (by decide)) (by decide)

theorem blk_ap (t : Fin 103) : blk gs (ix1 t) = BitVec.ofNat 32 (Plan.blk g t) := by
  have h := g_e hg hS t
  have hk := kk_lt g t
  have hn := nb_le hS (e_lt g t)
  unfold Sched.blk Plan.blk
  rw [select_at, nonempty_ap hg hS, select_decide]
  by_cases h0 : 0 < g (e g t)
  · rw [if_pos h0, if_pos h0]
    unfold blkA
    show IntOp.minsi (addi (pick gs (bfirst gs)) (Sched.kk gs) (ix1 t)) (k103 95#32 (ix1 t)) = _
    rw [addi_ap, pick_ap hg hS, bfirst_e hg hS, kk_ap hg hS, k103_ap, ← BitVec.ofNat_add]
    unfold IntOp.minsi
    rw [show (95#32 : BitVec 32) = BitVec.ofNat 32 95 from rfl, slt_ofNat32 (by omega) (by decide)]
    by_cases hl : S g (e g t) / 512 + Plan.kk g t < 95
    · simp only [hl, decide_true, if_true]; rw [Nat.min_eq_left (by omega)]
    · simp only [hl, decide_false]; rw [Nat.min_eq_right (by omega)]; rfl
  · rw [if_neg h0, if_neg h0]
    unfold blkB
    show IntOp.maxsi (subi (pick gs (bfirst gs)) (select (rem0 gs) (k103 1#32) (k103 0#32)) (ix1 t)) (k103 0#32 (ix1 t)) = _
    have hr : rem0 gs (ix1 t) = BitVec.ofBool (decide (S g (e g t) % 512 = 0)) := by
      unfold rem0
      rw [cmpi_at, k103_ap, pyRem_ap b103 _ c512 (ix1 t) (a := S g (e g t)) (b := 512) (by rw [pick_ap hg hS, starts_e hg hS]) rfl (by omega) (by decide) (by decide)]
      exact cmpi_eq_ofNat (w := 32) (b := 0) (by omega) (by decide)
    rw [subi_ap, pick_ap hg hS, bfirst_e hg hS, select_at, hr, select_decide, k103_ap, k103_ap]
    by_cases hl : S g (e g t) % 512 = 0
    · rw [if_pos hl, if_pos hl]; exact maxsi_pred (by omega)
    · rw [if_neg hl, if_neg hl, show (0#32 : BitVec 32) = BitVec.ofNat 32 0 from rfl, ofNat32_sub (by omega), Nat.sub_zero]
      unfold IntOp.maxsi
      rw [slt_ofNat32 (by omega) (by omega)]
      by_cases hl' : 0 < S g (e g t) / 512
      · simp [hl']
      · have : S g (e g t) / 512 = 0 := by omega
        simp [this]

theorem live_ap (t : Fin 103) : live gs (ix1 t) = BitVec.ofBool (decide (Plan.live g t)) := by
  have h := P8_le hS
  unfold Sched.live
  rw [cmpi_at, bc0, tot_ap hg hS]
  exact cmpi_slt_ofNat (w := 32) (a := t.val) (by omega) (by omega)

omit hg hS in
theorem flag (p q : Prop) [Decidable p] [Decidable q] :
    (IntOp.andi (BitVec.ofBool (decide p)) (BitVec.ofBool (decide q))).setWidth 32 = BitVec.ofNat 32 (if p ∧ q then 1 else 0) := by
  by_cases hp : p <;> by_cases hq : q <;> simp [hp, hq] <;> rfl

theorem first_ap (t : Fin 103) : first gs (ix1 t) = BitVec.ofNat 32 (if Plan.first g t then 1 else 0) := by
  have h := kk_lt g t
  have hn := nb_le hS (e_lt g t)
  have hc : cmpi .eq (Sched.kk gs) (k103 0#32) (ix1 t) = BitVec.ofBool (decide (Plan.kk g t = 0)) := by
    rw [cmpi_at, kk_ap hg hS, k103_ap]; exact cmpi_eq_ofNat (w := 32) (b := 0) (by omega) (by decide)
  unfold Sched.first Plan.first
  rw [← flag, ← live_ap hg hS, ← hc]; rfl

theorem last_ap (t : Fin 103) : last gs (ix1 t) = BitVec.ofNat 32 (if Plan.last g t then 1 else 0) := by
  have h := kk_lt g t
  have hn := nb_le hS (e_lt g t)
  have hc : cmpi .eq (Sched.kk gs) (subi (pick gs (nblk gs)) (k103 1#32)) (ix1 t) = BitVec.ofBool (decide (Plan.kk g t = nb g (e g t) - 1)) := by
    rw [cmpi_at, kk_ap hg hS, subi_ap, pick_ap hg hS, nblk_e hg hS, k103_ap, show (1#32 : BitVec 32) = BitVec.ofNat 32 1 from rfl, ofNat32_sub (by omega)]
    exact cmpi_eq_ofNat (w := 32) (by omega) (by omega)
  unfold Sched.last Plan.last
  rw [← flag, ← live_ap hg hS, ← hc]; rfl

theorem act_ap (t : Fin 103) : act gs (ix1 t) = BitVec.ofNat 32 (if Plan.act g t then 1 else 0) := by
  unfold Sched.act Plan.act
  rw [← flag, ← live_ap hg hS, ← nonempty_ap hg hS]; rfl

omit hg hS in
theorem row1_ap (x : V103) (t : Fin 103) : row1 x (ix2 (0 : Fin 1) t) = x (ix1 t) := by
  unfold row1
  refine broadcastInDim_apply _ bT x _ _ fun a => ?_
  match a with
  | ⟨0, _⟩ => exact (if_neg (show ¬ (103 : Nat) = 1 by decide)).symm

/-- The table's rows before they are stacked. -/
abbrev pieces (gs : V8) : List ((s : Shape) × (s.Idx → BitVec 32)) :=
  [⟨shape2 1 103, row1 (ex gs)⟩, ⟨shape2 1 103, row1 (blk gs)⟩, ⟨shape2 1 103, row1 (pick gs (starts gs))⟩,
    ⟨shape2 1 103, row1 (pick gs (cum gs))⟩, ⟨shape2 1 103, row1 (first gs)⟩, ⟨shape2 1 103, row1 (last gs)⟩, ⟨shape2 1 103, row1 (act gs)⟩]

/-- The table's seven rows. -/
theorem tbl_ap (t : Fin 103) :
    tbl gs (ix2 (0 : Fin 7) t) = BitVec.ofNat 32 (e g t) ∧ tbl gs (ix2 (1 : Fin 7) t) = BitVec.ofNat 32 (Plan.blk g t)
      ∧ tbl gs (ix2 (2 : Fin 7) t) = BitVec.ofNat 32 (lo g t) ∧ tbl gs (ix2 (3 : Fin 7) t) = BitVec.ofNat 32 (hi g t)
      ∧ tbl gs (ix2 (4 : Fin 7) t) = BitVec.ofNat 32 (if Plan.first g t then 1 else 0)
      ∧ tbl gs (ix2 (5 : Fin 7) t) = BitVec.ofNat 32 (if Plan.last g t then 1 else 0)
      ∧ tbl gs (ix2 (6 : Fin 7) t) = BitVec.ofNat 32 (if Plan.act g t then 1 else 0) := by
  have key : ∀ (k : Nat) (hk : k < 7) (x : V103)
      (hx : (pieces gs)[k]? = some ⟨shape2 1 103, row1 x⟩), tbl gs (ix2 (⟨k, hk⟩ : Fin 7) t) = x (ix1 t) := by
    intro k hk x hx
    refine (concatenate_apply_piece (t := shape2 7 103) 0 (pieces gs) _ (ix2 (⟨k, hk⟩ : Fin 7) t) k hk (shape2 1 103) (row1 x)
      (List.getElem?_eq_some_iff.1 hx).2 rfl k ?_ (ix2 (0 : Fin 1) t) ?_ ?_).trans (row1_ap x t)
    · interval_cases k <;> rfl
    · intro b hb
      match b with
      | ⟨0, _⟩ => exact absurd rfl hb
      | ⟨1, _⟩ => rfl
    · rfl
  refine ⟨(key 0 (by decide) _ rfl).trans (ex_ap hg hS t), (key 1 (by decide) _ rfl).trans (blk_ap hg hS t), (key 2 (by decide) _ rfl).trans ?_,
    (key 3 (by decide) _ rfl).trans ?_, (key 4 (by decide) _ rfl).trans (first_ap hg hS t), (key 5 (by decide) _ rfl).trans (last_ap hg hS t),
    (key 6 (by decide) _ rfl).trans (act_ap hg hS t)⟩
  · rw [pick_ap hg hS, starts_e hg hS]; rfl
  · rw [pick_ap hg hS, cum_e hg hS]; rfl

end Cert.Sched

end
-- ==== Proof.Pre.lean ====
module

public import proofs.«01_k».proof.Pre_valid
public import proofs.«01_k».proof.Proof.Plan
public import proofs.«01_k».proof.Proof.SchedVal
public import Idealize.ShloMosaic.Lib.ReduceAll
public import Idealize.ShloMosaic.Lib.StableHlo.Predicate

/-!
What the precondition says: the group sizes are numbers that add up to the number of rows, and no maximum is above the largest
float.
-/

@[expose] public section

noncomputable section

open Idealize.ShloMosaic hiding ix0 ix1 ix2
open Idealize.ShloMosaic.ValueIdx

namespace Cert.Pre

open Cert.Pre_valid Cert.Pre_valid.Facts Idealize.ShloMosaic.WordCmp Cert.Plan

variable {F : FTy → Type} [FloatOps F] [Facts]

/-- The sizes as numbers. -/
def gOf (a2 : IVec S8 32) (k : Nat) : Nat := if h : k < 8 then (a2 (ix1 ⟨k, h⟩)).toNat else 0

theorem andi_one (a b : BitVec 1) : IntOp.andi a b = 1#1 ↔ a = 1#1 ∧ b = 1#1 := by revert a b; decide

theorem split (a0 a1 : FVec F S49152x2048 .bf16) (a2 : IVec S8 32) (a3 a4 : FVec F S8x2048 .f32) (h : fn (F := F) a0 a1 a2 a3 a4 = fun _ => 1#1) :
    (∀ i, IntOp.cmpi .sge (a2 i) 0#32 = 1#1) ∧ (∀ i, IntOp.cmpi .sle (a2 i) 49152#32 = 1#1)
      ∧ Host.reduce IntOp.addi a2 (constantI S_ 32 0#32) reducesTo_S8_S_d0 h_S_ ix0 = 49152#32
      ∧ (∀ i, FloatOps.cmpf .ole (a3 i) (FloatOps.ofBits .f32 0x7F7FFFFF#32) = 1#1) ∧ (∀ i, FloatOps.cmpf .ole (a4 i) (FloatOps.ofBits .f32 0x7F7FFFFF#32) = 1#1) := by
  have h0 := congrFun h ix0
  unfold fn fn_part1 at h0
  dsimp only at h0
  simp only [andi_at, andi_one] at h0
  obtain ⟨⟨⟨⟨h1, h2⟩, h3⟩, h4⟩, h5⟩ := h0
  haveI : Subsingleton S_.Idx := ⟨fun a b => funext fun k => k.elim0⟩
  refine ⟨fun i => Host.reduce_andi_all _ _ _ _ _ h1 i, fun i => Host.reduce_andi_all _ _ _ _ _ h2 i, ?_, fun i => Host.reduce_andi_all _ _ _ _ _ h4 i,
    fun i => Host.reduce_andi_all _ _ _ _ _ h5 i⟩
  have h3' : IntOp.cmpi .eq (Host.reduce IntOp.addi a2 (constantI S_ 32 0#32) reducesTo_S8_S_d0 h_S_ ix0) 49152#32 = 1#1 := h3
  generalize Host.reduce IntOp.addi a2 (constantI S_ 32 0#32) reducesTo_S8_S_d0 h_S_ ix0 = x at h3'
  unfold IntOp.cmpi at h3'
  by_contra hx
  have : (x == 49152#32) = false := by simpa using hx
  simp [this] at h3'

theorem sizes (a0 a1 : FVec F S49152x2048 .bf16) (a2 : IVec S8 32) (a3 a4 : FVec F S8x2048 .f32) (h : fn (F := F) a0 a1 a2 a3 a4 = fun _ => 1#1) :
    (∀ k : Fin 8, a2 (ix1 k) = BitVec.ofNat 32 (gOf a2 k)) ∧ S (gOf a2) 8 = 49152 := by
  obtain ⟨h1, h2, h3, -, -⟩ := split a0 a1 a2 a3 a4 h
  have hg : ∀ k : Fin 8, gOf a2 k = (a2 (ix1 k)).toNat := fun k => by unfold gOf; rw [dif_pos k.isLt]
  have hle : ∀ i, (a2 i).toNat ≤ 49152 := by
    intro i
    have e1 := h1 i; have e2 := h2 i
    generalize a2 i = x at e1 e2
    revert e1 e2
    simp only [IntOp.cmpi, BitVec.sle]
    intro e1 e2
    have e1' : (0#32 : BitVec 32).toInt ≤ x.toInt := by by_contra hh; rw [decide_eq_false hh] at e1; exact absurd e1 (by decide)
    have e2' : x.toInt ≤ (49152#32 : BitVec 32).toInt := by by_contra hh; rw [decide_eq_false hh] at e2; exact absurd e2 (by decide)
    have t0 : (0#32 : BitVec 32).toInt = 0 := rfl
    have t1 : (49152#32 : BitVec 32).toInt = 49152 := rfl
    rw [t0] at e1'; rw [t1] at e2'
    have hx := BitVec.toInt_eq_toNat_cond x
    have hlt := x.isLt
    split at hx <;> omega
  refine ⟨fun k => by rw [hg]; simp, ?_⟩
  classical
  rw [Host.reduce_eq_fold] at h3
  have hu : (Finset.univ.filter fun i : S8.Idx => reducesTo_S8_S_d0.drop i = ix0) = Finset.univ :=
    Finset.filter_true_of_mem fun i _ => funext fun k => k.elim0
  rw [hu] at h3
  have hsum : ∑ i : S8.Idx, (a2 i).toNat = S (gOf a2) 8 := by
    have e : ∑ i : S8.Idx, (a2 i).toNat = ∑ k : Fin 8, gOf a2 k := by
      refine Finset.sum_bij' (fun i _ => (i 0 : Fin 8)) (fun k _ => ix1 k) (fun _ _ => Finset.mem_univ _) (fun _ _ => Finset.mem_univ _)
        (fun i _ => ?_) (fun _ _ => rfl) (fun i _ => ?_)
      · funext b; match b with | ⟨0, _⟩ => rfl
      · exact (congrArg (fun z => (a2 z).toNat) (funext fun b => match b with | ⟨0, _⟩ => rfl : i = ix1 (i 0 : Fin 8))).trans (hg _).symm
    rw [e, Fin.sum_univ_eight]
    simp only [S_succ, S_zero, Nat.zero_add]
    rfl
  have hb : ∑ i : S8.Idx, (a2 i).toNat < 2 ^ 32 := by
    rw [hsum]
    simp only [S_succ, S_zero]
    have := fun k : Fin 8 => hg k ▸ hle (ix1 k)
    have a0 := this 0; have a1 := this 1; have a2 := this 2; have a3 := this 3; have a4 := this 4; have a5 := this 5; have a6 := this 6; have a7 := this 7
    simp at a0 a1 a2 a3 a4 a5 a6 a7
    omega
  have h4 := congrArg BitVec.toNat h3
  have h5 : (Finset.fold IntOp.addi 0#32 a2 Finset.univ).toNat = 49152 := h4
  rw [StableHlo.Predicate.toNat_fold_addi _ _ hb, hsum] at h5
  exact h5

end Cert.Pre

end
-- ==== Proof.Body.lean ====
module

public import proofs.«01_k».proof.Proof.Gen.KernelIdeal.Launch
public import proofs.«01_k».proof.Proof.Gen.KernelIdeal.Skeleton
public import Idealize.ShloMosaic.Lib.Tactic
public import Idealize.ShloMosaic.Lib.Pipeline.FrameBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one visit computes, as functions of the buffers' contents -/

section Spec

variable (x1 : Vec F S7x103 .i32) (i : grid0.Coords)

/-- The schedule's words for the visit: the expert, the block, the first row, the row past the last, and the three flags. -/
def wE : BitVec 32 := x1 ((Rect.unit (s := S7x103) (k0_off2 i) S1x1.size (k0_off2_inb i)).emb (Shape.Idx.first (numel1_S1x1.symm ▸ Nat.one_pos)))
def wBlk : BitVec 32 := x1 ((Rect.unit (s := S7x103) (k0_off1 i) S1x1.size (k0_off1_inb i)).emb (Shape.Idx.first (numel1_S1x1.symm ▸ Nat.one_pos)))
def wLo : BitVec 32 := x1 ((Rect.unit (s := S7x103) (k0_off3 i) S1x1.size (k0_off3_inb i)).emb (Shape.Idx.first (numel1_S1x1.symm ▸ Nat.one_pos)))
def wHi : BitVec 32 := x1 ((Rect.unit (s := S7x103) (k0_off4 i) S1x1.size (k0_off4_inb i)).emb (Shape.Idx.first (numel1_S1x1.symm ▸ Nat.one_pos)))
def wFirst : BitVec 32 := x1 ((Rect.unit (s := S7x103) (k0_off5 i) S1x1.size (k0_off5_inb i)).emb (Shape.Idx.first (numel1_S1x1.symm ▸ Nat.one_pos)))
def wLast : BitVec 32 := x1 ((Rect.unit (s := S7x103) (k0_off6 i) S1x1.size (k0_off6_inb i)).emb (Shape.Idx.first (numel1_S1x1.symm ▸ Nat.one_pos)))
def wAct : BitVec 32 := x1 ((Rect.unit (s := S7x103) (k0_off7 i) S1x1.size (k0_off7_inb i)).emb (Shape.Idx.first (numel1_S1x1.symm ▸ Nat.one_pos)))

/-- The scale row computed from a row of maxima of `x`, and its reciprocal. -/
def sclX (r : Vec F S1x2048 .f32) : FVec F S1x2048 .f32 :=
  k0_pay22 (k0_pay14 r) (k0_pay18 (k0_pay14 r) (k0_pay15 r) (k0_pay16 r) k0_pay17) (k0_pay19 (k0_pay14 r) (k0_pay15 r) (k0_pay16 r) k0_pay17) k0_pay20
def invX (r : Vec F S1x2048 .f32) : FVec F S1x2048 .f32 :=
  k0_pay23 (k0_pay14 r) (k0_pay18 (k0_pay14 r) (k0_pay15 r) (k0_pay16 r) k0_pay17) (k0_pay19 (k0_pay14 r) (k0_pay15 r) (k0_pay16 r) k0_pay17) k0_pay20
/-- The same of `dy`. -/
def sclY (r : Vec F S1x2048 .f32) : FVec F S1x2048 .f32 :=
  k0_pay32 (k0_pay24 r) (k0_pay28 (k0_pay24 r) k0_pay25 (k0_pay26 r) k0_pay27) (k0_pay29 (k0_pay24 r) k0_pay25 (k0_pay26 r) k0_pay27) (k0_pay30 (k0_pay24 r) k0_pay25 (k0_pay26 r) k0_pay27)
def invY (r : Vec F S1x2048 .f32) : FVec F S1x2048 .f32 :=
  k0_pay33 (k0_pay24 r) (k0_pay28 (k0_pay24 r) k0_pay25 (k0_pay26 r) k0_pay27) (k0_pay29 (k0_pay24 r) k0_pay25 (k0_pay26 r) k0_pay27) (k0_pay30 (k0_pay24 r) k0_pay25 (k0_pay26 r) k0_pay27)

variable (hchk : k0_chk1 (wE x1 i))

/-- The expert's row of an 8-row buffer, as a rectangle and as the row read. -/
def rowR : Rect S8x2048 := Rect.unit (s := S8x2048) (k0_off8 (wE x1 i)) S1x2048.size (k0_off8_inb (wE x1 i) hchk)
def row (x : Vec F S8x2048 .f32) : Vec F S1x2048 .f32 := fun j => x ((rowR x1 i hchk).emb j)

/-- The two scale buffers after the visit: the expert's row rewritten. -/
def nXs (x4 x9 : Vec F S8x2048 .f32) : Vec F S8x2048 .f32 := (rowR x1 i hchk).overlay x9 (sclX (row x1 i hchk x4))
def nDys (x5 x10 : Vec F S8x2048 .f32) : Vec F S8x2048 .f32 := (rowR x1 i hchk).overlay x10 (sclY (row x1 i hchk x5))

/-- Whether the visit quantises the whole block, or the part of it that is the group's. -/
abbrev cWhole : Prop := k0_cond1 (wBlk x1 i) (wLo x1 i) (wHi x1 i) (wAct x1 i) = 1#1
abbrev cPart : Prop := k0_cond2 (wBlk x1 i) (wLo x1 i) (wHi x1 i) (wAct x1 i) = 1#1

/-- The block of codes of `x` after the visit. -/
def nXc (x2 : Vec F S512x2048 .bf16) (x4 : Vec F S8x2048 .f32) (x7 : Vec F S512x2048 .fp8e4m3) : Vec F S512x2048 .fp8e4m3 :=
  if cPart x1 i then k0_pay12 (wLo x1 i) (Scalar.muli (wBlk x1 i) 512#32) (invX (row x1 i hchk x4)) x2
      (if cWhole x1 i then k0_pay1 (invX (row x1 i hchk x4)) x2 else x7)
  else if cWhole x1 i then k0_pay1 (invX (row x1 i hchk x4)) x2 else x7
/-- The masked codes kept for the product. -/
def nXm (x2 : Vec F S512x2048 .bf16) (x4 : Vec F S8x2048 .f32) (x11 : Vec F S512x2048 .fp8e4m3) : Vec F S512x2048 .fp8e4m3 :=
  if cPart x1 i then k0_pay11 (wLo x1 i) (wHi x1 i) (Scalar.muli (wBlk x1 i) 512#32) (invX (row x1 i hchk x4)) x2
  else if cWhole x1 i then k0_pay2 (invX (row x1 i hchk x4)) x2 else x11
/-- The block of codes of `dy` after the visit. -/
def nDyc (x3 : Vec F S512x2048 .bf16) (x5 : Vec F S8x2048 .f32) (x8 : Vec F S512x2048 .fp8e5m2) : Vec F S512x2048 .fp8e5m2 :=
  if cPart x1 i then k0_pay4 (k0_pay10 (invY (row x1 i hchk x5)) x3) (k0_pay13 (F := F) (wLo x1 i) (Scalar.muli (wBlk x1 i) 512#32))
      (if cWhole x1 i then k0_pay3 (invY (row x1 i hchk x5)) x3 else x8)
  else if cWhole x1 i then k0_pay3 (invY (row x1 i hchk x5)) x3 else x8
/-- The accumulator after the visit: cleared at a group's first visit, the block's product added, the scales applied at
    the group's last. -/
def accA (x6 : Vec F S1x2048x2048 .f32) : Vec F S1x2048x2048 .f32 := if k0_cond3 (wFirst x1 i) = 1#1 then k0_pay5 else x6
def accB (x2 x3 : Vec F S512x2048 .bf16) (x4 x5 : Vec F S8x2048 .f32) (x6 : Vec F S1x2048x2048 .f32) (x8 : Vec F S512x2048 .fp8e5m2)
    (x11 : Vec F S512x2048 .fp8e4m3) : Vec F S1x2048x2048 .f32 :=
  if k0_cond4 (wAct x1 i) = 1#1 then k0_pay6 (accA x1 i x6) (nXm x1 i hchk x2 x4 x11) (nDyc x1 i hchk x3 x5 x8) else accA x1 i x6
def nDw (x2 x3 : Vec F S512x2048 .bf16) (x4 x5 : Vec F S8x2048 .f32) (x6 : Vec F S1x2048x2048 .f32) (x8 : Vec F S512x2048 .fp8e5m2)
    (x11 : Vec F S512x2048 .fp8e4m3) : Vec F S1x2048x2048 .f32 :=
  if k0_cond5 (wLast x1 i) = 1#1 then k0_pay7 (sclX (row x1 i hchk x4)) (sclY (row x1 i hchk x5)) (accB x1 i hchk x2 x3 x4 x5 x6 x8 x11)
  else accB x1 i hchk x2 x3 x4 x5 x6 x8 x11

end Spec

/-! ## Reading a whole memref through a rectangle -/

section Reads
variable {κ : Kind} {sp : Space} {s : Shape} {e : EltTy} {m : Memref sig κ sp s e}

omit [FloatOps F] in
/-- A load of the whole memref reads its contents; -/
theorem rd_full (f : m.view.ty.Contents (Elt F)) {off : Fin s.rank → Nat} (h : off = fun _ => 0) (inb) :
    m.view.readAt (Elt F) (Rect.unit (s := s) off s.size inb).toLoadRect f = m.view.read (Elt F) f := by
  subst h; funext x; rw [View.readAt_apply]; congr 1; funext a; apply Fin.ext; simp [Rect.unit]

omit [FloatOps F] in
/-- a store over the whole of it leaves the payload; -/
theorem rd_store_full (f : m.view.ty.Contents (Elt F)) {off : Fin s.rank → Nat} (h : off = fun _ => 0) (inb) (w : s.Idx → Elt F e)
    (L : List (View.Piece (Elt F) s e)) :
    m.view.read (Elt F) (m.view.writes (Elt F) f (⟨Rect.unit (s := s) off s.size inb, w⟩ :: L)) = w := by
  subst h; funext x
  have hx : (Rect.unit (s := s) (fun _ => 0) s.size inb).emb x = x := by
    funext a; apply Fin.ext; simp [Rect.unit, Rect.emb]
  have := View.read_writes_cons_emb (v := m.view) (f := f) (Rect.unit (s := s) (fun _ => 0) s.size inb) w L x
  rw [hx] at this; exact this

omit [FloatOps F] in
/-- a store into a rectangle of it overlays the payload. -/
theorem rd_store_rect (f : m.view.ty.Contents (Elt F)) (r : Rect s) (w : r.shape.Idx → Elt F e) :
    m.view.read (Elt F) (m.view.writes (Elt F) f [⟨r, w⟩]) = r.overlay (m.view.read (Elt F) f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem _ _ y _ (by simpa using hy), Rect.overlay_of_not_mem _ _ _ hy]

omit [FloatOps F] in
/-- Contents chosen by a decided condition read as the chosen ones do. -/
theorem rd_dite {C : Prop} [Decidable C] (a b : m.view.ty.Contents (Elt F)) :
    m.view.read (Elt F) (if _hc : C then a else b) = if C then m.view.read (Elt F) a else m.view.read (Elt F) b := by
  by_cases h : C <;> simp [h]

end Reads

theorem z2 : (![0, 0] : Fin 2 → Nat) = fun _ => 0 := by funext a; fin_cases a <;> rfl
theorem z3 : (![0, 0, 0] : Fin 3 → Nat) = fun _ => 0 := by funext a; fin_cases a <;> rfl

section Full
variable {sp : Space} {e : EltTy}

omit [FloatOps F] in
theorem rd2 {m : Memref sig .tc sp S512x2048 e} (f : m.view.ty.Contents (Elt F)) (inb) :
    m.view.readAt (Elt F) (Rect.unit (s := S512x2048) ![0, 0] ![512, 2048] inb).toLoadRect f = m.view.read (Elt F) f :=
  rd_full f z2 inb
omit [FloatOps F] in
theorem st2 {m : Memref sig .tc sp S512x2048 e} (f : m.view.ty.Contents (Elt F)) (inb) (w : S512x2048.Idx → Elt F e) :
    m.view.read (Elt F) (m.view.writes (Elt F) f [⟨Rect.unit (s := S512x2048) ![0, 0] ![512, 2048] inb, w⟩]) = w :=
  rd_store_full f z2 inb w []
omit [FloatOps F] in
theorem rd3 {m : Memref sig .tc sp S1x2048x2048 e} (f : m.view.ty.Contents (Elt F)) (inb) :
    m.view.readAt (Elt F) (Rect.unit (s := S1x2048x2048) ![0, 0, 0] ![1, 2048, 2048] inb).toLoadRect f = m.view.read (Elt F) f :=
  rd_full f z3 inb
omit [FloatOps F] in
theorem st3 {m : Memref sig .tc sp S1x2048x2048 e} (f : m.view.ty.Contents (Elt F)) (inb) (w : S1x2048x2048.Idx → Elt F e) :
    m.view.read (Elt F) (m.view.writes (Elt F) f [⟨Rect.unit (s := S1x2048x2048) ![0, 0, 0] ![1, 2048, 2048] inb, w⟩]) = w :=
  rd_store_full f z3 inb w []

omit [FloatOps F] in
/-- Contents stored under a condition, read back. -/
theorem read_st3 {m : Memref sig .tc sp S1x2048x2048 e} {C : Prop} [Decidable C] {f : m.view.ty.Contents (Elt F)} {inb}
    {w w' x : S1x2048x2048.Idx → Elt F e} (hw : w = w') (hx : m.view.read (Elt F) f = x) :
    m.view.read (Elt F) (if _hc : C then m.view.writes (Elt F) f
      [⟨Rect.unit (s := S1x2048x2048) ![0, 0, 0] ![1, 2048, 2048] inb, w⟩] else f) = if C then w' else x := by
  rw [rd_dite, st3, hx, hw]
omit [FloatOps F] in
theorem read_st2 {m : Memref sig .tc sp S512x2048 e} {C : Prop} [Decidable C] {f : m.view.ty.Contents (Elt F)} {inb}
    {w w' x : S512x2048.Idx → Elt F e} (hw : w = w') (hx : m.view.read (Elt F) f = x) :
    m.view.read (Elt F) (if _hc : C then m.view.writes (Elt F) f
      [⟨Rect.unit (s := S512x2048) ![0, 0] ![512, 2048] inb, w⟩] else f) = if C then w' else x := by
  rw [rd_dite, st2, hx, hw]

end Full

set_option maxHeartbeats 1600000 in
set_option pp.maxSteps 250 in
/-- One visit, from any contents of the buffers. -/
theorem run (c : Dev nD) (i : grid0.Coords) (arg1 : Memref sig .tc .smem S7x103 .i32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S8x2048 .f32) (harg4 : arg4.IsWhole) (arg5 : Memref sig .tc .vmem S8x2048 .f32) (harg5 : arg5.IsWhole) (arg6 : Memref sig .tc .vmem S1x2048x2048 .f32) (harg6 : arg6.IsWhole) (arg7 : Memref sig .tc .vmem S512x2048 .fp8e4m3) (harg7 : arg7.IsWhole) (arg8 : Memref sig .tc .vmem S512x2048 .fp8e5m2) (harg8 : arg8.IsWhole) (arg9 : Memref sig .tc .vmem S8x2048 .f32) (harg9 : arg9.IsWhole) (arg10 : Memref sig .tc .vmem S8x2048 .f32) (harg10 : arg10.IsWhole) (arg11 : Memref sig .tc .vmem S512x2048 .fp8e4m3) (harg11 : arg11.IsWhole)
    (x1 : Vec F S7x103 .i32) (x2 : Vec F S512x2048 .bf16) (x3 : Vec F S512x2048 .bf16) (x4 : Vec F S8x2048 .f32) (x5 : Vec F S8x2048 .f32) (x6 : Vec F S1x2048x2048 .f32) (x7 : Vec F S512x2048 .fp8e4m3) (x8 : Vec F S512x2048 .fp8e5m2) (x9 : Vec F S8x2048 .f32) (x10 : Vec F S8x2048 .f32) (x11 : Vec F S512x2048 .fp8e4m3) (E : Set ℕ) (K : PUnit → sProp 𝕄)
    (hchk : k0_chk1 (wE x1 i)) :
    iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (nDw x1 i hchk x2 x3 x4 x5 x6 x8 x11) ∗ owns (c : Thread nD τ) arg7 fullShare (nXc x1 i hchk x2 x4 x7) ∗ owns (c : Thread nD τ) arg8 fullShare (nDyc x1 i hchk x3 x5 x8) ∗ owns (c : Thread nD τ) arg9 fullShare (nXs x1 i hchk x4 x9) ∗ owns (c : Thread nD τ) arg10 fullShare (nDys x1 i hchk x5 x10) ∗ owns (c : Thread nD τ) arg11 fullShare (nXm x1 i hchk x2 x4 x11)) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9 arg10 harg10 arg11 harg11) K := by
  simp only [cc0_wgrad_eq_skeleton]; unfold cc0_wgrad_skel
  simp (config := {zeta := false, zetaDelta := false}) only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf1; subst hf2; subst hf3; subst hf4; subst hf5; subst hf6; subst hf7; subst hf8; subst hf9; subst hf10; subst hf11
  have hchk' : k0_chk1 (arg1.view.readAt (Elt F) (Rect.unit (s := S7x103) (k0_off2 i) S1x1.size (k0_off2_inb i)).toLoadRect f1
      (Shape.Idx.first (numel1_S1x1.symm ▸ Nat.one_pos))) := hchk
  sl_exec (disch := exact hchk')
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    delta run.sl.v233 run.sl.v235 run.sl.v236 run.sl.v237 run.sl.v273 run.sl.r_21
    simp only [rd2, rd3]
    unfold nDw accB accA nXm nDyc
    refine read_st3 (congrArg (k0_pay7 _ _) (read_st3 ?_ ?_)) (read_st3 ?_ ?_)
    · exact congr (congr (congrArg k0_pay6 (read_st3 rfl rfl)) (read_st2 rfl (read_st2 rfl rfl)))
        (read_st2 (congrArg (k0_pay4 _ _) (read_st2 rfl rfl)) (read_st2 rfl rfl))
    · exact read_st3 rfl rfl
    · exact congr (congr (congrArg k0_pay6 (read_st3 rfl rfl)) (read_st2 rfl (read_st2 rfl rfl)))
        (read_st2 (congrArg (k0_pay4 _ _) (read_st2 rfl rfl)) (read_st2 rfl rfl))
    · exact read_st3 rfl rfl
  isplitl [H7]
  · iexists _; isplitr; swap; · iexact H7
    ipureintro
    delta run.sl.v265
    simp only [rd2]
    unfold nXc
    exact read_st2 (congrArg (k0_pay12 _ _ _ _) (read_st2 rfl rfl)) (read_st2 rfl rfl)
  isplitl [H8]
  · iexists _; isplitr; swap; · iexact H8
    ipureintro
    delta run.sl.v273 run.sl.r_21
    simp only [rd2]
    unfold nDyc
    exact read_st2 (congrArg (k0_pay4 _ _) (read_st2 rfl rfl)) (read_st2 rfl rfl)
  isplitl [H9]
  · iexists _; isplitr; swap; · iexact H9
    ipureintro
    exact rd_store_rect _ _ _
  isplitl [H10]
  · iexists _; isplitr; swap; · iexact H10
    ipureintro
    exact rd_store_rect _ _ _
  · iexists _; isplitr; swap; · iexact H11
    ipureintro
    simp only [rd2]
    unfold nXm
    exact read_st2 rfl (read_st2 rfl rfl)

end Cert.KernelIdeal.Body
end
-- ==== Proof.Frame.lean ====
module

public import proofs.«01_k».proof.Proof.Body
public import Idealize.ShloMosaic.Lib.Pipeline.Frame
public import Idealize.ShloMosaic.Lib.StableHlo.Run

/-!
The call, run from any memory whose table is admissible: for any relation `R` between what a visit finds in its windows'
buffers and what it leaves there, kept by one visit (`hR`), the arrays end in that relation's closure.
-/

@[expose] public section

set_option maxRecDepth 16384

noncomputable section

namespace Cert.KernelIdeal.Frame

open Cert.KernelIdeal Cert.KernelIdeal.Gen Cert.KernelIdeal.Body
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The fifteen stretches of host operations before the call. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

/-- The buffers' contents at the call. -/
abbrev V (m : (ℓ : Loc nD τ sig) → Buf (Elt F) ℓ) (c : Dev nD) (b : Ref sig .tc) : Buf (Elt F) ((c.tc : Thread nD τ).loc b) :=
  StableHlo.after (opss (F := F)).flatten (fun b => m (c, b)) b

abbrev Blk (a : (pcfg0 (F := F)).Adm) (w : Fin 9) : Type := ((cfg0 a).win w).block.Idx → Elt F ((cfg0 a).win w).elt

/-- The data of the call at a relation. -/
abbrev rdat (a : (pcfg0 (F := F)).Adm) (m : (ℓ : Loc nD τ sig) → Buf (Elt F) ℓ) (R : (w : Fin 9) → Fin (cfg0 a).N → Blk a w → Blk a w → Prop) (c : Dev nD) :
    RDat τ (Elt F) Unit ℕ (UR sig nD τ) ℕ (cfg0 a) c where
  A w := V m c (arrRef (cfg0 a).spec w)
  after := R
  Φ _ := iprop(ΦA (cfg0 a).spec c ∗ ΦT pre0 a.1 c)
  q _ := fullShare
  owed _ := 0

theorem whole_out (c : Dev nD) (b : Ref sig .tc) (q : PosShare TreeShare) (X : b.ty.Contents (Elt F)) :
    (owns (c : Thread nD τ) (Memref.whole b) q X : sProp 𝕄) ⊢ (((c : Thread nD τ).loc b) ↦{q} X) := by
  rw [owns_whole_eq]; iintro ⟨%f, %hf, H⟩; subst hf; iexact H

set_option maxHeartbeats 1600000 in
theorem sound (c : Dev nD) (t : Fin grid0.N) (sl : (w : Fin 9) → Fin (spec0 w).nbuf) (O O' : sProp 𝕄)
    (x1 : Vec F S7x103 .i32) (y0 : Vec F S512x2048 .bf16) (R0 : Vec F S512x2048 .bf16 → Prop) (y1 : Vec F S512x2048 .bf16) (R1 : Vec F S512x2048 .bf16 → Prop) (y2 : Vec F S8x2048 .f32) (R2 : Vec F S8x2048 .f32 → Prop) (y3 : Vec F S8x2048 .f32) (R3 : Vec F S8x2048 .f32 → Prop) (y4 : Vec F S1x2048x2048 .f32) (R4 : Vec F S1x2048x2048 .f32 → Prop) (y5 : Vec F S512x2048 .fp8e4m3) (R5 : Vec F S512x2048 .fp8e4m3 → Prop) (y6 : Vec F S512x2048 .fp8e5m2) (R6 : Vec F S512x2048 .fp8e5m2 → Prop) (y7 : Vec F S8x2048 .f32) (R7 : Vec F S8x2048 .f32 → Prop) (y8 : Vec F S8x2048 .f32) (R8 : Vec F S8x2048 .f32 → Prop)
    (hchk : k0_chk1 (wE x1 (grid0.coords t))) (hO : O ⊢ O')
    (hR : ∀ x11 : Vec F S512x2048 .fp8e4m3, R0 y0 ∧ R1 y1 ∧ R2 y2 ∧ R3 y3 ∧ R4 (nDw x1 (grid0.coords t) hchk y0 y1 y2 y3 y4 y6 x11) ∧ R5 (nXc x1 (grid0.coords t) hchk y0 y2 y5) ∧ R6 (nDyc x1 (grid0.coords t) hchk y1 y3 y6) ∧ R7 (nXs x1 (grid0.coords t) hchk y2 y7) ∧ R8 (nDys x1 (grid0.coords t) hchk y3 y8)) :
    iprop((iprop((∃ f : Buf (Elt F) ((c : Thread nD τ).loc cc0_scratch0), ((c : Thread nD τ).loc cc0_scratch0) ↦{fullShare} f) ∗ ∃ r, prngReg c r)
        ∗ ((c.tc : Thread nD τ).loc main_v105) ↦{fullShare.right} x1)
      ∗ O
      ∗ owns (c : Thread nD τ) (spec0_0.stage (sl 0)) fullShare y0 ∗ owns (c : Thread nD τ) (spec0_1.stage (sl 1)) fullShare y1 ∗ owns (c : Thread nD τ) (spec0_2.stage (sl 2)) fullShare y2 ∗ owns (c : Thread nD τ) (spec0_3.stage (sl 3)) fullShare y3 ∗ owns (c : Thread nD τ) (spec0_4.stage (sl 4)) fullShare y4 ∗ owns (c : Thread nD τ) (spec0_5.stage (sl 5)) fullShare y5 ∗ owns (c : Thread nD τ) (spec0_6.stage (sl 6)) fullShare y6 ∗ owns (c : Thread nD τ) (spec0_7.stage (sl 7)) fullShare y7 ∗ owns (c : Thread nD τ) (spec0_8.stage (sl 8)) fullShare y8)
    ⊢ wp frame (wpE (defs₀ (F := F)) Variants.none c none) Set.univ (cc0_wgrad (grid0.coords t) (Memref.whole main_v105) (Memref.isWhole_whole _) (spec0_0.stage (sl 0)) (hstage0_0 ((sl 0).cast nbuf0_0)) (spec0_1.stage (sl 1)) (hstage0_1 ((sl 1).cast nbuf0_1)) (spec0_2.stage (sl 2)) (hstage0_2 ((sl 2).cast nbuf0_2)) (spec0_3.stage (sl 3)) (hstage0_3 ((sl 3).cast nbuf0_3)) (spec0_4.stage (sl 4)) (hstage0_4 ((sl 4).cast nbuf0_4)) (spec0_5.stage (sl 5)) (hstage0_5 ((sl 5).cast nbuf0_5)) (spec0_6.stage (sl 6)) (hstage0_6 ((sl 6).cast nbuf0_6)) (spec0_7.stage (sl 7)) (hstage0_7 ((sl 7).cast nbuf0_7)) (spec0_8.stage (sl 8)) (hstage0_8 ((sl 8).cast nbuf0_8)) (Memref.whole cc0_scratch0) (Memref.isWhole_whole _)) fun _ =>
      iprop((iprop((∃ f : Buf (Elt F) ((c : Thread nD τ).loc cc0_scratch0), ((c : Thread nD τ).loc cc0_scratch0) ↦{fullShare} f) ∗ ∃ r, prngReg c r)
        ∗ ((c.tc : Thread nD τ).loc main_v105) ↦{fullShare.right} x1)
      ∗ O'
      ∗ iprop(∃ X, ⌜R0 X⌝ ∗ owns (c : Thread nD τ) (spec0_0.stage (sl 0)) fullShare X) ∗ iprop(∃ X, ⌜R1 X⌝ ∗ owns (c : Thread nD τ) (spec0_1.stage (sl 1)) fullShare X) ∗ iprop(∃ X, ⌜R2 X⌝ ∗ owns (c : Thread nD τ) (spec0_2.stage (sl 2)) fullShare X) ∗ iprop(∃ X, ⌜R3 X⌝ ∗ owns (c : Thread nD τ) (spec0_3.stage (sl 3)) fullShare X) ∗ iprop(∃ X, ⌜R4 X⌝ ∗ owns (c : Thread nD τ) (spec0_4.stage (sl 4)) fullShare X) ∗ iprop(∃ X, ⌜R5 X⌝ ∗ owns (c : Thread nD τ) (spec0_5.stage (sl 5)) fullShare X) ∗ iprop(∃ X, ⌜R6 X⌝ ∗ owns (c : Thread nD τ) (spec0_6.stage (sl 6)) fullShare X) ∗ iprop(∃ X, ⌜R7 X⌝ ∗ owns (c : Thread nD τ) (spec0_7.stage (sl 7)) fullShare X) ∗ iprop(∃ X, ⌜R8 X⌝ ∗ owns (c : Thread nD τ) (spec0_8.stage (sl 8)) fullShare X)) := by
  iintro ⟨⟨⟨⟨%x11, Hs⟩, Hp⟩, HT⟩, Hw, H0, H1, H2, H3, H4, H5, H6, H7, H8⟩
  obtain ⟨h0, h1, h2, h3, h4, h5, h6, h7, h8⟩ := hR x11
  iapply (Body.run c (grid0.coords t)  (Memref.whole main_v105) (Memref.isWhole_whole _) (spec0_0.stage (sl 0)) (hstage0_0 ((sl 0).cast nbuf0_0)) (spec0_1.stage (sl 1)) (hstage0_1 ((sl 1).cast nbuf0_1)) (spec0_2.stage (sl 2)) (hstage0_2 ((sl 2).cast nbuf0_2)) (spec0_3.stage (sl 3)) (hstage0_3 ((sl 3).cast nbuf0_3)) (spec0_4.stage (sl 4)) (hstage0_4 ((sl 4).cast nbuf0_4)) (spec0_5.stage (sl 5)) (hstage0_5 ((sl 5).cast nbuf0_5)) (spec0_6.stage (sl 6)) (hstage0_6 ((sl 6).cast nbuf0_6)) (spec0_7.stage (sl 7)) (hstage0_7 ((sl 7).cast nbuf0_7)) (spec0_8.stage (sl 8)) (hstage0_8 ((sl 8).cast nbuf0_8)) (Memref.whole cc0_scratch0) (Memref.isWhole_whole _) x1 y0 y1 y2 y3 y4 y5 y6 y7 y8 x11 Set.univ _ hchk)
  isplitl [HT]
  · rw [owns_whole_eq]; iexists x1; isplitr; · ipureintro; rfl
    iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs]
  · rw [owns_whole_eq]; iexists x11; isplitr; · ipureintro; rfl
    iexact Hs
  iintro ⟨HT, H0, H1, H2, H3, H4, H5, H6, H7, H8, Hs⟩
  isplitl [Hs Hp HT]
  · isplitl [Hs Hp]
    · isplitl [Hs]; · iexists _; iapply (whole_out c cc0_scratch0); iexact Hs
      iexact Hp
    iapply (whole_out c main_v105); iexact HT
  isplitl [Hw]; · iapply hO; iexact Hw
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  iexists _; isplitr; · ipureintro; exact h8
  iexact H8

theorem row (a : (pcfg0 (F := F)).Adm) (t : Fin (cfg0 a).N) :
    defs₀ (F := F) .tc (cfg0 a).body ((cfg0 a).bodyArgs t ((cfg0 a).slots t)) = cc0_wgrad (grid0.coords t) (Memref.whole main_v105) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) := by
  unfold defs₀; rw [Defs.onTc_tc]

theorem tab (c : Dev nD) (v : pre0.Contents (Elt F)) :
    (bigSep Finset.univ fun k => (((c.tc : Thread nD τ).loc (pre0.ref k)) ↦{fullShare.right} v k : sProp 𝕄))
      = (((c.tc : Thread nD τ).loc main_v105) ↦{fullShare.right} v 0) :=
  bigSep_univ_eq_bigSepL [(0 : Fin 1)] (by decide) (by decide) (fun k : Fin 1 => (((c.tc : Thread nD τ).loc (pre0.ref k)) ↦{fullShare.right} v k : sProp 𝕄))

set_option maxHeartbeats 1600000 in
theorem body (a : (pcfg0 (F := F)).Adm) (m : (ℓ : Loc nD τ sig) → Buf (Elt F) ℓ) (R : (w : Fin 9) → Fin (cfg0 a).N → Blk a w → Blk a w → Prop) (c : Dev nD)
    (hchk : ∀ t : Fin (cfg0 a).N, k0_chk1 (wE (a.1 0) (grid0.coords t)))
    (hR : ∀ (t : Fin (cfg0 a).N) (Y : (w : Fin 9) → Blk a w), (∀ w, (rdat a m R c).Finds w t (Y w)) → ∀ x11 : Vec F S512x2048 .fp8e4m3, R 0 t (Y 0) (Y 0) ∧ R 1 t (Y 1) (Y 1) ∧ R 2 t (Y 2) (Y 2) ∧ R 3 t (Y 3) (Y 3) ∧ R 4 t (Y 4) (nDw (a.1 0) (grid0.coords t) (hchk t) (Y 0) (Y 1) (Y 2) (Y 3) (Y 4) (Y 6) x11) ∧ R 5 t (Y 5) (nXc (a.1 0) (grid0.coords t) (hchk t) (Y 0) (Y 2) (Y 5)) ∧ R 6 t (Y 6) (nDyc (a.1 0) (grid0.coords t) (hchk t) (Y 1) (Y 3) (Y 6)) ∧ R 7 t (Y 7) (nXs (a.1 0) (grid0.coords t) (hchk t) (Y 2) (Y 7)) ∧ R 8 t (Y 8) (nDys (a.1 0) (grid0.coords t) (hchk t) (Y 3) (Y 8))) :
    (rdat a m R c).BodyObligation (defs₀ (F := F)) Variants.none () Set.univ := by
  intro t Y hY
  rw [row]
  refine triple_restated (sound c t ((cfg0 a).slots t) ((rdat a m R c).owesAt () t.castSucc) ((rdat a m R c).owesAt () t.succ) (a.1 0) (Y 0) (R 0 t (Y 0)) (Y 1) (R 1 t (Y 1)) (Y 2) (R 2 t (Y 2)) (Y 3) (R 3 t (Y 3)) (Y 4) (R 4 t (Y 4)) (Y 5) (R 5 t (Y 5)) (Y 6) (R 6 t (Y 6)) (Y 7) (R 7 t (Y 7)) (Y 8) (R 8 t (Y 8)) (hchk t) .rfl (hR t Y hY)) rfl ?_ fun _ => ?_
  · dsimp only [rdat]
    unfold ΦA ΦT prefHeld
    rw [scopedRest0_eq]
    exact BIClass.sep_mono (BIClass.sep_mono .rfl (Entails.of_eq (tab c a.1))) (BIClass.sep_mono .rfl (Entails.of_eq (bigSep_W0 _)))
  · dsimp only [rdat]
    unfold ΦA ΦT prefHeld
    rw [scopedRest0_eq]
    exact BIClass.sep_mono (BIClass.sep_mono .rfl (Entails.of_eq (tab c a.1).symm)) (BIClass.sep_mono .rfl (Entails.of_eq (bigSep_W0 (fun w => iprop(∃ X, ⌜R w t (Y w) X⌝ ∗ owns (c.tc : Thread nD τ) ((spec0 w).stage ((cfg0 a).slots t w)) fullShare X))).symm))

set_option maxHeartbeats 1600000 in
/-- The run: every array ends in the relation's closure, every other buffer at its contents at the call. -/
theorem run (a : (pcfg0 (F := F)).Adm) (m : (ℓ : Loc nD τ sig) → Buf (Elt F) ℓ) (g : Dev nD → PrngReg)
    (ha : ∀ c, V m c main_v105 = a.1 0)
    (R : (w : Fin 9) → Fin (cfg0 a).N → Blk a w → Blk a w → Prop)
    (hchk : ∀ t : Fin (cfg0 a).N, k0_chk1 (wE (a.1 0) (grid0.coords t)))
    (hR : ∀ (c : Dev nD) (t : Fin (cfg0 a).N) (Y : (w : Fin 9) → Blk a w), (∀ w, (rdat a m R c).Finds w t (Y w)) → ∀ x11 : Vec F S512x2048 .fp8e4m3, R 0 t (Y 0) (Y 0) ∧ R 1 t (Y 1) (Y 1) ∧ R 2 t (Y 2) (Y 2) ∧ R 3 t (Y 3) (Y 3) ∧ R 4 t (Y 4) (nDw (a.1 0) (grid0.coords t) (hchk t) (Y 0) (Y 1) (Y 2) (Y 3) (Y 4) (Y 6) x11) ∧ R 5 t (Y 5) (nXc (a.1 0) (grid0.coords t) (hchk t) (Y 0) (Y 2) (Y 5)) ∧ R 6 t (Y 6) (nDyc (a.1 0) (grid0.coords t) (hchk t) (Y 1) (Y 3) (Y 6)) ∧ R 7 t (Y 7) (nXs (a.1 0) (grid0.coords t) (hchk t) (Y 2) (Y 7)) ∧ R 8 t (Y 8) (nDys (a.1 0) (grid0.coords t) (hchk t) (Y 3) (Y 8)))
    (Q' : PUnit × MemSt nD τ sig (Elt F) → Prop)
    (hQ' : ∀ r, RDat.FramePost (cfg0 a) (rdat a m R) (V m) r ∧ r.2.sem = (fun _ => 0) → Q' r) :
    θ_run (defs (F := F)) (onTc (main (F := F))) ⟨m, fun _ => 0, g⟩ Q' :=
  RDat.θ_run_frameP (pcfgs (F := F)) (fun _ => a) 0 launch0 defs₀ Variants.none (rdat a m R) m g main
    (fun c => body a m R c hchk (hR c)) (fun c w => by unfold RDat.share; split <;> rfl) (fun c t => rfl) (V m)
    (hmainP_prefixes (pcfgs (F := F)) 0 defs₀ Variants.none m main opss
      ⟨hostOps0_sub, hostOps0_1_sub, hostOps0_2_sub, hostOps0_3_sub, hostOps0_4_sub, hostOps0_5_sub, hostOps0_6_sub, hostOps0_7_sub, hostOps0_8_sub,
        hostOps0_9_sub, hostOps0_10_sub, hostOps0_11_sub, hostOps0_12_sub, hostOps0_13_sub, hostOps0_14_sub⟩
      (by repeat' constructor) main_chain)
    (fun c w => rfl) (fun c k => by obtain rfl : k = 0 := Subsingleton.elim _ _; exact ha c) (fun c t => rfl) Q' hQ'

end Cert.KernelIdeal.Frame

end
-- ==== Proof.Host.lean ====
module

public import proofs.«01_k».proof.Proof.Sched
public import proofs.«01_k».proof.Proof.Gen.KernelIdeal.Launch
public import Idealize.ShloMosaic.Lib.StableHlo.Run
public import Idealize.ShloMosaic.Lib.Tactic

/-!
What the host's operations leave in the table's buffer: `Sched.tbl` of the group sizes, stretch by stretch.
-/

@[expose] public section

set_option maxRecDepth 16384

noncomputable section

namespace Cert.KernelIdeal.Host

open Cert.KernelIdeal Cert.KernelIdeal.Gen Cert.Sched
open Idealize.ShloMosaic Idealize.ShloMosaic.TcCoe Idealize.ShloMosaic.Routing
open Idealize.SL.Sem

variable {F : FTy → Type} [FloatOps F]

/-- What stands in the buffers still read after 0 stretches. -/
structure I0 (W : Valuation τ sig (Elt F)) (gs : V8) : Prop where
  h_arg2 : W (Proc.devRef .tc main_arg2) = (gs)

/-- What stands in the buffers still read after 1 stretches. -/
structure I1 (W : Valuation τ sig (Elt F)) (gs : V8) : Prop where
  h_v0 : W (Proc.devRef .tc main_v0) = (cum gs)
  h_arg2 : W (Proc.devRef .tc main_arg2) = (gs)

/-- What stands in the buffers still read after 2 stretches. -/
structure I2 (W : Valuation τ sig (Elt F)) (gs : V8) : Prop where
  h_v1 : W (Proc.devRef .tc main_v1) = (starts gs)
  h_c : W (Proc.devRef .tc main_c) = (c512)
  h_v0 : W (Proc.devRef .tc main_v0) = (cum gs)
  h_arg2 : W (Proc.devRef .tc main_arg2) = (gs)

/-- What stands in the buffers still read after 3 stretches. -/
structure I3 (W : Valuation τ sig (Elt F)) (gs : V8) : Prop where
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 4 stretches. -/
structure I4 (W : Valuation τ sig (Elt F)) (gs : V8) : Prop where
  h_v4 : W (Proc.devRef .tc main_v4) = (cmpi .sgt gs (k8 0#32))
  h_v6 : W (Proc.devRef .tc main_v6) = (subi (cum gs) (k8 1#32))
  h_c_2 : W (Proc.devRef .tc main_c_2) = (c512)
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 5 stretches. -/
structure I5 (W : Valuation τ sig (Elt F)) (gs : V8) : Prop where
  h_v7 : W (Proc.devRef .tc main_v7) = (blast gs)
  h_v4 : W (Proc.devRef .tc main_v4) = (cmpi .sgt gs (k8 0#32))
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 6 stretches. -/
structure I6 (W : Valuation τ sig (Elt F)) (gs : V8) : Prop where
  h_v10 : W (Proc.devRef .tc main_v10) = (addi (subi (blast gs) (bfirst gs)) (k8 1#32))
  h_c_4 : W (Proc.devRef .tc main_c_4) = (constantI Routing.shape0 32 1#32)
  h_v4 : W (Proc.devRef .tc main_v4) = (cmpi .sgt gs (k8 0#32))
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 7 stretches. -/
structure I7 (W : Valuation τ sig (Elt F)) (gs : V8) : Prop where
  h_v11 : W (Proc.devRef .tc main_v11) = (nblk gs)
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 8 stretches. -/
structure I8 (W : Valuation τ sig (Elt F)) (gs : V8) : Prop where
  h_v12 : W (Proc.devRef .tc main_v12) = (vend gs)
  h_v11 : W (Proc.devRef .tc main_v11) = (nblk gs)
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 9 stretches. -/
structure I9 (W : Valuation τ sig (Elt F)) (gs : V8) : Prop where
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v59 : W (Proc.devRef .tc main_v59) = (pick gs (starts gs))
  h_c_14 : W (Proc.devRef .tc main_c_14) = (c512)
  h_v11 : W (Proc.devRef .tc main_v11) = (nblk gs)
  h_v1 : W (Proc.devRef .tc main_v1) = (starts gs)
  h_v0 : W (Proc.devRef .tc main_v0) = (cum gs)

/-- What stands in the buffers still read after 10 stretches. -/
structure I10 (W : Valuation τ sig (Elt F)) (gs : V8) : Prop where
  h_v60 : W (Proc.devRef .tc main_v60) = (pyRem b103 (pick gs (starts gs)) c512)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 11 stretches. -/
structure I11 (W : Valuation τ sig (Elt F)) (gs : V8) : Prop where
  h_v62 : W (Proc.devRef .tc main_v62) = (rem0 gs)
  h_c_16 : W (Proc.devRef .tc main_c_16) = (constantI Routing.shape0 32 1#32)
  h_c_17 : W (Proc.devRef .tc main_c_17) = (constantI Routing.shape0 32 0#32)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 12 stretches. -/
structure I12 (W : Valuation τ sig (Elt F)) (gs : V8) : Prop where
  h_v63 : W (Proc.devRef .tc main_v63) = (select (rem0 gs) (k103 1#32) (k103 0#32))
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 13 stretches. -/
structure I13 (W : Valuation τ sig (Elt F)) (gs : V8) : Prop where
  h_v67 : W (Proc.devRef .tc main_v67) = (blkB gs)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 14 stretches. -/
structure I14 (W : Valuation τ sig (Elt F)) (gs : V8) : Prop where
  h_v68 : W (Proc.devRef .tc main_v68) = (blk gs)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v11 : W (Proc.devRef .tc main_v11) = (nblk gs)
  h_v1 : W (Proc.devRef .tc main_v1) = (starts gs)
  h_v0 : W (Proc.devRef .tc main_v0) = (cum gs)

/-- What stands in the buffers still read after 15 stretches. -/
structure I15 (W : Valuation τ sig (Elt F)) (gs : V8) : Prop where
  h_v105 : W (Proc.devRef .tc main_v105) = (tbl gs)

set_option maxHeartbeats 4000000 in
theorem t0 (W : Valuation τ sig (Elt F)) (gs : V8) (h : I0 W gs) : I1 (StableHlo.after hostOps0 W) gs := by
  obtain ⟨h_arg2⟩ := h
  constructor
  · after_results_simp <;>
    first | assumption | (simp only [h_arg2]; done) | (simp only [h_arg2]; rfl) | rfl
  · after_results_simp <;>
    first | assumption | (simp only [h_arg2]; done) | (simp only [h_arg2]; rfl) | rfl

set_option maxHeartbeats 4000000 in
theorem t1 (W : Valuation τ sig (Elt F)) (gs : V8) (h : I1 W gs) : I2 (StableHlo.after hostOps0_1 W) gs := by
  obtain ⟨h_v0, h_arg2⟩ := h
  constructor
  · after_results_simp <;>
    first | assumption | (simp only [h_v0, h_arg2]; done) | (simp only [h_v0, h_arg2]; rfl) | rfl
  · after_results_simp <;>
    first | assumption | (simp only [h_v0, h_arg2]; done) | (simp only [h_v0, h_arg2]; rfl) | rfl
  · after_results_simp <;>
    first | assumption | (simp only [h_v0, h_arg2]; done) | (simp only [h_v0, h_arg2]; rfl) | rfl
  · after_results_simp <;>
    first | assumption | (simp only [h_v0, h_arg2]; done) | (simp only [h_v0, h_arg2]; rfl) | rfl

set_option maxHeartbeats 4000000 in
theorem t2 (W : Valuation τ sig (Elt F)) (gs : V8) (h : I2 W gs) : I3 (StableHlo.after hostOps0_2 W) gs := by
  obtain ⟨h_v1, h_c, h_v0, h_arg2⟩ := h
  constructor
  · after_results_simp <;>
    first | assumption | (simp only [h_v1, h_c, h_v0, h_arg2]; done) | (simp only [h_v1, h_c, h_v0, h_arg2]; rfl) | rfl
  · after_results_simp <;>
    first | assumption | (simp only [h_v1, h_c, h_v0, h_arg2]; done) | (simp only [h_v1, h_c, h_v0, h_arg2]; rfl) | rfl
  · after_results_simp <;>
    first | assumption | (simp only [h_v1, h_c, h_v0, h_arg2]; done) | (simp only [h_v1, h_c, h_v0, h_arg2]; rfl) | rfl
  · after_results_simp <;>
    first | assumption | (simp only [h_v1, h_c, h_v0, h_arg2]; done) | (simp only [h_v1, h_c, h_v0, h_arg2]; rfl) | rfl

set_option maxHeartbeats 4000000 in
theorem t3 (W : Valuation τ sig (Elt F)) (gs : V8) (h : I3 W gs) : I4 (StableHlo.after hostOps0_3 W) gs := by
  obtain ⟨h_v2, h_v1, h_v0, h_arg2⟩ := h
  constructor
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl

set_option maxHeartbeats 4000000 in
theorem t4 (W : Valuation τ sig (Elt F)) (gs : V8) (h : I4 W gs) : I5 (StableHlo.after hostOps0_4 W) gs := by
  obtain ⟨h_v4, h_v6, h_c_2, h_v2, h_v1, h_v0, h_arg2⟩ := h
  constructor
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl

set_option maxHeartbeats 4000000 in
theorem t5 (W : Valuation τ sig (Elt F)) (gs : V8) (h : I5 W gs) : I6 (StableHlo.after hostOps0_5 W) gs := by
  obtain ⟨h_v7, h_v4, h_v2, h_v1, h_v0, h_arg2⟩ := h
  constructor
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl

set_option maxHeartbeats 4000000 in
theorem t6 (W : Valuation τ sig (Elt F)) (gs : V8) (h : I6 W gs) : I7 (StableHlo.after hostOps0_6 W) gs := by
  obtain ⟨h_v10, h_c_4, h_v4, h_v2, h_v1, h_v0, h_arg2⟩ := h
  constructor
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl

set_option maxHeartbeats 4000000 in
theorem t7 (W : Valuation τ sig (Elt F)) (gs : V8) (h : I7 W gs) : I8 (StableHlo.after hostOps0_7 W) gs := by
  obtain ⟨h_v11, h_v2, h_v1, h_v0, h_arg2⟩ := h
  constructor
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl

set_option maxHeartbeats 4000000 in
theorem t8 (W : Valuation τ sig (Elt F)) (gs : V8) (h : I8 W gs) : I9 (StableHlo.after hostOps0_8 W) gs := by
  obtain ⟨h_v12, h_v11, h_v2, h_v1, h_v0, h_arg2⟩ := h
  constructor
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl

set_option maxHeartbeats 4000000 in
theorem t9 (W : Valuation τ sig (Elt F)) (gs : V8) (h : I9 W gs) : I10 (StableHlo.after hostOps0_9 W) gs := by
  obtain ⟨h_v13, h_v12, h_v25, h_v32, h_v38, h_v42, h_v49, h_v51, h_v55, h_v59, h_c_14, h_v11, h_v1, h_v0⟩ := h
  constructor
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl

set_option maxHeartbeats 4000000 in
theorem t10 (W : Valuation τ sig (Elt F)) (gs : V8) (h : I10 W gs) : I11 (StableHlo.after hostOps0_10 W) gs := by
  obtain ⟨h_v60, h_v13, h_v12, h_v25, h_v32, h_v38, h_v42, h_v49, h_v51, h_v55, h_v11, h_v1, h_v0⟩ := h
  constructor
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl

set_option maxHeartbeats 4000000 in
theorem t11 (W : Valuation τ sig (Elt F)) (gs : V8) (h : I11 W gs) : I12 (StableHlo.after hostOps0_11 W) gs := by
  obtain ⟨h_v62, h_c_16, h_c_17, h_v13, h_v12, h_v25, h_v32, h_v38, h_v42, h_v49, h_v51, h_v55, h_v11, h_v1, h_v0⟩ := h
  constructor
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl

set_option maxHeartbeats 4000000 in
theorem t12 (W : Valuation τ sig (Elt F)) (gs : V8) (h : I12 W gs) : I13 (StableHlo.after hostOps0_12 W) gs := by
  obtain ⟨h_v63, h_v13, h_v12, h_v25, h_v32, h_v38, h_v42, h_v49, h_v51, h_v55, h_v11, h_v1, h_v0⟩ := h
  constructor
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl

set_option maxHeartbeats 4000000 in
theorem t13 (W : Valuation τ sig (Elt F)) (gs : V8) (h : I13 W gs) : I14 (StableHlo.after hostOps0_13 W) gs := by
  obtain ⟨h_v67, h_v13, h_v12, h_v25, h_v32, h_v38, h_v42, h_v49, h_v51, h_v55, h_v11, h_v1, h_v0⟩ := h
  constructor
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl

end Cert.KernelIdeal.Host

end
-- ==== Proof.HostTable.lean ====
module

public import proofs.«01_k».proof.Proof.Host
public import proofs.«01_k».proof.Proof.Gen.KernelIdeal.Launch
public import Idealize.ShloMosaic.Lib.StableHlo.Run
public import Idealize.ShloMosaic.Lib.Tactic

/-!
What the host's operations leave in the table's buffer: `Sched.tbl` of the group sizes, stretch by stretch.
-/

@[expose] public section

set_option maxRecDepth 16384

noncomputable section

namespace Cert.KernelIdeal.Host

open Cert.KernelIdeal Cert.KernelIdeal.Gen Cert.Sched
open Idealize.ShloMosaic Idealize.ShloMosaic.TcCoe Idealize.ShloMosaic.Routing
open Idealize.SL.Sem

variable {F : FTy → Type} [FloatOps F]

/-- The last stretch without the operation that stacks the seven rows. -/
abbrev ops14a : List (HloOp τ sig (Elt F)) :=
  ( StableHlo.unary main_v12 main_v69 ((extractStridedSlice S1 ![7] · slices_S8_S1_7) : (⟨S8, .i32⟩ : BufTy).Contents (Elt F) → (⟨S1, .i32⟩ : BufTy).Contents (Elt F))
  :: StableHlo.reshape main_v69 main_v70 (rfl : (.i32 : EltTy) = .i32) shapeCasts_S1_S_
  :: StableHlo.unary main_v70 main_v71 (broadcastInDim S103 ![] bcast_S_S103 : (⟨S_, .i32⟩ : BufTy).Contents (Elt F) → (⟨S103, .i32⟩ : BufTy).Contents (Elt F))
  :: StableHlo.binary main_v13 main_v71 main_v72 (cmpi .slt : (⟨S103, .i32⟩ : BufTy).Contents (Elt F) → (⟨S103, .i32⟩ : BufTy).Contents (Elt F) → (⟨S103, .i1⟩ : BufTy).Contents (Elt F))
  :: StableHlo.nullary main_c_19 (constantI S_ 32 0#32)
  :: StableHlo.unary main_c_19 main_v73 (broadcastInDim S103 ![] bcast_S_S103 : (⟨S_, .i32⟩ : BufTy).Contents (Elt F) → (⟨S103, .i32⟩ : BufTy).Contents (Elt F))
  :: StableHlo.binary main_v38 main_v73 main_v74 (cmpi .eq : (⟨S103, .i32⟩ : BufTy).Contents (Elt F) → (⟨S103, .i32⟩ : BufTy).Contents (Elt F) → (⟨S103, .i1⟩ : BufTy).Contents (Elt F))
  :: StableHlo.binary main_v72 main_v74 main_v75 (andi : (⟨S103, .i1⟩ : BufTy).Contents (Elt F) → (⟨S103, .i1⟩ : BufTy).Contents (Elt F) → (⟨S103, .i1⟩ : BufTy).Contents (Elt F))
  :: StableHlo.unary main_v11 main_v76 (broadcastInDim S1x8 ![1] bcast_S8_S1x8_1 : (⟨S8, .i32⟩ : BufTy).Contents (Elt F) → (⟨S1x8, .i32⟩ : BufTy).Contents (Elt F))
  :: StableHlo.unary main_v76 main_v77 (broadcastInDim S103x8 ![0, 1] bcast_S1x8_S103x8_0_1 : (⟨S1x8, .i32⟩ : BufTy).Contents (Elt F) → (⟨S103x8, .i32⟩ : BufTy).Contents (Elt F))
  :: StableHlo.binary main_v32 main_v77 main_v78 (muli : (⟨S103x8, .i32⟩ : BufTy).Contents (Elt F) → (⟨S103x8, .i32⟩ : BufTy).Contents (Elt F) → (⟨S103x8, .i32⟩ : BufTy).Contents (Elt F))
  :: StableHlo.nullary main_c_20 (constantI S_ 32 0#32)
  :: StableHlo.binary main_v78 main_c_20 main_v79 ((fun x v => Host.reduce IntOp.addi x v reducesTo_S103x8_S103_d1 h_S_) : (⟨S103x8, .i32⟩ : BufTy).Contents (Elt F) → (⟨S_, .i32⟩ : BufTy).Contents (Elt F) → (⟨S103, .i32⟩ : BufTy).Contents (Elt F))
  :: StableHlo.nullary main_c_21 (constantI S_ 32 1#32)
  :: StableHlo.unary main_c_21 main_v80 (broadcastInDim S103 ![] bcast_S_S103 : (⟨S_, .i32⟩ : BufTy).Contents (Elt F) → (⟨S103, .i32⟩ : BufTy).Contents (Elt F))
  :: StableHlo.binary main_v79 main_v80 main_v81 (subi : (⟨S103, .i32⟩ : BufTy).Contents (Elt F) → (⟨S103, .i32⟩ : BufTy).Contents (Elt F) → (⟨S103, .i32⟩ : BufTy).Contents (Elt F))
  :: StableHlo.binary main_v38 main_v81 main_v82 (cmpi .eq : (⟨S103, .i32⟩ : BufTy).Contents (Elt F) → (⟨S103, .i32⟩ : BufTy).Contents (Elt F) → (⟨S103, .i1⟩ : BufTy).Contents (Elt F))
  :: StableHlo.binary main_v72 main_v82 main_v83 (andi : (⟨S103, .i1⟩ : BufTy).Contents (Elt F) → (⟨S103, .i1⟩ : BufTy).Contents (Elt F) → (⟨S103, .i1⟩ : BufTy).Contents (Elt F))
  :: StableHlo.nullary main_c_22 (constantI S_ 32 0#32)
  :: StableHlo.unary main_c_22 main_v84 (broadcastInDim S103 ![] bcast_S_S103 : (⟨S_, .i32⟩ : BufTy).Contents (Elt F) → (⟨S103, .i32⟩ : BufTy).Contents (Elt F))
  :: StableHlo.binary main_v42 main_v84 main_v85 (cmpi .sgt : (⟨S103, .i32⟩ : BufTy).Contents (Elt F) → (⟨S103, .i32⟩ : BufTy).Contents (Elt F) → (⟨S103, .i1⟩ : BufTy).Contents (Elt F))
  :: StableHlo.binary main_v72 main_v85 main_v86 (andi : (⟨S103, .i1⟩ : BufTy).Contents (Elt F) → (⟨S103, .i1⟩ : BufTy).Contents (Elt F) → (⟨S103, .i1⟩ : BufTy).Contents (Elt F))
  :: StableHlo.unary main_v1 main_v87 (broadcastInDim S1x8 ![1] bcast_S8_S1x8_1 : (⟨S8, .i32⟩ : BufTy).Contents (Elt F) → (⟨S1x8, .i32⟩ : BufTy).Contents (Elt F))
  :: StableHlo.unary main_v87 main_v88 (broadcastInDim S103x8 ![0, 1] bcast_S1x8_S103x8_0_1 : (⟨S1x8, .i32⟩ : BufTy).Contents (Elt F) → (⟨S103x8, .i32⟩ : BufTy).Contents (Elt F))
  :: StableHlo.binary main_v32 main_v88 main_v89 (muli : (⟨S103x8, .i32⟩ : BufTy).Contents (Elt F) → (⟨S103x8, .i32⟩ : BufTy).Contents (Elt F) → (⟨S103x8, .i32⟩ : BufTy).Contents (Elt F))
  :: StableHlo.nullary main_c_23 (constantI S_ 32 0#32)
  :: StableHlo.binary main_v89 main_c_23 main_v90 ((fun x v => Host.reduce IntOp.addi x v reducesTo_S103x8_S103_d1 h_S_) : (⟨S103x8, .i32⟩ : BufTy).Contents (Elt F) → (⟨S_, .i32⟩ : BufTy).Contents (Elt F) → (⟨S103, .i32⟩ : BufTy).Contents (Elt F))
  :: StableHlo.unary main_v0 main_v91 (broadcastInDim S1x8 ![1] bcast_S8_S1x8_1 : (⟨S8, .i32⟩ : BufTy).Contents (Elt F) → (⟨S1x8, .i32⟩ : BufTy).Contents (Elt F))
  :: StableHlo.unary main_v91 main_v92 (broadcastInDim S103x8 ![0, 1] bcast_S1x8_S103x8_0_1 : (⟨S1x8, .i32⟩ : BufTy).Contents (Elt F) → (⟨S103x8, .i32⟩ : BufTy).Contents (Elt F))
  :: StableHlo.binary main_v32 main_v92 main_v93 (muli : (⟨S103x8, .i32⟩ : BufTy).Contents (Elt F) → (⟨S103x8, .i32⟩ : BufTy).Contents (Elt F) → (⟨S103x8, .i32⟩ : BufTy).Contents (Elt F))
  :: StableHlo.nullary main_c_24 (constantI S_ 32 0#32)
  :: StableHlo.binary main_v93 main_c_24 main_v94 ((fun x v => Host.reduce IntOp.addi x v reducesTo_S103x8_S103_d1 h_S_) : (⟨S103x8, .i32⟩ : BufTy).Contents (Elt F) → (⟨S_, .i32⟩ : BufTy).Contents (Elt F) → (⟨S103, .i32⟩ : BufTy).Contents (Elt F))
  :: StableHlo.unary main_v75 main_v95 ((extui 32 · natLt_1_32) : (⟨S103, .i1⟩ : BufTy).Contents (Elt F) → (⟨S103, .i32⟩ : BufTy).Contents (Elt F))
  :: StableHlo.unary main_v83 main_v96 ((extui 32 · natLt_1_32) : (⟨S103, .i1⟩ : BufTy).Contents (Elt F) → (⟨S103, .i32⟩ : BufTy).Contents (Elt F))
  :: StableHlo.unary main_v86 main_v97 ((extui 32 · natLt_1_32) : (⟨S103, .i1⟩ : BufTy).Contents (Elt F) → (⟨S103, .i32⟩ : BufTy).Contents (Elt F))
  :: StableHlo.unary main_v25 main_v98 (broadcastInDim S1x103 ![1] bcast_S103_S1x103_1 : (⟨S103, .i32⟩ : BufTy).Contents (Elt F) → (⟨S1x103, .i32⟩ : BufTy).Contents (Elt F))
  :: StableHlo.unary main_v68 main_v99 (broadcastInDim S1x103 ![1] bcast_S103_S1x103_1 : (⟨S103, .i32⟩ : BufTy).Contents (Elt F) → (⟨S1x103, .i32⟩ : BufTy).Contents (Elt F))
  :: StableHlo.unary main_v90 main_v100 (broadcastInDim S1x103 ![1] bcast_S103_S1x103_1 : (⟨S103, .i32⟩ : BufTy).Contents (Elt F) → (⟨S1x103, .i32⟩ : BufTy).Contents (Elt F))
  :: StableHlo.unary main_v94 main_v101 (broadcastInDim S1x103 ![1] bcast_S103_S1x103_1 : (⟨S103, .i32⟩ : BufTy).Contents (Elt F) → (⟨S1x103, .i32⟩ : BufTy).Contents (Elt F))
  :: StableHlo.unary main_v95 main_v102 (broadcastInDim S1x103 ![1] bcast_S103_S1x103_1 : (⟨S103, .i32⟩ : BufTy).Contents (Elt F) → (⟨S1x103, .i32⟩ : BufTy).Contents (Elt F))
  :: StableHlo.unary main_v96 main_v103 (broadcastInDim S1x103 ![1] bcast_S103_S1x103_1 : (⟨S103, .i32⟩ : BufTy).Contents (Elt F) → (⟨S1x103, .i32⟩ : BufTy).Contents (Elt F))
  :: StableHlo.unary main_v97 main_v104 (broadcastInDim S1x103 ![1] bcast_S103_S1x103_1 : (⟨S103, .i32⟩ : BufTy).Contents (Elt F) → (⟨S1x103, .i32⟩ : BufTy).Contents (Elt F))
  :: [] )

/-- The operation that stacks the seven rows. -/
abbrev op14b : HloOp τ sig (Elt F) :=
  StableHlo.nary ![main_v98, main_v99, main_v100, main_v101, main_v102, main_v103, main_v104] main_v105 (fun u => (concatenate S7x103 0 [⟨S1x103, (u 0 : (⟨S1x103, .i32⟩ : BufTy).Contents (Elt F))⟩, ⟨S1x103, (u 1 : (⟨S1x103, .i32⟩ : BufTy).Contents (Elt F))⟩, ⟨S1x103, (u 2 : (⟨S1x103, .i32⟩ : BufTy).Contents (Elt F))⟩, ⟨S1x103, (u 3 : (⟨S1x103, .i32⟩ : BufTy).Contents (Elt F))⟩, ⟨S1x103, (u 4 : (⟨S1x103, .i32⟩ : BufTy).Contents (Elt F))⟩, ⟨S1x103, (u 5 : (⟨S1x103, .i32⟩ : BufTy).Contents (Elt F))⟩, ⟨S1x103, (u 6 : (⟨S1x103, .i32⟩ : BufTy).Contents (Elt F))⟩] concatenates_S1x103_S1x103_S1x103_S1x103_S1x103_S1x103_S1x103_S7x103_d0 : (⟨S7x103, .i32⟩ : BufTy).Contents (Elt F)))

/-- What the seven rows' buffers hold. -/
structure J15 (W : Valuation τ sig (Elt F)) (gs : V8) : Prop where
  h0 : W (Proc.devRef .tc main_v98) = row1 (ex gs)
  h1 : W (Proc.devRef .tc main_v99) = row1 (blk gs)
  h2 : W (Proc.devRef .tc main_v100) = row1 (pick gs (starts gs))
  h3 : W (Proc.devRef .tc main_v101) = row1 (pick gs (cum gs))
  h4 : W (Proc.devRef .tc main_v102) = row1 (first gs)
  h5 : W (Proc.devRef .tc main_v103) = row1 (last gs)
  h6 : W (Proc.devRef .tc main_v104) = row1 (act gs)

set_option maxHeartbeats 4000000 in
theorem t14a (W : Valuation τ sig (Elt F)) (gs : V8) (h : I14 W gs) : J15 (StableHlo.after ops14a W) gs := by
  obtain ⟨h_v68, h_v13, h_v12, h_v25, h_v32, h_v38, h_v42, h_v11, h_v1, h_v0⟩ := h
  constructor
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl

theorem t14b (W : Valuation τ sig (Elt F)) (gs : V8) (h : J15 W gs) : I15 (StableHlo.after [op14b] W) gs := by
  obtain ⟨h0, h1, h2, h3, h4, h5, h6⟩ := h
  constructor
  simp only [StableHlo.after_cons, StableHlo.after_nil]
  rw [StableHlo.nary_result]
  unfold tbl
  rw [← h0, ← h1, ← h2, ← h3, ← h4, ← h5, ← h6]
  rfl

theorem t14 (W : Valuation τ sig (Elt F)) (gs : V8) (h : I14 W gs) : I15 (StableHlo.after hostOps0_14 W) gs := by
  have e : (hostOps0_14 : List (HloOp τ sig (Elt F))) = ops14a ++ [op14b] := rfl
  rw [e, StableHlo.after_append]
  exact t14b _ _ (t14a _ _ h)

/-- The fifteen stretches. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

/-- The table's buffer at the call. -/
theorem table (W : Valuation τ sig (Elt F)) (gs : V8) (h : W (Proc.devRef .tc main_arg2) = gs) :
    StableHlo.after (opss (F := F)).flatten W (Proc.devRef .tc main_v105) = tbl gs := by
  simp only [List.flatten_cons, List.flatten_nil, StableHlo.after_append, List.append_nil]
  exact ((t14 _ _ (t13 _ _ (t12 _ _ (t11 _ _ (t10 _ _ (t9 _ _ (t8 _ _ (t7 _ _ (t6 _ _ (t5 _ _ (t4 _ _ (t3 _ _ (t2 _ _ (t1 _ _ (t0 _ _ ⟨h⟩)))))))))))))))).h_v105

end Cert.KernelIdeal.Host

end
-- ==== Proof.Start.lean ====
module

public import proofs.«01_k».proof.Proof.Frame
public import proofs.«01_k».proof.Proof.HostTable
public import proofs.«01_k».proof.Proof.SchedVal
public import Idealize.ShloMosaic.Lib.Pipeline.ArrRel

/-!
The call on arguments the precondition admits: the schedule's words, the blocks they name, and the frame claim.
-/

@[expose] public section

set_option maxRecDepth 16384

noncomputable section

namespace Cert.KernelIdeal.Start

open Cert.KernelIdeal Cert.KernelIdeal.Gen Cert.KernelIdeal.Body Cert.KernelIdeal.Frame
open Idealize.ShloMosaic hiding ix0 ix1 ix2
open Idealize.ShloMosaic.ValueIdx
open Idealize.ShloMosaic.TcCoe Idealize.ShloMosaic.Pipeline
open Idealize.SL.Sem

variable {F : FTy → Type} [FloatOps F]

/-- A word of the table, read at a row and a column. -/
theorem word (x1 : Vec F S7x103 .i32) (r : Fin 7) (t : Fin 103) (o : Fin 2 → Nat) (ho0 : o 0 = r) (ho1 : o 1 = t)
    (inb : ∀ a, o a + S1x1.size a ≤ S7x103.size a) (p : 0 < S1x1.numel) :
    x1 ((Rect.unit (s := S7x103) o S1x1.size inb).emb (Shape.Idx.first p)) = x1 (ix2 r t) := by
  refine congrArg x1 (funext fun b => Fin.ext ?_)
  match b with
  | ⟨0, _⟩ =>
    have h1 : (Shape.Idx.first (s := S1x1) p 0).val < 1 := (Shape.Idx.first (s := S1x1) p 0).isLt
    show o 0 + (Shape.Idx.first (s := S1x1) p 0).val * 1 = r.val
    omega
  | ⟨1, _⟩ =>
    have h1 : (Shape.Idx.first (s := S1x1) p 1).val < 1 := (Shape.Idx.first (s := S1x1) p 1).isLt
    show o 1 + (Shape.Idx.first (s := S1x1) p 1).val * 1 = t.val
    omega

/-- A grid point's number. -/
def num (i : grid0.Coords) : Fin 103 := ⟨(i 0).val, (i 0).isLt⟩

theorem col (i : grid0.Coords) : (Scalar.indexCast (BitVec.ofNat 32 (i 0).val) : Index).toNat = (num i).val := by
  have h : (i 0).val < 103 := (i 0).isLt
  show (BitVec.ofNat 32 (i 0).val).toNat = (i 0).val
  rw [BitVec.toNat_ofNat]; omega

section Words

variable {g : Nat → Nat} {gs : Sched.V8} (hg : ∀ k : Fin 8, gs (ix1 k) = BitVec.ofNat 32 (g k)) (hS : Plan.S g 8 = 49152)
include hg hS
variable (x1 : Vec F S7x103 .i32) (hx : x1 = Sched.tbl gs) (i : grid0.Coords)
include hx

theorem wE_eq : wE x1 i = BitVec.ofNat 32 (Plan.e g (num i)) := by
  unfold wE; rw [word x1 0 (num i) _ rfl (col i), hx]; exact (Sched.tbl_ap hg hS (num i)).1
theorem wBlk_eq : wBlk x1 i = BitVec.ofNat 32 (Plan.blk g (num i)) := by
  unfold wBlk; rw [word x1 1 (num i) _ rfl (col i), hx]; exact (Sched.tbl_ap hg hS (num i)).2.1
theorem wLo_eq : wLo x1 i = BitVec.ofNat 32 (Plan.lo g (num i)) := by
  unfold wLo; rw [word x1 2 (num i) _ rfl (col i), hx]; exact (Sched.tbl_ap hg hS (num i)).2.2.1
theorem wHi_eq : wHi x1 i = BitVec.ofNat 32 (Plan.hi g (num i)) := by
  unfold wHi; rw [word x1 3 (num i) _ rfl (col i), hx]; exact (Sched.tbl_ap hg hS (num i)).2.2.2.1
theorem wFirst_eq : wFirst x1 i = BitVec.ofNat 32 (if Plan.first g (num i) then 1 else 0) := by
  unfold wFirst; rw [word x1 4 (num i) _ rfl (col i), hx]; exact (Sched.tbl_ap hg hS (num i)).2.2.2.2.1
theorem wLast_eq : wLast x1 i = BitVec.ofNat 32 (if Plan.last g (num i) then 1 else 0) := by
  unfold wLast; rw [word x1 5 (num i) _ rfl (col i), hx]; exact (Sched.tbl_ap hg hS (num i)).2.2.2.2.2.1
theorem wAct_eq : wAct x1 i = BitVec.ofNat 32 (if Plan.act g (num i) then 1 else 0) := by
  unfold wAct; rw [word x1 6 (num i) _ rfl (col i), hx]; exact (Sched.tbl_ap hg hS (num i)).2.2.2.2.2.2

theorem wE_nat : (wE x1 i).toNat = Plan.e g (num i) := by
  have := Plan.e_lt g (num i)
  rw [wE_eq hg hS x1 hx i, BitVec.toNat_ofNat]; omega
theorem wBlk_nat : (wBlk x1 i).toNat = Plan.blk g (num i) := by
  have := Plan.blk_le hS (num i)
  rw [wBlk_eq hg hS x1 hx i, BitVec.toNat_ofNat]; omega

theorem chk : k0_chk1 (wE x1 i) := by
  have h := wE_nat hg hS x1 hx i
  have h8 := Plan.e_lt g (num i)
  intro a
  match a with
  | ⟨0, _⟩ =>
    show (wE x1 i).toNat + 1 ≤ 8
    omega
  | ⟨1, _⟩ => exact Nat.le_of_eq rfl

end Words

/-- A 512-row block inside the array, whole words at any packing that divides 512. -/
theorem rows_ok (p : Nat) (hp : p ∣ 512) (o : Fin 2 → Nat) (b : Nat) (hb : b ≤ 95) (ho : o = ![b, 0]) :
    ∃ h : ∀ a, (o a + 1) * S512x2048.size a ≤ S49152x2048.size a, (Rect.block (s := S49152x2048) S512x2048.size o h).WholeWords p := by
  subst ho
  refine ⟨fun a => ?_, Rect.PackedRows.wholeWords (.inr ⟨Nat.le_refl 2, rfl, .inl ⟨?_, hp⟩⟩)⟩
  · match a with
    | ⟨0, _⟩ => show (b + 1) * 512 ≤ 49152; omega
    | ⟨1, _⟩ => show (0 + 1) * 2048 ≤ 2048; omega
  · exact Dvd.dvd.mul_left hp b

section Ok

variable {g : Nat → Nat} {gs : Sched.V8} (hg : ∀ k : Fin 8, gs (ix1 k) = BitVec.ofNat 32 (g k)) (hS : Plan.S g 8 = 49152)
include hg hS
variable (pf : pre0.Contents (Elt F)) (hx : pf 0 = Sched.tbl gs)
include hx

theorem tr0 (i : grid0.Coords) : cc0_transform_0 k0_off1_inb numel1_S1x1 pf i = ![Plan.blk g (num i), 0] := by
  have h := wBlk_nat hg hS (F := F) (pf 0) hx i
  exact congrArg (fun z => ![z, 0]) h
theorem tr1 (i : grid0.Coords) : cc0_transform_1 k0_off1_inb numel1_S1x1 pf i = ![Plan.blk g (num i), 0] := by
  have h := wBlk_nat hg hS (F := F) (pf 0) hx i
  exact congrArg (fun z => ![z, 0]) h
theorem tr4 (i : grid0.Coords) : cc0_transform_4 k0_off2_inb numel1_S1x1 pf i = ![Plan.e g (num i), 0, 0] := by
  have h := wE_nat hg hS (F := F) (pf 0) hx i
  exact congrArg (fun z => ![z, 0, 0]) h
theorem tr5 (i : grid0.Coords) : cc0_transform_5 k0_off1_inb numel1_S1x1 pf i = ![Plan.blk g (num i), 0] := by
  have h := wBlk_nat hg hS (F := F) (pf 0) hx i
  exact congrArg (fun z => ![z, 0]) h
theorem tr6 (i : grid0.Coords) : cc0_transform_6 k0_off1_inb numel1_S1x1 pf i = ![Plan.blk g (num i), 0] := by
  have h := wBlk_nat hg hS (F := F) (pf 0) hx i
  exact congrArg (fun z => ![z, 0]) h

theorem ok : ok0 pf := by
  refine ⟨fun i => ?_, fun i => ?_, fun i => ?_, fun i => ?_, fun i => ?_⟩
  · obtain ⟨h, w⟩ := rows_ok (EltTy.packing .bf16) (by decide) _ _ (Plan.blk_le hS (num i)) (tr0 hg hS pf hx i); exact ⟨h, .inr w⟩
  · obtain ⟨h, w⟩ := rows_ok (EltTy.packing .bf16) (by decide) _ _ (Plan.blk_le hS (num i)) (tr1 hg hS pf hx i); exact ⟨h, .inr w⟩
  · refine ⟨fun a => ?_, .inl rfl⟩
    rw [tr4 hg hS pf hx i]
    have := Plan.e_lt g (num i)
    match a with
    | ⟨0, _⟩ => show (Plan.e g (num i) + 1) * 1 ≤ 8; omega
    | ⟨1, _⟩ => show (0 + 1) * 2048 ≤ 2048; omega
    | ⟨2, _⟩ => show (0 + 1) * 2048 ≤ 2048; omega
  · obtain ⟨h, w⟩ := rows_ok (EltTy.packing .fp8e4m3) (by decide) _ _ (Plan.blk_le hS (num i)) (tr5 hg hS pf hx i); exact ⟨h, .inr w⟩
  · obtain ⟨h, w⟩ := rows_ok (EltTy.packing .fp8e5m2) (by decide) _ _ (Plan.blk_le hS (num i)) (tr6 hg hS pf hx i); exact ⟨h, .inr w⟩

end Ok

section Args

/-- What the host's operations write, in order. -/
abbrev written : List (Ref sig .tc) :=
  [main_call0_call0_c, main_call0_call0_v0, main_v0, main_v1, main_c, main_call1_v0, main_call1_v1, main_call1_v2, main_call1_v3, main_call1_v4,
    main_call1_v5, main_call1_v6, main_call1_v7, main_call1_v8, main_call1_c, main_call1_v9, main_call1_v10, main_call1_v11, main_call1_c_0,
    main_call1_v12, main_call1_v13, main_v2, main_c_0, main_v3, main_v4, main_c_1, main_v5, main_v6, main_c_2, main_call2_v0, main_call2_v1,
    main_call2_v2, main_call2_v3, main_call2_v4, main_call2_v5, main_call2_v6, main_call2_v7, main_call2_v8, main_call2_c, main_call2_v9, main_call2_v10,
    main_call2_v11, main_call2_c_0, main_call2_v12, main_call2_v13, main_v7, main_v8, main_c_3, main_v9, main_v10, main_c_4, main_call3_v0, main_call3_v1,
    main_v11, main_call4_call0_c, main_call4_call0_v0, main_v12, main_v13, main_v14, main_v15, main_c_5, main_v16, main_v17, main_v18, main_v19, main_v20,
    main_v21, main_v22, main_v23, main_v24, main_c_6, main_v25, main_v26, main_v27, main_v28, main_v29, main_v30, main_v31, main_v32, main_v33, main_v34,
    main_v35, main_v36, main_c_7, main_v37, main_v38, main_v39, main_v40, main_v41, main_c_8, main_v42, main_v43, main_v44, main_v45, main_c_9, main_v46,
    main_v47, main_c_10, main_v48, main_v49, main_c_11, main_v50, main_v51, main_v52, main_v53, main_v54, main_c_12, main_v55, main_v56, main_v57,
    main_v58, main_c_13, main_v59, main_c_14, main_call5_v0, main_call5_c, main_call5_v1, main_call5_c_0, main_call5_v2, main_call5_v3, main_call5_v4,
    main_call5_c_1, main_call5_v5, main_call5_v6, main_call5_c_2, main_call5_v7, main_call5_v8, main_call5_c_3, main_call5_v9, main_call5_v10,
    main_call5_v11, main_call5_v12, main_call5_v13, main_call5_v14, main_v60, main_c_15, main_v61, main_v62, main_c_16, main_c_17, main_call6_v0,
    main_call6_v1, main_v63, main_v64, main_v65, main_c_18, main_v66, main_v67, main_v68, main_v69, main_v70, main_v71, main_v72, main_c_19, main_v73,
    main_v74, main_v75, main_v76, main_v77, main_v78, main_c_20, main_v79, main_c_21, main_v80, main_v81, main_v82, main_v83, main_c_22, main_v84,
    main_v85, main_v86, main_v87, main_v88, main_v89, main_c_23, main_v90, main_v91, main_v92, main_v93, main_c_24, main_v94, main_v95, main_v96,
    main_v97, main_v98, main_v99, main_v100, main_v101, main_v102, main_v103, main_v104, main_v105]

set_option maxHeartbeats 4000000 in
/-- The host's operations leave alone what they do not write. -/
theorem keep (W : Valuation τ sig (Elt F)) (r : Ref sig .tc) (hr : r ∉ written) :
    StableHlo.after (opss (F := F)).flatten W (Proc.devRef .tc r) = W (Proc.devRef .tc r) :=
  StableHlo.after_of_writes_sub _ W (StableHlo.forall_writes_sub_of_map rfl) hr

variable (m : (ℓ : Loc nD τ sig) → Buf (Elt F) ℓ) (c : Dev nD)

theorem V_arg0 : V m c main_arg0 = m ((c.tc : Thread nD τ).loc main_arg0) := keep _ _ (by decide)
theorem V_arg1 : V m c main_arg1 = m ((c.tc : Thread nD τ).loc main_arg1) := keep _ _ (by decide)
theorem V_arg2 : V m c main_arg2 = m ((c.tc : Thread nD τ).loc main_arg2) := keep _ _ (by decide)
theorem V_arg3 : V m c main_arg3 = m ((c.tc : Thread nD τ).loc main_arg3) := keep _ _ (by decide)
theorem V_arg4 : V m c main_arg4 = m ((c.tc : Thread nD τ).loc main_arg4) := keep _ _ (by decide)
theorem V_table : V m c main_v105 = Sched.tbl (m ((c.tc : Thread nD τ).loc main_arg2)) := Host.table _ _ rfl

end Args

section Claim

variable (m : (ℓ : Loc nD τ sig) → Buf (Elt F) ℓ)

/-- The table the call prefetches. -/
def pf : pre0.Contents (Elt F) := fun k => V m 0 (pre0.ref k)

theorem pf_eq : pf m 0 = Sched.tbl (m (((0 : Dev nD).tc : Thread nD τ).loc main_arg2)) := V_table m 0

variable {g : Nat → Nat} (hg : ∀ k : Fin 8, m (((0 : Dev nD).tc : Thread nD τ).loc main_arg2) (ix1 k) = BitVec.ofNat 32 (g k)) (hS : Plan.S g 8 = 49152)

/-- The table as admissible contents. -/
def adm : (pcfg0 (F := F)).Adm := ⟨pf m, ok hg hS (pf m) (pf_eq m)⟩

/-- The call, at any relation. -/
theorem call (ρ : Dev nD → PrngReg) (R : (w : Fin 9) → Fin (cfg0 (adm m hg hS)).N → Blk (adm m hg hS) w → Blk (adm m hg hS) w → Prop)
    (hR : ∀ (c : Dev nD) (t : Fin (cfg0 (adm m hg hS)).N) (Y : (w : Fin 9) → Blk (adm m hg hS) w), (∀ w, (rdat (adm m hg hS) m R c).Finds w t (Y w)) →
      ∀ x11 : Vec F S512x2048 .fp8e4m3, R 0 t (Y 0) (Y 0) ∧ R 1 t (Y 1) (Y 1) ∧ R 2 t (Y 2) (Y 2) ∧ R 3 t (Y 3) (Y 3)
        ∧ R 4 t (Y 4) (nDw (pf m 0) (grid0.coords t) (chk hg hS _ (pf_eq m) _) (Y 0) (Y 1) (Y 2) (Y 3) (Y 4) (Y 6) x11)
        ∧ R 5 t (Y 5) (nXc (pf m 0) (grid0.coords t) (chk hg hS _ (pf_eq m) _) (Y 0) (Y 2) (Y 5))
        ∧ R 6 t (Y 6) (nDyc (pf m 0) (grid0.coords t) (chk hg hS _ (pf_eq m) _) (Y 1) (Y 3) (Y 6))
        ∧ R 7 t (Y 7) (nXs (pf m 0) (grid0.coords t) (chk hg hS _ (pf_eq m) _) (Y 2) (Y 7))
        ∧ R 8 t (Y 8) (nDys (pf m 0) (grid0.coords t) (chk hg hS _ (pf_eq m) _) (Y 3) (Y 8)))
    (Q' : PUnit × MemSt nD τ sig (Elt F) → Prop)
    (hQ' : ∀ r, RDat.FramePost (cfg0 (adm m hg hS)) (rdat (adm m hg hS) m R) (V m) r ∧ r.2.sem = (fun _ => 0) → Q' r) :
    θ_run (defs (F := F)) (onTc (main (F := F))) ⟨m, fun _ => 0, ρ⟩ Q' :=
  Frame.run (adm m hg hS) m ρ (fun c => by obtain rfl : c = 0 := Subsingleton.elim _ _; rfl) R (fun t => chk hg hS _ (pf_eq m) _) hR Q' hQ'

/-- The group sizes are no window's array. -/
theorem arg2_rest : main_arg2 ∈ restRefs sig spec0 :=
  mem_restRefs_of main_arg2 rfl fun
    | 0 => by decide | 1 => by decide | 2 => by decide | 3 => by decide | 4 => by decide | 5 => by decide | 6 => by decide | 7 => by decide | 8 => by decide
    | ⟨_ + 9, h⟩ => absurd h (Nat.not_lt.2 (Nat.le_add_left _ _))

/-- What the run leaves of an array it only reads. -/
theorem inp {a : (pcfg0 (F := F)).Adm} {R : (w : Fin 9) → Fin (cfg0 a).N → Blk a w → Blk a w → Prop} (r : PUnit × MemSt nD τ sig (Elt F))
    (h : RDat.FramePost (cfg0 a) (rdat a m R) (V m) r) (c : Dev nD) (w : Fin 9) (hin : ((cfg0 a).win w).isOut = false) :
    r.2.mem (((cfg0 a).spec w).arr.view.loc c.tc) = V m c (arrRef (cfg0 a).spec w) :=
  (congrFun ((rdat a m R c).ArrAt_in w hin _) _).mp ((h c).1 w)

set_option maxHeartbeats 1000000 in
/-- What the run leaves of the arguments. -/
theorem args_of {a : (pcfg0 (F := F)).Adm} {R : (w : Fin 9) → Fin (cfg0 a).N → Blk a w → Blk a w → Prop} (r : PUnit × MemSt nD τ sig (Elt F))
    (h : RDat.FramePost (cfg0 a) (rdat a m R) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨hw, hr⟩ := h c
  refine ⟨?_, ?_, ?_, ?_, ?_⟩
  · exact (inp m r h c ((0 : Fin 9)) rfl).trans (V_arg0 m c)
  · exact (inp m r h c ((1 : Fin 9)) rfl).trans (V_arg1 m c)
  · exact (hr main_arg2 arg2_rest).trans (V_arg2 m c)
  · exact (inp m r h c ((2 : Fin 9)) rfl).trans (V_arg3 m c)
  · exact (inp m r h c ((3 : Fin 9)) rfl).trans (V_arg4 m c)

include hg hS in
/-- The run ends with the arguments as they were and every semaphore at zero. -/
theorem quiet (ρ : Dev nD → PrngReg) :
    θ_run (defs (F := F)) (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  call m hg hS ρ (fun _ _ _ _ => True) (fun _ _ _ _ _ => ⟨trivial, trivial, trivial, trivial, trivial, trivial, trivial, trivial, trivial⟩) _
    fun r h => ⟨fun c => args_of m r h.1 c, h.2⟩

end Claim

end Cert.KernelIdeal.Start

end
-- ==== Proof.KBody.lean ====
module

public import proofs.«01_k».proof.Proof.Gen.Kernel.Launch
public import proofs.«01_k».proof.Proof.Gen.Kernel.Skeleton
public import Idealize.ShloMosaic.Lib.Tactic
public import Idealize.ShloMosaic.Lib.Pipeline.FrameBody

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one visit computes, as functions of the buffers' contents -/

section Spec

variable (x1 : Vec F S7x103 .i32) (i : grid0.Coords)

/-- The schedule's words for the visit: the expert, the block, the first row, the row past the last, and the three flags. -/
def wE : BitVec 32 := x1 ((Rect.unit (s := S7x103) (k0_off2 i) S1x1.size (k0_off2_inb i)).emb (Shape.Idx.first (numel1_S1x1.symm ▸ Nat.one_pos)))
def wBlk : BitVec 32 := x1 ((Rect.unit (s := S7x103) (k0_off1 i) S1x1.size (k0_off1_inb i)).emb (Shape.Idx.first (numel1_S1x1.symm ▸ Nat.one_pos)))
def wLo : BitVec 32 := x1 ((Rect.unit (s := S7x103) (k0_off3 i) S1x1.size (k0_off3_inb i)).emb (Shape.Idx.first (numel1_S1x1.symm ▸ Nat.one_pos)))
def wHi : BitVec 32 := x1 ((Rect.unit (s := S7x103) (k0_off4 i) S1x1.size (k0_off4_inb i)).emb (Shape.Idx.first (numel1_S1x1.symm ▸ Nat.one_pos)))
def wFirst : BitVec 32 := x1 ((Rect.unit (s := S7x103) (k0_off5 i) S1x1.size (k0_off5_inb i)).emb (Shape.Idx.first (numel1_S1x1.symm ▸ Nat.one_pos)))
def wLast : BitVec 32 := x1 ((Rect.unit (s := S7x103) (k0_off6 i) S1x1.size (k0_off6_inb i)).emb (Shape.Idx.first (numel1_S1x1.symm ▸ Nat.one_pos)))
def wAct : BitVec 32 := x1 ((Rect.unit (s := S7x103) (k0_off7 i) S1x1.size (k0_off7_inb i)).emb (Shape.Idx.first (numel1_S1x1.symm ▸ Nat.one_pos)))

/-- The scale row computed from a row of maxima of `x`, and its reciprocal. -/
def sclX (r : Vec F S1x2048 .f32) : FVec F S1x2048 .f32 :=
  k0_pay22 (k0_pay14 r) (k0_pay18 (k0_pay14 r) (k0_pay15 r) (k0_pay16 r) k0_pay17) (k0_pay19 (k0_pay14 r) (k0_pay15 r) (k0_pay16 r) k0_pay17) k0_pay20
def invX (r : Vec F S1x2048 .f32) : FVec F S1x2048 .f32 :=
  k0_pay23 (k0_pay14 r) (k0_pay18 (k0_pay14 r) (k0_pay15 r) (k0_pay16 r) k0_pay17) (k0_pay19 (k0_pay14 r) (k0_pay15 r) (k0_pay16 r) k0_pay17) k0_pay20
/-- The same of `dy`. -/
def sclY (r : Vec F S1x2048 .f32) : FVec F S1x2048 .f32 :=
  k0_pay32 (k0_pay24 r) (k0_pay28 (k0_pay24 r) k0_pay25 (k0_pay26 r) k0_pay27) (k0_pay29 (k0_pay24 r) k0_pay25 (k0_pay26 r) k0_pay27) (k0_pay30 (k0_pay24 r) k0_pay25 (k0_pay26 r) k0_pay27)
def invY (r : Vec F S1x2048 .f32) : FVec F S1x2048 .f32 :=
  k0_pay33 (k0_pay24 r) (k0_pay28 (k0_pay24 r) k0_pay25 (k0_pay26 r) k0_pay27) (k0_pay29 (k0_pay24 r) k0_pay25 (k0_pay26 r) k0_pay27) (k0_pay30 (k0_pay24 r) k0_pay25 (k0_pay26 r) k0_pay27)

variable (hchk : k0_chk1 (wE x1 i))

/-- The expert's row of an 8-row buffer, as a rectangle and as the row read. -/
def rowR : Rect S8x2048 := Rect.unit (s := S8x2048) (k0_off8 (wE x1 i)) S1x2048.size (k0_off8_inb (wE x1 i) hchk)
def row (x : Vec F S8x2048 .f32) : Vec F S1x2048 .f32 := fun j => x ((rowR x1 i hchk).emb j)

/-- The two scale buffers after the visit: the expert's row rewritten. -/
def nXs (x4 x9 : Vec F S8x2048 .f32) : Vec F S8x2048 .f32 := (rowR x1 i hchk).overlay x9 (sclX (row x1 i hchk x4))
def nDys (x5 x10 : Vec F S8x2048 .f32) : Vec F S8x2048 .f32 := (rowR x1 i hchk).overlay x10 (sclY (row x1 i hchk x5))

/-- Whether the visit quantises the whole block, or the part of it that is the group's. -/
abbrev cWhole : Prop := k0_cond1 (wBlk x1 i) (wLo x1 i) (wHi x1 i) (wAct x1 i) = 1#1
abbrev cPart : Prop := k0_cond2 (wBlk x1 i) (wLo x1 i) (wHi x1 i) (wAct x1 i) = 1#1

/-- The block of codes of `x` after the visit. -/
def nXc (x2 : Vec F S512x2048 .bf16) (x4 : Vec F S8x2048 .f32) (x7 : Vec F S512x2048 .fp8e4m3) : Vec F S512x2048 .fp8e4m3 :=
  if cPart x1 i then k0_pay12 (wLo x1 i) (Scalar.muli (wBlk x1 i) 512#32) (invX (row x1 i hchk x4)) x2
      (if cWhole x1 i then k0_pay1 (invX (row x1 i hchk x4)) x2 else x7)
  else if cWhole x1 i then k0_pay1 (invX (row x1 i hchk x4)) x2 else x7
/-- The masked codes kept for the product. -/
def nXm (x2 : Vec F S512x2048 .bf16) (x4 : Vec F S8x2048 .f32) (x11 : Vec F S512x2048 .fp8e4m3) : Vec F S512x2048 .fp8e4m3 :=
  if cPart x1 i then k0_pay11 (wLo x1 i) (wHi x1 i) (Scalar.muli (wBlk x1 i) 512#32) (invX (row x1 i hchk x4)) x2
  else if cWhole x1 i then k0_pay2 (invX (row x1 i hchk x4)) x2 else x11
/-- The block of codes of `dy` after the visit. -/
def nDyc (x3 : Vec F S512x2048 .bf16) (x5 : Vec F S8x2048 .f32) (x8 : Vec F S512x2048 .fp8e5m2) : Vec F S512x2048 .fp8e5m2 :=
  if cPart x1 i then k0_pay4 (k0_pay10 (invY (row x1 i hchk x5)) x3) (k0_pay13 (F := F) (wLo x1 i) (Scalar.muli (wBlk x1 i) 512#32))
      (if cWhole x1 i then k0_pay3 (invY (row x1 i hchk x5)) x3 else x8)
  else if cWhole x1 i then k0_pay3 (invY (row x1 i hchk x5)) x3 else x8
/-- The accumulator after the visit: cleared at a group's first visit, the block's product added, the scales applied at
    the group's last. -/
def accA (x6 : Vec F S1x2048x2048 .f32) : Vec F S1x2048x2048 .f32 := if k0_cond3 (wFirst x1 i) = 1#1 then k0_pay5 else x6
def accB (x2 x3 : Vec F S512x2048 .bf16) (x4 x5 : Vec F S8x2048 .f32) (x6 : Vec F S1x2048x2048 .f32) (x8 : Vec F S512x2048 .fp8e5m2)
    (x11 : Vec F S512x2048 .fp8e4m3) : Vec F S1x2048x2048 .f32 :=
  if k0_cond4 (wAct x1 i) = 1#1 then k0_pay6 (accA x1 i x6) (nXm x1 i hchk x2 x4 x11) (nDyc x1 i hchk x3 x5 x8) else accA x1 i x6
def nDw (x2 x3 : Vec F S512x2048 .bf16) (x4 x5 : Vec F S8x2048 .f32) (x6 : Vec F S1x2048x2048 .f32) (x8 : Vec F S512x2048 .fp8e5m2)
    (x11 : Vec F S512x2048 .fp8e4m3) : Vec F S1x2048x2048 .f32 :=
  if k0_cond5 (wLast x1 i) = 1#1 then k0_pay7 (sclX (row x1 i hchk x4)) (sclY (row x1 i hchk x5)) (accB x1 i hchk x2 x3 x4 x5 x6 x8 x11)
  else accB x1 i hchk x2 x3 x4 x5 x6 x8 x11

end Spec

/-! ## Reading a whole memref through a rectangle -/

section Reads
variable {κ : Kind} {sp : Space} {s : Shape} {e : EltTy} {m : Memref sig κ sp s e}

omit [FloatOps F] in
/-- A load of the whole memref reads its contents; -/
theorem rd_full (f : m.view.ty.Contents (Elt F)) {off : Fin s.rank → Nat} (h : off = fun _ => 0) (inb) :
    m.view.readAt (Elt F) (Rect.unit (s := s) off s.size inb).toLoadRect f = m.view.read (Elt F) f := by
  subst h; funext x; rw [View.readAt_apply]; congr 1; funext a; apply Fin.ext; simp [Rect.unit]

omit [FloatOps F] in
/-- a store over the whole of it leaves the payload; -/
theorem rd_store_full (f : m.view.ty.Contents (Elt F)) {off : Fin s.rank → Nat} (h : off = fun _ => 0) (inb) (w : s.Idx → Elt F e)
    (L : List (View.Piece (Elt F) s e)) :
    m.view.read (Elt F) (m.view.writes (Elt F) f (⟨Rect.unit (s := s) off s.size inb, w⟩ :: L)) = w := by
  subst h; funext x
  have hx : (Rect.unit (s := s) (fun _ => 0) s.size inb).emb x = x := by
    funext a; apply Fin.ext; simp [Rect.unit, Rect.emb]
  have := View.read_writes_cons_emb (v := m.view) (f := f) (Rect.unit (s := s) (fun _ => 0) s.size inb) w L x
  rw [hx] at this; exact this

omit [FloatOps F] in
/-- a store into a rectangle of it overlays the payload. -/
theorem rd_store_rect (f : m.view.ty.Contents (Elt F)) (r : Rect s) (w : r.shape.Idx → Elt F e) :
    m.view.read (Elt F) (m.view.writes (Elt F) f [⟨r, w⟩]) = r.overlay (m.view.read (Elt F) f) w := by
  funext y
  by_cases hy : y ∈ r.set
  · obtain ⟨x, rfl⟩ := r.exists_idx_of_mem hy
    rw [show r.idx x = r.emb x from rfl, View.read_writes_cons_emb, Rect.overlay_emb]
  · rw [View.read_writes_apply_of_forall_not_mem _ _ y _ (by simpa using hy), Rect.overlay_of_not_mem _ _ _ hy]

omit [FloatOps F] in
/-- Contents chosen by a decided condition read as the chosen ones do. -/
theorem rd_dite {C : Prop} [Decidable C] (a b : m.view.ty.Contents (Elt F)) :
    m.view.read (Elt F) (if _hc : C then a else b) = if C then m.view.read (Elt F) a else m.view.read (Elt F) b := by
  by_cases h : C <;> simp [h]

end Reads

theorem z2 : (![0, 0] : Fin 2 → Nat) = fun _ => 0 := by funext a; fin_cases a <;> rfl
theorem z3 : (![0, 0, 0] : Fin 3 → Nat) = fun _ => 0 := by funext a; fin_cases a <;> rfl

section Full
variable {sp : Space} {e : EltTy}

omit [FloatOps F] in
theorem rd2 {m : Memref sig .tc sp S512x2048 e} (f : m.view.ty.Contents (Elt F)) (inb) :
    m.view.readAt (Elt F) (Rect.unit (s := S512x2048) ![0, 0] ![512, 2048] inb).toLoadRect f = m.view.read (Elt F) f :=
  rd_full f z2 inb
omit [FloatOps F] in
theorem st2 {m : Memref sig .tc sp S512x2048 e} (f : m.view.ty.Contents (Elt F)) (inb) (w : S512x2048.Idx → Elt F e) :
    m.view.read (Elt F) (m.view.writes (Elt F) f [⟨Rect.unit (s := S512x2048) ![0, 0] ![512, 2048] inb, w⟩]) = w :=
  rd_store_full f z2 inb w []
omit [FloatOps F] in
theorem rd3 {m : Memref sig .tc sp S1x2048x2048 e} (f : m.view.ty.Contents (Elt F)) (inb) :
    m.view.readAt (Elt F) (Rect.unit (s := S1x2048x2048) ![0, 0, 0] ![1, 2048, 2048] inb).toLoadRect f = m.view.read (Elt F) f :=
  rd_full f z3 inb
omit [FloatOps F] in
theorem st3 {m : Memref sig .tc sp S1x2048x2048 e} (f : m.view.ty.Contents (Elt F)) (inb) (w : S1x2048x2048.Idx → Elt F e) :
    m.view.read (Elt F) (m.view.writes (Elt F) f [⟨Rect.unit (s := S1x2048x2048) ![0, 0, 0] ![1, 2048, 2048] inb, w⟩]) = w :=
  rd_store_full f z3 inb w []

omit [FloatOps F] in
/-- Contents stored under a condition, read back. -/
theorem read_st3 {m : Memref sig .tc sp S1x2048x2048 e} {C : Prop} [Decidable C] {f : m.view.ty.Contents (Elt F)} {inb}
    {w w' x : S1x2048x2048.Idx → Elt F e} (hw : w = w') (hx : m.view.read (Elt F) f = x) :
    m.view.read (Elt F) (if _hc : C then m.view.writes (Elt F) f
      [⟨Rect.unit (s := S1x2048x2048) ![0, 0, 0] ![1, 2048, 2048] inb, w⟩] else f) = if C then w' else x := by
  rw [rd_dite, st3, hx, hw]
omit [FloatOps F] in
theorem read_st2 {m : Memref sig .tc sp S512x2048 e} {C : Prop} [Decidable C] {f : m.view.ty.Contents (Elt F)} {inb}
    {w w' x : S512x2048.Idx → Elt F e} (hw : w = w') (hx : m.view.read (Elt F) f = x) :
    m.view.read (Elt F) (if _hc : C then m.view.writes (Elt F) f
      [⟨Rect.unit (s := S512x2048) ![0, 0] ![512, 2048] inb, w⟩] else f) = if C then w' else x := by
  rw [rd_dite, st2, hx, hw]

end Full

set_option maxHeartbeats 1600000 in
set_option pp.maxSteps 250 in
/-- One visit, from any contents of the buffers. -/
theorem run (c : Dev nD) (i : grid0.Coords) (arg1 : Memref sig .tc .smem S7x103 .i32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S8x2048 .f32) (harg4 : arg4.IsWhole) (arg5 : Memref sig .tc .vmem S8x2048 .f32) (harg5 : arg5.IsWhole) (arg6 : Memref sig .tc .vmem S1x2048x2048 .f32) (harg6 : arg6.IsWhole) (arg7 : Memref sig .tc .vmem S512x2048 .fp8e4m3) (harg7 : arg7.IsWhole) (arg8 : Memref sig .tc .vmem S512x2048 .fp8e5m2) (harg8 : arg8.IsWhole) (arg9 : Memref sig .tc .vmem S8x2048 .f32) (harg9 : arg9.IsWhole) (arg10 : Memref sig .tc .vmem S8x2048 .f32) (harg10 : arg10.IsWhole) (arg11 : Memref sig .tc .vmem S512x2048 .fp8e4m3) (harg11 : arg11.IsWhole)
    (x1 : Vec F S7x103 .i32) (x2 : Vec F S512x2048 .bf16) (x3 : Vec F S512x2048 .bf16) (x4 : Vec F S8x2048 .f32) (x5 : Vec F S8x2048 .f32) (x6 : Vec F S1x2048x2048 .f32) (x7 : Vec F S512x2048 .fp8e4m3) (x8 : Vec F S512x2048 .fp8e5m2) (x9 : Vec F S8x2048 .f32) (x10 : Vec F S8x2048 .f32) (x11 : Vec F S512x2048 .fp8e4m3) (E : Set ℕ) (K : PUnit → sProp 𝕄)
    (hchk : k0_chk1 (wE x1 i)) :
    iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (nDw x1 i hchk x2 x3 x4 x5 x6 x8 x11) ∗ owns (c : Thread nD τ) arg7 fullShare (nXc x1 i hchk x2 x4 x7) ∗ owns (c : Thread nD τ) arg8 fullShare (nDyc x1 i hchk x3 x5 x8) ∗ owns (c : Thread nD τ) arg9 fullShare (nXs x1 i hchk x4 x9) ∗ owns (c : Thread nD τ) arg10 fullShare (nDys x1 i hchk x5 x10) ∗ owns (c : Thread nD τ) arg11 fullShare (nXm x1 i hchk x2 x4 x11)) -∗ K ⟨⟩))
      ⊢ wp frame (wpE (defs₀ (F := F)) Variants.none c none) E (cc0_wgrad i arg1 harg1 arg2 harg2 arg3 harg3 arg4 harg4 arg5 harg5 arg6 harg6 arg7 harg7 arg8 harg8 arg9 harg9 arg10 harg10 arg11 harg11) K := by
  simp only [cc0_wgrad_eq_skeleton]; unfold cc0_wgrad_skel
  simp (config := {zeta := false, zetaDelta := false}) only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf1; subst hf2; subst hf3; subst hf4; subst hf5; subst hf6; subst hf7; subst hf8; subst hf9; subst hf10; subst hf11
  have hchk' : k0_chk1 (arg1.view.readAt (Elt F) (Rect.unit (s := S7x103) (k0_off2 i) S1x1.size (k0_off2_inb i)).toLoadRect f1
      (Shape.Idx.first (numel1_S1x1.symm ▸ Nat.one_pos))) := hchk
  sl_exec (disch := exact hchk')
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    delta run.sl.v233 run.sl.v235 run.sl.v236 run.sl.v237 run.sl.v273 run.sl.r_21
    simp only [rd2, rd3]
    unfold nDw accB accA nXm nDyc
    refine read_st3 (congrArg (k0_pay7 _ _) (read_st3 ?_ ?_)) (read_st3 ?_ ?_)
    · exact congr (congr (congrArg k0_pay6 (read_st3 rfl rfl)) (read_st2 rfl (read_st2 rfl rfl)))
        (read_st2 (congrArg (k0_pay4 _ _) (read_st2 rfl rfl)) (read_st2 rfl rfl))
    · exact read_st3 rfl rfl
    · exact congr (congr (congrArg k0_pay6 (read_st3 rfl rfl)) (read_st2 rfl (read_st2 rfl rfl)))
        (read_st2 (congrArg (k0_pay4 _ _) (read_st2 rfl rfl)) (read_st2 rfl rfl))
    · exact read_st3 rfl rfl
  isplitl [H7]
  · iexists _; isplitr; swap; · iexact H7
    ipureintro
    delta run.sl.v265
    simp only [rd2]
    unfold nXc
    exact read_st2 (congrArg (k0_pay12 _ _ _ _) (read_st2 rfl rfl)) (read_st2 rfl rfl)
  isplitl [H8]
  · iexists _; isplitr; swap; · iexact H8
    ipureintro
    delta run.sl.v273 run.sl.r_21
    simp only [rd2]
    unfold nDyc
    exact read_st2 (congrArg (k0_pay4 _ _) (read_st2 rfl rfl)) (read_st2 rfl rfl)
  isplitl [H9]
  · iexists _; isplitr; swap; · iexact H9
    ipureintro
    exact rd_store_rect _ _ _
  isplitl [H10]
  · iexists _; isplitr; swap; · iexact H10
    ipureintro
    exact rd_store_rect _ _ _
  · iexists _; isplitr; swap; · iexact H11
    ipureintro
    simp only [rd2]
    unfold nXm
    exact read_st2 rfl (read_st2 rfl rfl)

end Cert.Kernel.Body
end
-- ==== Proof.KFrame.lean ====
module

public import proofs.«01_k».proof.Proof.KBody
public import Idealize.ShloMosaic.Lib.Pipeline.Frame
public import Idealize.ShloMosaic.Lib.StableHlo.Run

/-!
The call, run from any memory whose table is admissible: for any relation `R` between what a visit finds in its windows'
buffers and what it leaves there, kept by one visit (`hR`), the arrays end in that relation's closure.
-/

@[expose] public section

set_option maxRecDepth 16384

noncomputable section

namespace Cert.Kernel.Frame

open Cert.Kernel Cert.Kernel.Gen Cert.Kernel.Body
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The fifteen stretches of host operations before the call. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

/-- The buffers' contents at the call. -/
abbrev V (m : (ℓ : Loc nD τ sig) → Buf (Elt F) ℓ) (c : Dev nD) (b : Ref sig .tc) : Buf (Elt F) ((c.tc : Thread nD τ).loc b) :=
  StableHlo.after (opss (F := F)).flatten (fun b => m (c, b)) b

abbrev Blk (a : (pcfg0 (F := F)).Adm) (w : Fin 9) : Type := ((cfg0 a).win w).block.Idx → Elt F ((cfg0 a).win w).elt

/-- The data of the call at a relation. -/
abbrev rdat (a : (pcfg0 (F := F)).Adm) (m : (ℓ : Loc nD τ sig) → Buf (Elt F) ℓ) (R : (w : Fin 9) → Fin (cfg0 a).N → Blk a w → Blk a w → Prop) (c : Dev nD) :
    RDat τ (Elt F) Unit ℕ (UR sig nD τ) ℕ (cfg0 a) c where
  A w := V m c (arrRef (cfg0 a).spec w)
  after := R
  Φ _ := iprop(ΦA (cfg0 a).spec c ∗ ΦT pre0 a.1 c)
  q _ := fullShare
  owed _ := 0

theorem whole_out (c : Dev nD) (b : Ref sig .tc) (q : PosShare TreeShare) (X : b.ty.Contents (Elt F)) :
    (owns (c : Thread nD τ) (Memref.whole b) q X : sProp 𝕄) ⊢ (((c : Thread nD τ).loc b) ↦{q} X) := by
  rw [owns_whole_eq]; iintro ⟨%f, %hf, H⟩; subst hf; iexact H

set_option maxHeartbeats 1600000 in
theorem sound (c : Dev nD) (t : Fin grid0.N) (sl : (w : Fin 9) → Fin (spec0 w).nbuf) (O O' : sProp 𝕄)
    (x1 : Vec F S7x103 .i32) (y0 : Vec F S512x2048 .bf16) (R0 : Vec F S512x2048 .bf16 → Prop) (y1 : Vec F S512x2048 .bf16) (R1 : Vec F S512x2048 .bf16 → Prop) (y2 : Vec F S8x2048 .f32) (R2 : Vec F S8x2048 .f32 → Prop) (y3 : Vec F S8x2048 .f32) (R3 : Vec F S8x2048 .f32 → Prop) (y4 : Vec F S1x2048x2048 .f32) (R4 : Vec F S1x2048x2048 .f32 → Prop) (y5 : Vec F S512x2048 .fp8e4m3) (R5 : Vec F S512x2048 .fp8e4m3 → Prop) (y6 : Vec F S512x2048 .fp8e5m2) (R6 : Vec F S512x2048 .fp8e5m2 → Prop) (y7 : Vec F S8x2048 .f32) (R7 : Vec F S8x2048 .f32 → Prop) (y8 : Vec F S8x2048 .f32) (R8 : Vec F S8x2048 .f32 → Prop)
    (hchk : k0_chk1 (wE x1 (grid0.coords t))) (hO : O ⊢ O')
    (hR : ∀ x11 : Vec F S512x2048 .fp8e4m3, R0 y0 ∧ R1 y1 ∧ R2 y2 ∧ R3 y3 ∧ R4 (nDw x1 (grid0.coords t) hchk y0 y1 y2 y3 y4 y6 x11) ∧ R5 (nXc x1 (grid0.coords t) hchk y0 y2 y5) ∧ R6 (nDyc x1 (grid0.coords t) hchk y1 y3 y6) ∧ R7 (nXs x1 (grid0.coords t) hchk y2 y7) ∧ R8 (nDys x1 (grid0.coords t) hchk y3 y8)) :
    iprop((iprop((∃ f : Buf (Elt F) ((c : Thread nD τ).loc cc0_scratch0), ((c : Thread nD τ).loc cc0_scratch0) ↦{fullShare} f) ∗ ∃ r, prngReg c r)
        ∗ ((c.tc : Thread nD τ).loc main_v105) ↦{fullShare.right} x1)
      ∗ O
      ∗ owns (c : Thread nD τ) (spec0_0.stage (sl 0)) fullShare y0 ∗ owns (c : Thread nD τ) (spec0_1.stage (sl 1)) fullShare y1 ∗ owns (c : Thread nD τ) (spec0_2.stage (sl 2)) fullShare y2 ∗ owns (c : Thread nD τ) (spec0_3.stage (sl 3)) fullShare y3 ∗ owns (c : Thread nD τ) (spec0_4.stage (sl 4)) fullShare y4 ∗ owns (c : Thread nD τ) (spec0_5.stage (sl 5)) fullShare y5 ∗ owns (c : Thread nD τ) (spec0_6.stage (sl 6)) fullShare y6 ∗ owns (c : Thread nD τ) (spec0_7.stage (sl 7)) fullShare y7 ∗ owns (c : Thread nD τ) (spec0_8.stage (sl 8)) fullShare y8)
    ⊢ wp frame (wpE (defs₀ (F := F)) Variants.none c none) Set.univ (cc0_wgrad (grid0.coords t) (Memref.whole main_v105) (Memref.isWhole_whole _) (spec0_0.stage (sl 0)) (hstage0_0 ((sl 0).cast nbuf0_0)) (spec0_1.stage (sl 1)) (hstage0_1 ((sl 1).cast nbuf0_1)) (spec0_2.stage (sl 2)) (hstage0_2 ((sl 2).cast nbuf0_2)) (spec0_3.stage (sl 3)) (hstage0_3 ((sl 3).cast nbuf0_3)) (spec0_4.stage (sl 4)) (hstage0_4 ((sl 4).cast nbuf0_4)) (spec0_5.stage (sl 5)) (hstage0_5 ((sl 5).cast nbuf0_5)) (spec0_6.stage (sl 6)) (hstage0_6 ((sl 6).cast nbuf0_6)) (spec0_7.stage (sl 7)) (hstage0_7 ((sl 7).cast nbuf0_7)) (spec0_8.stage (sl 8)) (hstage0_8 ((sl 8).cast nbuf0_8)) (Memref.whole cc0_scratch0) (Memref.isWhole_whole _)) fun _ =>
      iprop((iprop((∃ f : Buf (Elt F) ((c : Thread nD τ).loc cc0_scratch0), ((c : Thread nD τ).loc cc0_scratch0) ↦{fullShare} f) ∗ ∃ r, prngReg c r)
        ∗ ((c.tc : Thread nD τ).loc main_v105) ↦{fullShare.right} x1)
      ∗ O'
      ∗ iprop(∃ X, ⌜R0 X⌝ ∗ owns (c : Thread nD τ) (spec0_0.stage (sl 0)) fullShare X) ∗ iprop(∃ X, ⌜R1 X⌝ ∗ owns (c : Thread nD τ) (spec0_1.stage (sl 1)) fullShare X) ∗ iprop(∃ X, ⌜R2 X⌝ ∗ owns (c : Thread nD τ) (spec0_2.stage (sl 2)) fullShare X) ∗ iprop(∃ X, ⌜R3 X⌝ ∗ owns (c : Thread nD τ) (spec0_3.stage (sl 3)) fullShare X) ∗ iprop(∃ X, ⌜R4 X⌝ ∗ owns (c : Thread nD τ) (spec0_4.stage (sl 4)) fullShare X) ∗ iprop(∃ X, ⌜R5 X⌝ ∗ owns (c : Thread nD τ) (spec0_5.stage (sl 5)) fullShare X) ∗ iprop(∃ X, ⌜R6 X⌝ ∗ owns (c : Thread nD τ) (spec0_6.stage (sl 6)) fullShare X) ∗ iprop(∃ X, ⌜R7 X⌝ ∗ owns (c : Thread nD τ) (spec0_7.stage (sl 7)) fullShare X) ∗ iprop(∃ X, ⌜R8 X⌝ ∗ owns (c : Thread nD τ) (spec0_8.stage (sl 8)) fullShare X)) := by
  iintro ⟨⟨⟨⟨%x11, Hs⟩, Hp⟩, HT⟩, Hw, H0, H1, H2, H3, H4, H5, H6, H7, H8⟩
  obtain ⟨h0, h1, h2, h3, h4, h5, h6, h7, h8⟩ := hR x11
  iapply (Body.run c (grid0.coords t)  (Memref.whole main_v105) (Memref.isWhole_whole _) (spec0_0.stage (sl 0)) (hstage0_0 ((sl 0).cast nbuf0_0)) (spec0_1.stage (sl 1)) (hstage0_1 ((sl 1).cast nbuf0_1)) (spec0_2.stage (sl 2)) (hstage0_2 ((sl 2).cast nbuf0_2)) (spec0_3.stage (sl 3)) (hstage0_3 ((sl 3).cast nbuf0_3)) (spec0_4.stage (sl 4)) (hstage0_4 ((sl 4).cast nbuf0_4)) (spec0_5.stage (sl 5)) (hstage0_5 ((sl 5).cast nbuf0_5)) (spec0_6.stage (sl 6)) (hstage0_6 ((sl 6).cast nbuf0_6)) (spec0_7.stage (sl 7)) (hstage0_7 ((sl 7).cast nbuf0_7)) (spec0_8.stage (sl 8)) (hstage0_8 ((sl 8).cast nbuf0_8)) (Memref.whole cc0_scratch0) (Memref.isWhole_whole _) x1 y0 y1 y2 y3 y4 y5 y6 y7 y8 x11 Set.univ _ hchk)
  isplitl [HT]
  · rw [owns_whole_eq]; iexists x1; isplitr; · ipureintro; rfl
    iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs]
  · rw [owns_whole_eq]; iexists x11; isplitr; · ipureintro; rfl
    iexact Hs
  iintro ⟨HT, H0, H1, H2, H3, H4, H5, H6, H7, H8, Hs⟩
  isplitl [Hs Hp HT]
  · isplitl [Hs Hp]
    · isplitl [Hs]; · iexists _; iapply (whole_out c cc0_scratch0); iexact Hs
      iexact Hp
    iapply (whole_out c main_v105); iexact HT
  isplitl [Hw]; · iapply hO; iexact Hw
  isplitl [H0]
  · iexists _; isplitr; · ipureintro; exact h0
    iexact H0
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  iexists _; isplitr; · ipureintro; exact h8
  iexact H8

theorem row (a : (pcfg0 (F := F)).Adm) (t : Fin (cfg0 a).N) :
    defs₀ (F := F) .tc (cfg0 a).body ((cfg0 a).bodyArgs t ((cfg0 a).slots t)) = cc0_wgrad (grid0.coords t) (Memref.whole main_v105) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) := by
  unfold defs₀; rw [Defs.onTc_tc]

theorem tab (c : Dev nD) (v : pre0.Contents (Elt F)) :
    (bigSep Finset.univ fun k => (((c.tc : Thread nD τ).loc (pre0.ref k)) ↦{fullShare.right} v k : sProp 𝕄))
      = (((c.tc : Thread nD τ).loc main_v105) ↦{fullShare.right} v 0) :=
  bigSep_univ_eq_bigSepL [(0 : Fin 1)] (by decide) (by decide) (fun k : Fin 1 => (((c.tc : Thread nD τ).loc (pre0.ref k)) ↦{fullShare.right} v k : sProp 𝕄))

set_option maxHeartbeats 1600000 in
theorem body (a : (pcfg0 (F := F)).Adm) (m : (ℓ : Loc nD τ sig) → Buf (Elt F) ℓ) (R : (w : Fin 9) → Fin (cfg0 a).N → Blk a w → Blk a w → Prop) (c : Dev nD)
    (hchk : ∀ t : Fin (cfg0 a).N, k0_chk1 (wE (a.1 0) (grid0.coords t)))
    (hR : ∀ (t : Fin (cfg0 a).N) (Y : (w : Fin 9) → Blk a w), (∀ w, (rdat a m R c).Finds w t (Y w)) → ∀ x11 : Vec F S512x2048 .fp8e4m3, R 0 t (Y 0) (Y 0) ∧ R 1 t (Y 1) (Y 1) ∧ R 2 t (Y 2) (Y 2) ∧ R 3 t (Y 3) (Y 3) ∧ R 4 t (Y 4) (nDw (a.1 0) (grid0.coords t) (hchk t) (Y 0) (Y 1) (Y 2) (Y 3) (Y 4) (Y 6) x11) ∧ R 5 t (Y 5) (nXc (a.1 0) (grid0.coords t) (hchk t) (Y 0) (Y 2) (Y 5)) ∧ R 6 t (Y 6) (nDyc (a.1 0) (grid0.coords t) (hchk t) (Y 1) (Y 3) (Y 6)) ∧ R 7 t (Y 7) (nXs (a.1 0) (grid0.coords t) (hchk t) (Y 2) (Y 7)) ∧ R 8 t (Y 8) (nDys (a.1 0) (grid0.coords t) (hchk t) (Y 3) (Y 8))) :
    (rdat a m R c).BodyObligation (defs₀ (F := F)) Variants.none () Set.univ := by
  intro t Y hY
  rw [row]
  refine triple_restated (sound c t ((cfg0 a).slots t) ((rdat a m R c).owesAt () t.castSucc) ((rdat a m R c).owesAt () t.succ) (a.1 0) (Y 0) (R 0 t (Y 0)) (Y 1) (R 1 t (Y 1)) (Y 2) (R 2 t (Y 2)) (Y 3) (R 3 t (Y 3)) (Y 4) (R 4 t (Y 4)) (Y 5) (R 5 t (Y 5)) (Y 6) (R 6 t (Y 6)) (Y 7) (R 7 t (Y 7)) (Y 8) (R 8 t (Y 8)) (hchk t) .rfl (hR t Y hY)) rfl ?_ fun _ => ?_
  · dsimp only [rdat]
    unfold ΦA ΦT prefHeld
    rw [scopedRest0_eq]
    exact BIClass.sep_mono (BIClass.sep_mono .rfl (Entails.of_eq (tab c a.1))) (BIClass.sep_mono .rfl (Entails.of_eq (bigSep_W0 _)))
  · dsimp only [rdat]
    unfold ΦA ΦT prefHeld
    rw [scopedRest0_eq]
    exact BIClass.sep_mono (BIClass.sep_mono .rfl (Entails.of_eq (tab c a.1).symm)) (BIClass.sep_mono .rfl (Entails.of_eq (bigSep_W0 (fun w => iprop(∃ X, ⌜R w t (Y w) X⌝ ∗ owns (c.tc : Thread nD τ) ((spec0 w).stage ((cfg0 a).slots t w)) fullShare X))).symm))

set_option maxHeartbeats 1600000 in
/-- The run: every array ends in the relation's closure, every other buffer at its contents at the call. -/
theorem run (a : (pcfg0 (F := F)).Adm) (m : (ℓ : Loc nD τ sig) → Buf (Elt F) ℓ) (g : Dev nD → PrngReg)
    (ha : ∀ c, V m c main_v105 = a.1 0)
    (R : (w : Fin 9) → Fin (cfg0 a).N → Blk a w → Blk a w → Prop)
    (hchk : ∀ t : Fin (cfg0 a).N, k0_chk1 (wE (a.1 0) (grid0.coords t)))
    (hR : ∀ (c : Dev nD) (t : Fin (cfg0 a).N) (Y : (w : Fin 9) → Blk a w), (∀ w, (rdat a m R c).Finds w t (Y w)) → ∀ x11 : Vec F S512x2048 .fp8e4m3, R 0 t (Y 0) (Y 0) ∧ R 1 t (Y 1) (Y 1) ∧ R 2 t (Y 2) (Y 2) ∧ R 3 t (Y 3) (Y 3) ∧ R 4 t (Y 4) (nDw (a.1 0) (grid0.coords t) (hchk t) (Y 0) (Y 1) (Y 2) (Y 3) (Y 4) (Y 6) x11) ∧ R 5 t (Y 5) (nXc (a.1 0) (grid0.coords t) (hchk t) (Y 0) (Y 2) (Y 5)) ∧ R 6 t (Y 6) (nDyc (a.1 0) (grid0.coords t) (hchk t) (Y 1) (Y 3) (Y 6)) ∧ R 7 t (Y 7) (nXs (a.1 0) (grid0.coords t) (hchk t) (Y 2) (Y 7)) ∧ R 8 t (Y 8) (nDys (a.1 0) (grid0.coords t) (hchk t) (Y 3) (Y 8)))
    (Q' : PUnit × MemSt nD τ sig (Elt F) → Prop)
    (hQ' : ∀ r, RDat.FramePost (cfg0 a) (rdat a m R) (V m) r ∧ r.2.sem = (fun _ => 0) → Q' r) :
    θ_run (defs (F := F)) (onTc (main (F := F))) ⟨m, fun _ => 0, g⟩ Q' :=
  RDat.θ_run_frameP (pcfgs (F := F)) (fun _ => a) 0 launch0 defs₀ Variants.none (rdat a m R) m g main
    (fun c => body a m R c hchk (hR c)) (fun c w => by unfold RDat.share; split <;> rfl) (fun c t => rfl) (V m)
    (hmainP_prefixes (pcfgs (F := F)) 0 defs₀ Variants.none m main opss
      ⟨hostOps0_sub, hostOps0_1_sub, hostOps0_2_sub, hostOps0_3_sub, hostOps0_4_sub, hostOps0_5_sub, hostOps0_6_sub, hostOps0_7_sub, hostOps0_8_sub,
        hostOps0_9_sub, hostOps0_10_sub, hostOps0_11_sub, hostOps0_12_sub, hostOps0_13_sub, hostOps0_14_sub⟩
      (by repeat' constructor) main_chain)
    (fun c w => rfl) (fun c k => by obtain rfl : k = 0 := Subsingleton.elim _ _; exact ha c) (fun c t => rfl) Q' hQ'

end Cert.Kernel.Frame

end
-- ==== Proof.KHost.lean ====
module

public import proofs.«01_k».proof.Proof.Sched
public import proofs.«01_k».proof.Proof.Gen.Kernel.Launch
public import Idealize.ShloMosaic.Lib.StableHlo.Run
public import Idealize.ShloMosaic.Lib.Tactic

/-!
What the host's operations leave in the table's buffer: `Sched.tbl` of the group sizes, stretch by stretch.
-/

@[expose] public section

set_option maxRecDepth 16384

noncomputable section

namespace Cert.Kernel.Host

open Cert.Kernel Cert.Kernel.Gen Cert.Sched
open Idealize.ShloMosaic Idealize.ShloMosaic.TcCoe Idealize.ShloMosaic.Routing
open Idealize.SL.Sem

variable {F : FTy → Type} [FloatOps F]

/-- What stands in the buffers still read after 0 stretches. -/
structure I0 (W : Valuation τ sig (Elt F)) (gs : V8) : Prop where
  h_arg2 : W (Proc.devRef .tc main_arg2) = (gs)

/-- What stands in the buffers still read after 1 stretches. -/
structure I1 (W : Valuation τ sig (Elt F)) (gs : V8) : Prop where
  h_v0 : W (Proc.devRef .tc main_v0) = (cum gs)
  h_arg2 : W (Proc.devRef .tc main_arg2) = (gs)

/-- What stands in the buffers still read after 2 stretches. -/
structure I2 (W : Valuation τ sig (Elt F)) (gs : V8) : Prop where
  h_v1 : W (Proc.devRef .tc main_v1) = (starts gs)
  h_c : W (Proc.devRef .tc main_c) = (c512)
  h_v0 : W (Proc.devRef .tc main_v0) = (cum gs)
  h_arg2 : W (Proc.devRef .tc main_arg2) = (gs)

/-- What stands in the buffers still read after 3 stretches. -/
structure I3 (W : Valuation τ sig (Elt F)) (gs : V8) : Prop where
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 4 stretches. -/
structure I4 (W : Valuation τ sig (Elt F)) (gs : V8) : Prop where
  h_v4 : W (Proc.devRef .tc main_v4) = (cmpi .sgt gs (k8 0#32))
  h_v6 : W (Proc.devRef .tc main_v6) = (subi (cum gs) (k8 1#32))
  h_c_2 : W (Proc.devRef .tc main_c_2) = (c512)
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 5 stretches. -/
structure I5 (W : Valuation τ sig (Elt F)) (gs : V8) : Prop where
  h_v7 : W (Proc.devRef .tc main_v7) = (blast gs)
  h_v4 : W (Proc.devRef .tc main_v4) = (cmpi .sgt gs (k8 0#32))
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 6 stretches. -/
structure I6 (W : Valuation τ sig (Elt F)) (gs : V8) : Prop where
  h_v10 : W (Proc.devRef .tc main_v10) = (addi (subi (blast gs) (bfirst gs)) (k8 1#32))
  h_c_4 : W (Proc.devRef .tc main_c_4) = (constantI Routing.shape0 32 1#32)
  h_v4 : W (Proc.devRef .tc main_v4) = (cmpi .sgt gs (k8 0#32))
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 7 stretches. -/
structure I7 (W : Valuation τ sig (Elt F)) (gs : V8) : Prop where
  h_v11 : W (Proc.devRef .tc main_v11) = (nblk gs)
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 8 stretches. -/
structure I8 (W : Valuation τ sig (Elt F)) (gs : V8) : Prop where
  h_v12 : W (Proc.devRef .tc main_v12) = (vend gs)
  h_v11 : W (Proc.devRef .tc main_v11) = (nblk gs)
  h_v2 : W (Proc.devRef .tc main_v2) = (bfirst gs)
  h_v1 : W (Proc.devRef .tc main_v1) = (starts gs)
  h_v0 : W (Proc.devRef .tc main_v0) = (cum gs)
  h_arg2 : W (Proc.devRef .tc main_arg2) = (gs)

/-- What stands in the buffers still read after 9 stretches. -/
structure I9 (W : Valuation τ sig (Elt F)) (gs : V8) : Prop where
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v59 : W (Proc.devRef .tc main_v59) = (pick gs (starts gs))
  h_c_14 : W (Proc.devRef .tc main_c_14) = (c512)
  h_v11 : W (Proc.devRef .tc main_v11) = (nblk gs)
  h_v1 : W (Proc.devRef .tc main_v1) = (starts gs)
  h_v0 : W (Proc.devRef .tc main_v0) = (cum gs)

/-- What stands in the buffers still read after 10 stretches. -/
structure I10 (W : Valuation τ sig (Elt F)) (gs : V8) : Prop where
  h_v60 : W (Proc.devRef .tc main_v60) = (pyRem b103 (pick gs (starts gs)) c512)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 11 stretches. -/
structure I11 (W : Valuation τ sig (Elt F)) (gs : V8) : Prop where
  h_v62 : W (Proc.devRef .tc main_v62) = (rem0 gs)
  h_c_16 : W (Proc.devRef .tc main_c_16) = (constantI Routing.shape0 32 1#32)
  h_c_17 : W (Proc.devRef .tc main_c_17) = (constantI Routing.shape0 32 0#32)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 12 stretches. -/
structure I12 (W : Valuation τ sig (Elt F)) (gs : V8) : Prop where
  h_v63 : W (Proc.devRef .tc main_v63) = (select (rem0 gs) (k103 1#32) (k103 0#32))
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 13 stretches. -/
structure I13 (W : Valuation τ sig (Elt F)) (gs : V8) : Prop where
  h_v67 : W (Proc.devRef .tc main_v67) = (blkB gs)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v49 : W (Proc.devRef .tc main_v49) = (blkA gs)
  h_v51 : W (Proc.devRef .tc main_v51) = (nonempty gs)
  h_v55 : W (Proc.devRef .tc main_v55) = (pick gs (bfirst gs))
  h_v11 : W (Proc.devRef .tc main_v11) = (nblk gs)
  h_v1 : W (Proc.devRef .tc main_v1) = (starts gs)
  h_v0 : W (Proc.devRef .tc main_v0) = (cum gs)

/-- What stands in the buffers still read after 14 stretches. -/
structure I14 (W : Valuation τ sig (Elt F)) (gs : V8) : Prop where
  h_v68 : W (Proc.devRef .tc main_v68) = (blk gs)
  h_v13 : W (Proc.devRef .tc main_v13) = (iota)
  h_v12 : W (Proc.devRef .tc main_v12) = (vend gs)
  h_v25 : W (Proc.devRef .tc main_v25) = (ex gs)
  h_v32 : W (Proc.devRef .tc main_v32) = (oh gs)
  h_v38 : W (Proc.devRef .tc main_v38) = (kk gs)
  h_v42 : W (Proc.devRef .tc main_v42) = (size gs)
  h_v11 : W (Proc.devRef .tc main_v11) = (nblk gs)
  h_v1 : W (Proc.devRef .tc main_v1) = (starts gs)
  h_v0 : W (Proc.devRef .tc main_v0) = (cum gs)

/-- What stands in the buffers still read after 15 stretches. -/
structure I15 (W : Valuation τ sig (Elt F)) (gs : V8) : Prop where
  h_v105 : W (Proc.devRef .tc main_v105) = (tbl gs)

set_option maxHeartbeats 4000000 in
theorem t0 (W : Valuation τ sig (Elt F)) (gs : V8) (h : I0 W gs) : I1 (StableHlo.after hostOps0 W) gs := by
  obtain ⟨h_arg2⟩ := h
  constructor
  · after_results_simp <;>
    first | assumption | (simp only [h_arg2]; done) | (simp only [h_arg2]; rfl) | rfl
  · after_results_simp <;>
    first | assumption | (simp only [h_arg2]; done) | (simp only [h_arg2]; rfl) | rfl

set_option maxHeartbeats 4000000 in
theorem t1 (W : Valuation τ sig (Elt F)) (gs : V8) (h : I1 W gs) : I2 (StableHlo.after hostOps0_1 W) gs := by
  obtain ⟨h_v0, h_arg2⟩ := h
  constructor
  · after_results_simp <;>
    first | assumption | (simp only [h_v0, h_arg2]; done) | (simp only [h_v0, h_arg2]; rfl) | rfl
  · after_results_simp <;>
    first | assumption | (simp only [h_v0, h_arg2]; done) | (simp only [h_v0, h_arg2]; rfl) | rfl
  · after_results_simp <;>
    first | assumption | (simp only [h_v0, h_arg2]; done) | (simp only [h_v0, h_arg2]; rfl) | rfl
  · after_results_simp <;>
    first | assumption | (simp only [h_v0, h_arg2]; done) | (simp only [h_v0, h_arg2]; rfl) | rfl

set_option maxHeartbeats 4000000 in
theorem t2 (W : Valuation τ sig (Elt F)) (gs : V8) (h : I2 W gs) : I3 (StableHlo.after hostOps0_2 W) gs := by
  obtain ⟨h_v1, h_c, h_v0, h_arg2⟩ := h
  constructor
  · after_results_simp <;>
    first | assumption | (simp only [h_v1, h_c, h_v0, h_arg2]; done) | (simp only [h_v1, h_c, h_v0, h_arg2]; rfl) | rfl
  · after_results_simp <;>
    first | assumption | (simp only [h_v1, h_c, h_v0, h_arg2]; done) | (simp only [h_v1, h_c, h_v0, h_arg2]; rfl) | rfl
  · after_results_simp <;>
    first | assumption | (simp only [h_v1, h_c, h_v0, h_arg2]; done) | (simp only [h_v1, h_c, h_v0, h_arg2]; rfl) | rfl
  · after_results_simp <;>
    first | assumption | (simp only [h_v1, h_c, h_v0, h_arg2]; done) | (simp only [h_v1, h_c, h_v0, h_arg2]; rfl) | rfl

set_option maxHeartbeats 4000000 in
theorem t3 (W : Valuation τ sig (Elt F)) (gs : V8) (h : I3 W gs) : I4 (StableHlo.after hostOps0_3 W) gs := by
  obtain ⟨h_v2, h_v1, h_v0, h_arg2⟩ := h
  constructor
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl
  · after_results_simp <;>
    first | assumption | (simp only [h_v2, h_v1, h_v0, h_arg2]; done) | (simp only [h_v2, h_v1, h_v0, h_arg2]; rfl) | rfl

set_option maxHeartbeats 4000000 in
theorem t4 (W : Valuation τ sig (Elt F)) (gs : V8) (h : I4 W gs) : I5 (StableHlo.after hostOps0_4 W) gs := by
  obtain ⟨h_v4, h_v6, h_c_2, h_v2, h_v1, h_v0, h_arg2⟩ := h
  constructor
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl
  · after_results_simp <;>
    first | assumption | (simp only [h_v4, h_v6, h_c_2, h_v2, h_v1, h_v0, h_arg2]; done) | (simp only [h_v4, h_v6, h_c_2, h_v2, h_v1, h_v0, h_arg2]; rfl) | rfl

set_option maxHeartbeats 4000000 in
theorem t5 (W : Valuation τ sig (Elt F)) (gs : V8) (h : I5 W gs) : I6 (StableHlo.after hostOps0_5 W) gs := by
  obtain ⟨h_v7, h_v4, h_v2, h_v1, h_v0, h_arg2⟩ := h
  constructor
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl
  · after_results_simp <;>
    first | assumption | (simp only [h_v7, h_v4, h_v2, h_v1, h_v0, h_arg2]; done) | (simp only [h_v7, h_v4, h_v2, h_v1, h_v0, h_arg2]; rfl) | rfl

set_option maxHeartbeats 4000000 in
theorem t6 (W : Valuation τ sig (Elt F)) (gs : V8) (h : I6 W gs) : I7 (StableHlo.after hostOps0_6 W) gs := by
  obtain ⟨h_v10, h_c_4, h_v4, h_v2, h_v1, h_v0, h_arg2⟩ := h
  constructor
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl
  · after_results_simp <;>
    first | assumption | (simp only [h_v10, h_c_4, h_v4, h_v2, h_v1, h_v0, h_arg2]; done) | (simp only [h_v10, h_c_4, h_v4, h_v2, h_v1, h_v0, h_arg2]; rfl) | rfl

set_option maxHeartbeats 4000000 in
theorem t7 (W : Valuation τ sig (Elt F)) (gs : V8) (h : I7 W gs) : I8 (StableHlo.after hostOps0_7 W) gs := by
  obtain ⟨h_v11, h_v2, h_v1, h_v0, h_arg2⟩ := h
  constructor
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl
  · after_results_simp <;>
    first | assumption | (simp only [h_v11, h_v2, h_v1, h_v0, h_arg2]; done) | (simp only [h_v11, h_v2, h_v1, h_v0, h_arg2]; rfl) | rfl

set_option maxHeartbeats 4000000 in
theorem t8 (W : Valuation τ sig (Elt F)) (gs : V8) (h : I8 W gs) : I9 (StableHlo.after hostOps0_8 W) gs := by
  obtain ⟨h_v12, h_v11, h_v2, h_v1, h_v0, h_arg2⟩ := h
  constructor
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl
  · after_results_simp <;>
    first | assumption | (simp only [h_v12, h_v11, h_v2, h_v1, h_v0, h_arg2]; done) | (simp only [h_v12, h_v11, h_v2, h_v1, h_v0, h_arg2]; rfl) | rfl

set_option maxHeartbeats 4000000 in
theorem t9 (W : Valuation τ sig (Elt F)) (gs : V8) (h : I9 W gs) : I10 (StableHlo.after hostOps0_9 W) gs := by
  obtain ⟨h_v13, h_v12, h_v25, h_v32, h_v38, h_v42, h_v49, h_v51, h_v55, h_v59, h_c_14, h_v11, h_v1, h_v0⟩ := h
  constructor
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl
  · after_results_simp <;>
    first | assumption | (simp only [h_v13, h_v12, h_v25, h_v32, h_v38, h_v42, h_v49, h_v51, h_v55, h_v59, h_c_14, h_v11, h_v1, h_v0]; done) | (simp only [h_v13, h_v12, h_v25, h_v32, h_v38, h_v42, h_v49, h_v51, h_v55, h_v59, h_c_14, h_v11, h_v1, h_v0]; rfl) | rfl

set_option maxHeartbeats 4000000 in
theorem t10 (W : Valuation τ sig (Elt F)) (gs : V8) (h : I10 W gs) : I11 (StableHlo.after hostOps0_10 W) gs := by
  obtain ⟨h_v60, h_v13, h_v12, h_v25, h_v32, h_v38, h_v42, h_v49, h_v51, h_v55, h_v11, h_v1, h_v0⟩ := h
  constructor
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl
  · after_results_simp <;>
    first | assumption | (simp only [h_v60, h_v13, h_v12, h_v25, h_v32, h_v38, h_v42, h_v49, h_v51, h_v55, h_v11, h_v1, h_v0]; done) | (simp only [h_v60, h_v13, h_v12, h_v25, h_v32, h_v38, h_v42, h_v49, h_v51, h_v55, h_v11, h_v1, h_v0]; rfl) | rfl

set_option maxHeartbeats 4000000 in
theorem t11 (W : Valuation τ sig (Elt F)) (gs : V8) (h : I11 W gs) : I12 (StableHlo.after hostOps0_11 W) gs := by
  obtain ⟨h_v62, h_c_16, h_c_17, h_v13, h_v12, h_v25, h_v32, h_v38, h_v42, h_v49, h_v51, h_v55, h_v11, h_v1, h_v0⟩ := h
  constructor
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl
  · after_results_simp <;>
    first | assumption | (simp only [h_v62, h_c_16, h_c_17, h_v13, h_v12, h_v25, h_v32, h_v38, h_v42, h_v49, h_v51, h_v55, h_v11, h_v1, h_v0]; done) | (simp only [h_v62, h_c_16, h_c_17, h_v13, h_v12, h_v25, h_v32, h_v38, h_v42, h_v49, h_v51, h_v55, h_v11, h_v1, h_v0]; rfl) | rfl

set_option maxHeartbeats 4000000 in
theorem t12 (W : Valuation τ sig (Elt F)) (gs : V8) (h : I12 W gs) : I13 (StableHlo.after hostOps0_12 W) gs := by
  obtain ⟨h_v63, h_v13, h_v12, h_v25, h_v32, h_v38, h_v42, h_v49, h_v51, h_v55, h_v11, h_v1, h_v0⟩ := h
  constructor
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl
  · after_results_simp <;>
    first | assumption | (simp only [h_v63, h_v13, h_v12, h_v25, h_v32, h_v38, h_v42, h_v49, h_v51, h_v55, h_v11, h_v1, h_v0]; done) | (simp only [h_v63, h_v13, h_v12, h_v25, h_v32, h_v38, h_v42, h_v49, h_v51, h_v55, h_v11, h_v1, h_v0]; rfl) | rfl

set_option maxHeartbeats 4000000 in
theorem t13 (W : Valuation τ sig (Elt F)) (gs : V8) (h : I13 W gs) : I14 (StableHlo.after hostOps0_13 W) gs := by
  obtain ⟨h_v67, h_v13, h_v12, h_v25, h_v32, h_v38, h_v42, h_v49, h_v51, h_v55, h_v11, h_v1, h_v0⟩ := h
  constructor
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl
  · after_results_simp <;>
    first | assumption | (simp only [h_v67, h_v13, h_v12, h_v25, h_v32, h_v38, h_v42, h_v49, h_v51, h_v55, h_v11, h_v1, h_v0]; done) | (simp only [h_v67, h_v13, h_v12, h_v25, h_v32, h_v38, h_v42, h_v49, h_v51, h_v55, h_v11, h_v1, h_v0]; rfl) | rfl

end Cert.Kernel.Host

end
-- ==== Proof.KHostTable.lean ====
module

public import proofs.«01_k».proof.Proof.KHost
public import proofs.«01_k».proof.Proof.Gen.Kernel.Launch
public import Idealize.ShloMosaic.Lib.StableHlo.Run
public import Idealize.ShloMosaic.Lib.Tactic

/-!
What the host's operations leave in the table's buffer: `Sched.tbl` of the group sizes, stretch by stretch.
-/

@[expose] public section

set_option maxRecDepth 16384

noncomputable section

namespace Cert.Kernel.Host

open Cert.Kernel Cert.Kernel.Gen Cert.Sched
open Idealize.ShloMosaic Idealize.ShloMosaic.TcCoe Idealize.ShloMosaic.Routing
open Idealize.SL.Sem

variable {F : FTy → Type} [FloatOps F]

/-- The last stretch without the operation that stacks the seven rows. -/
abbrev ops14a : List (HloOp τ sig (Elt F)) :=
  ( StableHlo.unary main_v12 main_v69 ((extractStridedSlice S1 ![7] · slices_S8_S1_7) : (⟨S8, .i32⟩ : BufTy).Contents (Elt F) → (⟨S1, .i32⟩ : BufTy).Contents (Elt F))
  :: StableHlo.reshape main_v69 main_v70 (rfl : (.i32 : EltTy) = .i32) shapeCasts_S1_S_
  :: StableHlo.unary main_v70 main_v71 (broadcastInDim S103 ![] bcast_S_S103 : (⟨S_, .i32⟩ : BufTy).Contents (Elt F) → (⟨S103, .i32⟩ : BufTy).Contents (Elt F))
  :: StableHlo.binary main_v13 main_v71 main_v72 (cmpi .slt : (⟨S103, .i32⟩ : BufTy).Contents (Elt F) → (⟨S103, .i32⟩ : BufTy).Contents (Elt F) → (⟨S103, .i1⟩ : BufTy).Contents (Elt F))
  :: StableHlo.nullary main_c_19 (constantI S_ 32 0#32)
  :: StableHlo.unary main_c_19 main_v73 (broadcastInDim S103 ![] bcast_S_S103 : (⟨S_, .i32⟩ : BufTy).Contents (Elt F) → (⟨S103, .i32⟩ : BufTy).Contents (Elt F))
  :: StableHlo.binary main_v38 main_v73 main_v74 (cmpi .eq : (⟨S103, .i32⟩ : BufTy).Contents (Elt F) → (⟨S103, .i32⟩ : BufTy).Contents (Elt F) → (⟨S103, .i1⟩ : BufTy).Contents (Elt F))
  :: StableHlo.binary main_v72 main_v74 main_v75 (andi : (⟨S103, .i1⟩ : BufTy).Contents (Elt F) → (⟨S103, .i1⟩ : BufTy).Contents (Elt F) → (⟨S103, .i1⟩ : BufTy).Contents (Elt F))
  :: StableHlo.unary main_v11 main_v76 (broadcastInDim S1x8 ![1] bcast_S8_S1x8_1 : (⟨S8, .i32⟩ : BufTy).Contents (Elt F) → (⟨S1x8, .i32⟩ : BufTy).Contents (Elt F))
  :: StableHlo.unary main_v76 main_v77 (broadcastInDim S103x8 ![0, 1] bcast_S1x8_S103x8_0_1 : (⟨S1x8, .i32⟩ : BufTy).Contents (Elt F) → (⟨S103x8, .i32⟩ : BufTy).Contents (Elt F))
  :: StableHlo.binary main_v32 main_v77 main_v78 (muli : (⟨S103x8, .i32⟩ : BufTy).Contents (Elt F) → (⟨S103x8, .i32⟩ : BufTy).Contents (Elt F) → (⟨S103x8, .i32⟩ : BufTy).Contents (Elt F))
  :: StableHlo.nullary main_c_20 (constantI S_ 32 0#32)
  :: StableHlo.binary main_v78 main_c_20 main_v79 ((fun x v => Host.reduce IntOp.addi x v reducesTo_S103x8_S103_d1 h_S_) : (⟨S103x8, .i32⟩ : BufTy).Contents (Elt F) → (⟨S_, .i32⟩ : BufTy).Contents (Elt F) → (⟨S103, .i32⟩ : BufTy).Contents (Elt F))
  :: StableHlo.nullary main_c_21 (constantI S_ 32 1#32)
  :: StableHlo.unary main_c_21 main_v80 (broadcastInDim S103 ![] bcast_S_S103 : (⟨S_, .i32⟩ : BufTy).Contents (Elt F) → (⟨S103, .i32⟩ : BufTy).Contents (Elt F))
  :: StableHlo.binary main_v79 main_v80 main_v81 (subi : (⟨S103, .i32⟩ : BufTy).Contents (Elt F) → (⟨S103, .i32⟩ : BufTy).Contents (Elt F) → (⟨S103, .i32⟩ : BufTy).Contents (Elt F))
  :: StableHlo.binary main_v38 main_v81 main_v82 (cmpi .eq : (⟨S103, .i32⟩ : BufTy).Contents (Elt F) → (⟨S103, .i32⟩ : BufTy).Contents (Elt F) → (⟨S103, .i1⟩ : BufTy).Contents (Elt F))
  :: StableHlo.binary main_v72 main_v82 main_v83 (andi : (⟨S103, .i1⟩ : BufTy).Contents (Elt F) → (⟨S103, .i1⟩ : BufTy).Contents (Elt F) → (⟨S103, .i1⟩ : BufTy).Contents (Elt F))
  :: StableHlo.nullary main_c_22 (constantI S_ 32 0#32)
  :: StableHlo.unary main_c_22 main_v84 (broadcastInDim S103 ![] bcast_S_S103 : (⟨S_, .i32⟩ : BufTy).Contents (Elt F) → (⟨S103, .i32⟩ : BufTy).Contents (Elt F))
  :: StableHlo.binary main_v42 main_v84 main_v85 (cmpi .sgt : (⟨S103, .i32⟩ : BufTy).Contents (Elt F) → (⟨S103, .i32⟩ : BufTy).Contents (Elt F) → (⟨S103, .i1⟩ : BufTy).Contents (Elt F))
  :: StableHlo.binary main_v72 main_v85 main_v86 (andi : (⟨S103, .i1⟩ : BufTy).Contents (Elt F) → (⟨S103, .i1⟩ : BufTy).Contents (Elt F) → (⟨S103, .i1⟩ : BufTy).Contents (Elt F))
  :: StableHlo.unary main_v1 main_v87 (broadcastInDim S1x8 ![1] bcast_S8_S1x8_1 : (⟨S8, .i32⟩ : BufTy).Contents (Elt F) → (⟨S1x8, .i32⟩ : BufTy).Contents (Elt F))
  :: StableHlo.unary main_v87 main_v88 (broadcastInDim S103x8 ![0, 1] bcast_S1x8_S103x8_0_1 : (⟨S1x8, .i32⟩ : BufTy).Contents (Elt F) → (⟨S103x8, .i32⟩ : BufTy).Contents (Elt F))
  :: StableHlo.binary main_v32 main_v88 main_v89 (muli : (⟨S103x8, .i32⟩ : BufTy).Contents (Elt F) → (⟨S103x8, .i32⟩ : BufTy).Contents (Elt F) → (⟨S103x8, .i32⟩ : BufTy).Contents (Elt F))
  :: StableHlo.nullary main_c_23 (constantI S_ 32 0#32)
  :: StableHlo.binary main_v89 main_c_23 main_v90 ((fun x v => Host.reduce IntOp.addi x v reducesTo_S103x8_S103_d1 h_S_) : (⟨S103x8, .i32⟩ : BufTy).Contents (Elt F) → (⟨S_, .i32⟩ : BufTy).Contents (Elt F) → (⟨S103, .i32⟩ : BufTy).Contents (Elt F))
  :: StableHlo.unary main_v0 main_v91 (broadcastInDim S1x8 ![1] bcast_S8_S1x8_1 : (⟨S8, .i32⟩ : BufTy).Contents (Elt F) → (⟨S1x8, .i32⟩ : BufTy).Contents (Elt F))
  :: StableHlo.unary main_v91 main_v92 (broadcastInDim S103x8 ![0, 1] bcast_S1x8_S103x8_0_1 : (⟨S1x8, .i32⟩ : BufTy).Contents (Elt F) → (⟨S103x8, .i32⟩ : BufTy).Contents (Elt F))
  :: StableHlo.binary main_v32 main_v92 main_v93 (muli : (⟨S103x8, .i32⟩ : BufTy).Contents (Elt F) → (⟨S103x8, .i32⟩ : BufTy).Contents (Elt F) → (⟨S103x8, .i32⟩ : BufTy).Contents (Elt F))
  :: StableHlo.nullary main_c_24 (constantI S_ 32 0#32)
  :: StableHlo.binary main_v93 main_c_24 main_v94 ((fun x v => Host.reduce IntOp.addi x v reducesTo_S103x8_S103_d1 h_S_) : (⟨S103x8, .i32⟩ : BufTy).Contents (Elt F) → (⟨S_, .i32⟩ : BufTy).Contents (Elt F) → (⟨S103, .i32⟩ : BufTy).Contents (Elt F))
  :: StableHlo.unary main_v75 main_v95 ((extui 32 · natLt_1_32) : (⟨S103, .i1⟩ : BufTy).Contents (Elt F) → (⟨S103, .i32⟩ : BufTy).Contents (Elt F))
  :: StableHlo.unary main_v83 main_v96 ((extui 32 · natLt_1_32) : (⟨S103, .i1⟩ : BufTy).Contents (Elt F) → (⟨S103, .i32⟩ : BufTy).Contents (Elt F))
  :: StableHlo.unary main_v86 main_v97 ((extui 32 · natLt_1_32) : (⟨S103, .i1⟩ : BufTy).Contents (Elt F) → (⟨S103, .i32⟩ : BufTy).Contents (Elt F))
  :: StableHlo.unary main_v25 main_v98 (broadcastInDim S1x103 ![1] bcast_S103_S1x103_1 : (⟨S103, .i32⟩ : BufTy).Contents (Elt F) → (⟨S1x103, .i32⟩ : BufTy).Contents (Elt F))
  :: StableHlo.unary main_v68 main_v99 (broadcastInDim S1x103 ![1] bcast_S103_S1x103_1 : (⟨S103, .i32⟩ : BufTy).Contents (Elt F) → (⟨S1x103, .i32⟩ : BufTy).Contents (Elt F))
  :: StableHlo.unary main_v90 main_v100 (broadcastInDim S1x103 ![1] bcast_S103_S1x103_1 : (⟨S103, .i32⟩ : BufTy).Contents (Elt F) → (⟨S1x103, .i32⟩ : BufTy).Contents (Elt F))
  :: StableHlo.unary main_v94 main_v101 (broadcastInDim S1x103 ![1] bcast_S103_S1x103_1 : (⟨S103, .i32⟩ : BufTy).Contents (Elt F) → (⟨S1x103, .i32⟩ : BufTy).Contents (Elt F))
  :: StableHlo.unary main_v95 main_v102 (broadcastInDim S1x103 ![1] bcast_S103_S1x103_1 : (⟨S103, .i32⟩ : BufTy).Contents (Elt F) → (⟨S1x103, .i32⟩ : BufTy).Contents (Elt F))
  :: StableHlo.unary main_v96 main_v103 (broadcastInDim S1x103 ![1] bcast_S103_S1x103_1 : (⟨S103, .i32⟩ : BufTy).Contents (Elt F) → (⟨S1x103, .i32⟩ : BufTy).Contents (Elt F))
  :: StableHlo.unary main_v97 main_v104 (broadcastInDim S1x103 ![1] bcast_S103_S1x103_1 : (⟨S103, .i32⟩ : BufTy).Contents (Elt F) → (⟨S1x103, .i32⟩ : BufTy).Contents (Elt F))
  :: [] )

/-- The operation that stacks the seven rows. -/
abbrev op14b : HloOp τ sig (Elt F) :=
  StableHlo.nary ![main_v98, main_v99, main_v100, main_v101, main_v102, main_v103, main_v104] main_v105 (fun u => (concatenate S7x103 0 [⟨S1x103, (u 0 : (⟨S1x103, .i32⟩ : BufTy).Contents (Elt F))⟩, ⟨S1x103, (u 1 : (⟨S1x103, .i32⟩ : BufTy).Contents (Elt F))⟩, ⟨S1x103, (u 2 : (⟨S1x103, .i32⟩ : BufTy).Contents (Elt F))⟩, ⟨S1x103, (u 3 : (⟨S1x103, .i32⟩ : BufTy).Contents (Elt F))⟩, ⟨S1x103, (u 4 : (⟨S1x103, .i32⟩ : BufTy).Contents (Elt F))⟩, ⟨S1x103, (u 5 : (⟨S1x103, .i32⟩ : BufTy).Contents (Elt F))⟩, ⟨S1x103, (u 6 : (⟨S1x103, .i32⟩ : BufTy).Contents (Elt F))⟩] concatenates_S1x103_S1x103_S1x103_S1x103_S1x103_S1x103_S1x103_S7x103_d0 : (⟨S7x103, .i32⟩ : BufTy).Contents (Elt F)))

/-- What the seven rows' buffers hold. -/
structure J15 (W : Valuation τ sig (Elt F)) (gs : V8) : Prop where
  h0 : W (Proc.devRef .tc main_v98) = row1 (ex gs)
  h1 : W (Proc.devRef .tc main_v99) = row1 (blk gs)
  h2 : W (Proc.devRef .tc main_v100) = row1 (pick gs (starts gs))
  h3 : W (Proc.devRef .tc main_v101) = row1 (pick gs (cum gs))
  h4 : W (Proc.devRef .tc main_v102) = row1 (first gs)
  h5 : W (Proc.devRef .tc main_v103) = row1 (last gs)
  h6 : W (Proc.devRef .tc main_v104) = row1 (act gs)

set_option maxHeartbeats 4000000 in
theorem t14a (W : Valuation τ sig (Elt F)) (gs : V8) (h : I14 W gs) : J15 (StableHlo.after ops14a W) gs := by
  obtain ⟨h_v68, h_v13, h_v12, h_v25, h_v32, h_v38, h_v42, h_v11, h_v1, h_v0⟩ := h
  constructor
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl
  · after_results_simp <;>
    first | assumption | (simp only [h_v68, h_v13, h_v12, h_v25, h_v32, h_v38, h_v42, h_v11, h_v1, h_v0]; done) | (simp only [h_v68, h_v13, h_v12, h_v25, h_v32, h_v38, h_v42, h_v11, h_v1, h_v0]; rfl) | rfl

theorem t14b (W : Valuation τ sig (Elt F)) (gs : V8) (h : J15 W gs) : I15 (StableHlo.after [op14b] W) gs := by
  obtain ⟨h0, h1, h2, h3, h4, h5, h6⟩ := h
  constructor
  simp only [StableHlo.after_cons, StableHlo.after_nil]
  rw [StableHlo.nary_result]
  unfold tbl
  rw [← h0, ← h1, ← h2, ← h3, ← h4, ← h5, ← h6]
  rfl

theorem t14 (W : Valuation τ sig (Elt F)) (gs : V8) (h : I14 W gs) : I15 (StableHlo.after hostOps0_14 W) gs := by
  have e : (hostOps0_14 : List (HloOp τ sig (Elt F))) = ops14a ++ [op14b] := rfl
  rw [e, StableHlo.after_append]
  exact t14b _ _ (t14a _ _ h)

/-- The fifteen stretches. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11,
    hostOps0_12, hostOps0_13, hostOps0_14]

/-- The table's buffer at the call. -/
theorem table (W : Valuation τ sig (Elt F)) (gs : V8) (h : W (Proc.devRef .tc main_arg2) = gs) :
    StableHlo.after (opss (F := F)).flatten W (Proc.devRef .tc main_v105) = tbl gs := by
  simp only [List.flatten_cons, List.flatten_nil, StableHlo.after_append, List.append_nil]
  exact ((t14 _ _ (t13 _ _ (t12 _ _ (t11 _ _ (t10 _ _ (t9 _ _ (t8 _ _ (t7 _ _ (t6 _ _ (t5 _ _ (t4 _ _ (t3 _ _ (t2 _ _ (t1 _ _ (t0 _ _ ⟨h⟩)))))))))))))))).h_v105

end Cert.Kernel.Host

end
-- ==== Proof.KStart.lean ====
module

public import proofs.«01_k».proof.Proof.KFrame
public import proofs.«01_k».proof.Proof.KHostTable
public import proofs.«01_k».proof.Proof.SchedVal
public import Idealize.ShloMosaic.Lib.Pipeline.ArrRel

/-!
The call on arguments the precondition admits: the schedule's words, the blocks they name, and the frame claim.
-/

@[expose] public section

set_option maxRecDepth 16384

noncomputable section

namespace Cert.Kernel.Start

open Cert.Kernel Cert.Kernel.Gen Cert.Kernel.Body Cert.Kernel.Frame
open Idealize.ShloMosaic hiding ix0 ix1 ix2
open Idealize.ShloMosaic.ValueIdx
open Idealize.ShloMosaic.TcCoe Idealize.ShloMosaic.Pipeline
open Idealize.SL.Sem

variable {F : FTy → Type} [FloatOps F]

/-- A word of the table, read at a row and a column. -/
theorem word (x1 : Vec F S7x103 .i32) (r : Fin 7) (t : Fin 103) (o : Fin 2 → Nat) (ho0 : o 0 = r) (ho1 : o 1 = t)
    (inb : ∀ a, o a + S1x1.size a ≤ S7x103.size a) (p : 0 < S1x1.numel) :
    x1 ((Rect.unit (s := S7x103) o S1x1.size inb).emb (Shape.Idx.first p)) = x1 (ix2 r t) := by
  refine congrArg x1 (funext fun b => Fin.ext ?_)
  match b with
  | ⟨0, _⟩ =>
    have h1 : (Shape.Idx.first (s := S1x1) p 0).val < 1 := (Shape.Idx.first (s := S1x1) p 0).isLt
    show o 0 + (Shape.Idx.first (s := S1x1) p 0).val * 1 = r.val
    omega
  | ⟨1, _⟩ =>
    have h1 : (Shape.Idx.first (s := S1x1) p 1).val < 1 := (Shape.Idx.first (s := S1x1) p 1).isLt
    show o 1 + (Shape.Idx.first (s := S1x1) p 1).val * 1 = t.val
    omega

/-- A grid point's number. -/
def num (i : grid0.Coords) : Fin 103 := ⟨(i 0).val, (i 0).isLt⟩

theorem col (i : grid0.Coords) : (Scalar.indexCast (BitVec.ofNat 32 (i 0).val) : Index).toNat = (num i).val := by
  have h : (i 0).val < 103 := (i 0).isLt
  show (BitVec.ofNat 32 (i 0).val).toNat = (i 0).val
  rw [BitVec.toNat_ofNat]; omega

section Words

variable {g : Nat → Nat} {gs : Sched.V8} (hg : ∀ k : Fin 8, gs (ix1 k) = BitVec.ofNat 32 (g k)) (hS : Plan.S g 8 = 49152)
include hg hS
variable (x1 : Vec F S7x103 .i32) (hx : x1 = Sched.tbl gs) (i : grid0.Coords)
include hx

theorem wE_eq : wE x1 i = BitVec.ofNat 32 (Plan.e g (num i)) := by
  unfold wE; rw [word x1 0 (num i) _ rfl (col i), hx]; exact (Sched.tbl_ap hg hS (num i)).1
theorem wBlk_eq : wBlk x1 i = BitVec.ofNat 32 (Plan.blk g (num i)) := by
  unfold wBlk; rw [word x1 1 (num i) _ rfl (col i), hx]; exact (Sched.tbl_ap hg hS (num i)).2.1
theorem wLo_eq : wLo x1 i = BitVec.ofNat 32 (Plan.lo g (num i)) := by
  unfold wLo; rw [word x1 2 (num i) _ rfl (col i), hx]; exact (Sched.tbl_ap hg hS (num i)).2.2.1
theorem wHi_eq : wHi x1 i = BitVec.ofNat 32 (Plan.hi g (num i)) := by
  unfold wHi; rw [word x1 3 (num i) _ rfl (col i), hx]; exact (Sched.tbl_ap hg hS (num i)).2.2.2.1
theorem wFirst_eq : wFirst x1 i = BitVec.ofNat 32 (if Plan.first g (num i) then 1 else 0) := by
  unfold wFirst; rw [word x1 4 (num i) _ rfl (col i), hx]; exact (Sched.tbl_ap hg hS (num i)).2.2.2.2.1
theorem wLast_eq : wLast x1 i = BitVec.ofNat 32 (if Plan.last g (num i) then 1 else 0) := by
  unfold wLast; rw [word x1 5 (num i) _ rfl (col i), hx]; exact (Sched.tbl_ap hg hS (num i)).2.2.2.2.2.1
theorem wAct_eq : wAct x1 i = BitVec.ofNat 32 (if Plan.act g (num i) then 1 else 0) := by
  unfold wAct; rw [word x1 6 (num i) _ rfl (col i), hx]; exact (Sched.tbl_ap hg hS (num i)).2.2.2.2.2.2

theorem wE_nat : (wE x1 i).toNat = Plan.e g (num i) := by
  have := Plan.e_lt g (num i)
  rw [wE_eq hg hS x1 hx i, BitVec.toNat_ofNat]; omega
theorem wBlk_nat : (wBlk x1 i).toNat = Plan.blk g (num i) := by
  have := Plan.blk_le hS (num i)
  rw [wBlk_eq hg hS x1 hx i, BitVec.toNat_ofNat]; omega

theorem chk : k0_chk1 (wE x1 i) := by
  have h := wE_nat hg hS x1 hx i
  have h8 := Plan.e_lt g (num i)
  intro a
  match a with
  | ⟨0, _⟩ =>
    show (wE x1 i).toNat + 1 ≤ 8
    omega
  | ⟨1, _⟩ => exact Nat.le_of_eq rfl

end Words

/-- A 512-row block inside the array, whole words at any packing that divides 512. -/
theorem rows_ok (p : Nat) (hp : p ∣ 512) (o : Fin 2 → Nat) (b : Nat) (hb : b ≤ 95) (ho : o = ![b, 0]) :
    ∃ h : ∀ a, (o a + 1) * S512x2048.size a ≤ S49152x2048.size a, (Rect.block (s := S49152x2048) S512x2048.size o h).WholeWords p := by
  subst ho
  refine ⟨fun a => ?_, Rect.PackedRows.wholeWords (.inr ⟨Nat.le_refl 2, rfl, .inl ⟨?_, hp⟩⟩)⟩
  · match a with
    | ⟨0, _⟩ => show (b + 1) * 512 ≤ 49152; omega
    | ⟨1, _⟩ => show (0 + 1) * 2048 ≤ 2048; omega
  · exact Dvd.dvd.mul_left hp b

section Ok

variable {g : Nat → Nat} {gs : Sched.V8} (hg : ∀ k : Fin 8, gs (ix1 k) = BitVec.ofNat 32 (g k)) (hS : Plan.S g 8 = 49152)
include hg hS
variable (pf : pre0.Contents (Elt F)) (hx : pf 0 = Sched.tbl gs)
include hx

theorem tr0 (i : grid0.Coords) : cc0_transform_0 k0_off1_inb numel1_S1x1 pf i = ![Plan.blk g (num i), 0] := by
  have h := wBlk_nat hg hS (F := F) (pf 0) hx i
  exact congrArg (fun z => ![z, 0]) h
theorem tr1 (i : grid0.Coords) : cc0_transform_1 k0_off1_inb numel1_S1x1 pf i = ![Plan.blk g (num i), 0] := by
  have h := wBlk_nat hg hS (F := F) (pf 0) hx i
  exact congrArg (fun z => ![z, 0]) h
theorem tr4 (i : grid0.Coords) : cc0_transform_4 k0_off2_inb numel1_S1x1 pf i = ![Plan.e g (num i), 0, 0] := by
  have h := wE_nat hg hS (F := F) (pf 0) hx i
  exact congrArg (fun z => ![z, 0, 0]) h
theorem tr5 (i : grid0.Coords) : cc0_transform_5 k0_off1_inb numel1_S1x1 pf i = ![Plan.blk g (num i), 0] := by
  have h := wBlk_nat hg hS (F := F) (pf 0) hx i
  exact congrArg (fun z => ![z, 0]) h
theorem tr6 (i : grid0.Coords) : cc0_transform_6 k0_off1_inb numel1_S1x1 pf i = ![Plan.blk g (num i), 0] := by
  have h := wBlk_nat hg hS (F := F) (pf 0) hx i
  exact congrArg (fun z => ![z, 0]) h

theorem ok : ok0 pf := by
  refine ⟨fun i => ?_, fun i => ?_, fun i => ?_, fun i => ?_, fun i => ?_⟩
  · obtain ⟨h, w⟩ := rows_ok (EltTy.packing .bf16) (by decide) _ _ (Plan.blk_le hS (num i)) (tr0 hg hS pf hx i); exact ⟨h, .inr w⟩
  · obtain ⟨h, w⟩ := rows_ok (EltTy.packing .bf16) (by decide) _ _ (Plan.blk_le hS (num i)) (tr1 hg hS pf hx i); exact ⟨h, .inr w⟩
  · refine ⟨fun a => ?_, .inl rfl⟩
    rw [tr4 hg hS pf hx i]
    have := Plan.e_lt g (num i)
    match a with
    | ⟨0, _⟩ => show (Plan.e g (num i) + 1) * 1 ≤ 8; omega
    | ⟨1, _⟩ => show (0 + 1) * 2048 ≤ 2048; omega
    | ⟨2, _⟩ => show (0 + 1) * 2048 ≤ 2048; omega
  · obtain ⟨h, w⟩ := rows_ok (EltTy.packing .fp8e4m3) (by decide) _ _ (Plan.blk_le hS (num i)) (tr5 hg hS pf hx i); exact ⟨h, .inr w⟩
  · obtain ⟨h, w⟩ := rows_ok (EltTy.packing .fp8e5m2) (by decide) _ _ (Plan.blk_le hS (num i)) (tr6 hg hS pf hx i); exact ⟨h, .inr w⟩

end Ok

section Args

/-- What the host's operations write, in order. -/
abbrev written : List (Ref sig .tc) :=
  [main_call0_call0_c, main_call0_call0_v0, main_v0, main_v1, main_c, main_call1_v0, main_call1_v1, main_call1_v2, main_call1_v3, main_call1_v4,
    main_call1_v5, main_call1_v6, main_call1_v7, main_call1_v8, main_call1_c, main_call1_v9, main_call1_v10, main_call1_v11, main_call1_c_0,
    main_call1_v12, main_call1_v13, main_v2, main_c_0, main_v3, main_v4, main_c_1, main_v5, main_v6, main_c_2, main_call2_v0, main_call2_v1,
    main_call2_v2, main_call2_v3, main_call2_v4, main_call2_v5, main_call2_v6, main_call2_v7, main_call2_v8, main_call2_c, main_call2_v9, main_call2_v10,
    main_call2_v11, main_call2_c_0, main_call2_v12, main_call2_v13, main_v7, main_v8, main_c_3, main_v9, main_v10, main_c_4, main_call3_v0, main_call3_v1,
    main_v11, main_call4_call0_c, main_call4_call0_v0, main_v12, main_v13, main_v14, main_v15, main_c_5, main_v16, main_v17, main_v18, main_v19, main_v20,
    main_v21, main_v22, main_v23, main_v24, main_c_6, main_v25, main_v26, main_v27, main_v28, main_v29, main_v30, main_v31, main_v32, main_v33, main_v34,
    main_v35, main_v36, main_c_7, main_v37, main_v38, main_v39, main_v40, main_v41, main_c_8, main_v42, main_v43, main_v44, main_v45, main_c_9, main_v46,
    main_v47, main_c_10, main_v48, main_v49, main_c_11, main_v50, main_v51, main_v52, main_v53, main_v54, main_c_12, main_v55, main_v56, main_v57,
    main_v58, main_c_13, main_v59, main_c_14, main_call5_v0, main_call5_c, main_call5_v1, main_call5_c_0, main_call5_v2, main_call5_v3, main_call5_v4,
    main_call5_c_1, main_call5_v5, main_call5_v6, main_call5_c_2, main_call5_v7, main_call5_v8, main_call5_c_3, main_call5_v9, main_call5_v10,
    main_call5_v11, main_call5_v12, main_call5_v13, main_call5_v14, main_v60, main_c_15, main_v61, main_v62, main_c_16, main_c_17, main_call6_v0,
    main_call6_v1, main_v63, main_v64, main_v65, main_c_18, main_v66, main_v67, main_v68, main_v69, main_v70, main_v71, main_v72, main_c_19, main_v73,
    main_v74, main_v75, main_v76, main_v77, main_v78, main_c_20, main_v79, main_c_21, main_v80, main_v81, main_v82, main_v83, main_c_22, main_v84,
    main_v85, main_v86, main_v87, main_v88, main_v89, main_c_23, main_v90, main_v91, main_v92, main_v93, main_c_24, main_v94, main_v95, main_v96,
    main_v97, main_v98, main_v99, main_v100, main_v101, main_v102, main_v103, main_v104, main_v105]

set_option maxHeartbeats 4000000 in
/-- The host's operations leave alone what they do not write. -/
theorem keep (W : Valuation τ sig (Elt F)) (r : Ref sig .tc) (hr : r ∉ written) :
    StableHlo.after (opss (F := F)).flatten W (Proc.devRef .tc r) = W (Proc.devRef .tc r) :=
  StableHlo.after_of_writes_sub _ W (StableHlo.forall_writes_sub_of_map rfl) hr

variable (m : (ℓ : Loc nD τ sig) → Buf (Elt F) ℓ) (c : Dev nD)

theorem V_arg0 : V m c main_arg0 = m ((c.tc : Thread nD τ).loc main_arg0) := keep _ _ (by decide)
theorem V_arg1 : V m c main_arg1 = m ((c.tc : Thread nD τ).loc main_arg1) := keep _ _ (by decide)
theorem V_arg2 : V m c main_arg2 = m ((c.tc : Thread nD τ).loc main_arg2) := keep _ _ (by decide)
theorem V_arg3 : V m c main_arg3 = m ((c.tc : Thread nD τ).loc main_arg3) := keep _ _ (by decide)
theorem V_arg4 : V m c main_arg4 = m ((c.tc : Thread nD τ).loc main_arg4) := keep _ _ (by decide)
theorem V_table : V m c main_v105 = Sched.tbl (m ((c.tc : Thread nD τ).loc main_arg2)) := Host.table _ _ rfl

end Args

section Claim

variable (m : (ℓ : Loc nD τ sig) → Buf (Elt F) ℓ)

/-- The table the call prefetches. -/
def pf : pre0.Contents (Elt F) := fun k => V m 0 (pre0.ref k)

theorem pf_eq : pf m 0 = Sched.tbl (m (((0 : Dev nD).tc : Thread nD τ).loc main_arg2)) := V_table m 0

variable {g : Nat → Nat} (hg : ∀ k : Fin 8, m (((0 : Dev nD).tc : Thread nD τ).loc main_arg2) (ix1 k) = BitVec.ofNat 32 (g k)) (hS : Plan.S g 8 = 49152)

/-- The table as admissible contents. -/
def adm : (pcfg0 (F := F)).Adm := ⟨pf m, ok hg hS (pf m) (pf_eq m)⟩

/-- The call, at any relation. -/
theorem call (ρ : Dev nD → PrngReg) (R : (w : Fin 9) → Fin (cfg0 (adm m hg hS)).N → Blk (adm m hg hS) w → Blk (adm m hg hS) w → Prop)
    (hR : ∀ (c : Dev nD) (t : Fin (cfg0 (adm m hg hS)).N) (Y : (w : Fin 9) → Blk (adm m hg hS) w), (∀ w, (rdat (adm m hg hS) m R c).Finds w t (Y w)) →
      ∀ x11 : Vec F S512x2048 .fp8e4m3, R 0 t (Y 0) (Y 0) ∧ R 1 t (Y 1) (Y 1) ∧ R 2 t (Y 2) (Y 2) ∧ R 3 t (Y 3) (Y 3)
        ∧ R 4 t (Y 4) (nDw (pf m 0) (grid0.coords t) (chk hg hS _ (pf_eq m) _) (Y 0) (Y 1) (Y 2) (Y 3) (Y 4) (Y 6) x11)
        ∧ R 5 t (Y 5) (nXc (pf m 0) (grid0.coords t) (chk hg hS _ (pf_eq m) _) (Y 0) (Y 2) (Y 5))
        ∧ R 6 t (Y 6) (nDyc (pf m 0) (grid0.coords t) (chk hg hS _ (pf_eq m) _) (Y 1) (Y 3) (Y 6))
        ∧ R 7 t (Y 7) (nXs (pf m 0) (grid0.coords t) (chk hg hS _ (pf_eq m) _) (Y 2) (Y 7))
        ∧ R 8 t (Y 8) (nDys (pf m 0) (grid0.coords t) (chk hg hS _ (pf_eq m) _) (Y 3) (Y 8)))
    (Q' : PUnit × MemSt nD τ sig (Elt F) → Prop)
    (hQ' : ∀ r, RDat.FramePost (cfg0 (adm m hg hS)) (rdat (adm m hg hS) m R) (V m) r ∧ r.2.sem = (fun _ => 0) → Q' r) :
    θ_run (defs (F := F)) (onTc (main (F := F))) ⟨m, fun _ => 0, ρ⟩ Q' :=
  Frame.run (adm m hg hS) m ρ (fun c => by obtain rfl : c = 0 := Subsingleton.elim _ _; rfl) R (fun t => chk hg hS _ (pf_eq m) _) hR Q' hQ'

/-- The group sizes are no window's array. -/
theorem arg2_rest : main_arg2 ∈ restRefs sig spec0 :=
  mem_restRefs_of main_arg2 rfl fun
    | 0 => by decide | 1 => by decide | 2 => by decide | 3 => by decide | 4 => by decide | 5 => by decide | 6 => by decide | 7 => by decide | 8 => by decide
    | ⟨_ + 9, h⟩ => absurd h (Nat.not_lt.2 (Nat.le_add_left _ _))

/-- What the run leaves of an array it only reads. -/
theorem inp {a : (pcfg0 (F := F)).Adm} {R : (w : Fin 9) → Fin (cfg0 a).N → Blk a w → Blk a w → Prop} (r : PUnit × MemSt nD τ sig (Elt F))
    (h : RDat.FramePost (cfg0 a) (rdat a m R) (V m) r) (c : Dev nD) (w : Fin 9) (hin : ((cfg0 a).win w).isOut = false) :
    r.2.mem (((cfg0 a).spec w).arr.view.loc c.tc) = V m c (arrRef (cfg0 a).spec w) :=
  (congrFun ((rdat a m R c).ArrAt_in w hin _) _).mp ((h c).1 w)

set_option maxHeartbeats 1000000 in
/-- What the run leaves of the arguments. -/
theorem args_of {a : (pcfg0 (F := F)).Adm} {R : (w : Fin 9) → Fin (cfg0 a).N → Blk a w → Blk a w → Prop} (r : PUnit × MemSt nD τ sig (Elt F))
    (h : RDat.FramePost (cfg0 a) (rdat a m R) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨hw, hr⟩ := h c
  refine ⟨?_, ?_, ?_, ?_, ?_⟩
  · exact (inp m r h c ((0 : Fin 9)) rfl).trans (V_arg0 m c)
  · exact (inp m r h c ((1 : Fin 9)) rfl).trans (V_arg1 m c)
  · exact (hr main_arg2 arg2_rest).trans (V_arg2 m c)
  · exact (inp m r h c ((2 : Fin 9)) rfl).trans (V_arg3 m c)
  · exact (inp m r h c ((3 : Fin 9)) rfl).trans (V_arg4 m c)

include hg hS in
/-- The run ends with the arguments as they were and every semaphore at zero. -/
theorem quiet (ρ : Dev nD → PrngReg) :
    θ_run (defs (F := F)) (onTc (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  call m hg hS ρ (fun _ _ _ _ => True) (fun _ _ _ _ _ => ⟨trivial, trivial, trivial, trivial, trivial, trivial, trivial, trivial, trivial⟩) _
    fun r h => ⟨fun c => args_of m r h.1 c, h.2⟩

end Claim

end Cert.Kernel.Start

end
-- ==== Proof.ValP.lean ====
module

public import proofs.«01_k».proof.Proof.Body
public import Idealize.ShloMosaic.Lib.Pointwise

/-!
What one visit's payloads hold at an index, over the extended reals.
-/

@[expose] public section

set_option maxRecDepth 16384

noncomputable section

namespace Cert.KernelIdeal.ValP

open Cert.KernelIdeal Cert.KernelIdeal.Gen Cert.KernelIdeal.Body
open Idealize.ShloMosaic hiding ix0 ix1 ix2 ix3
open Idealize.ShloMosaic.ValueIdx

/-- A code over the extended reals. -/
def cl (lo hi v : EReal) : EReal := min hi (max lo v)

section
variable (v : FVec Ideal S1x2048 .f32) (x : Vec Ideal S512x2048 .bf16) (r : Fin 512) (p q : Fin 2048)

theorem pay1_ap : k0_pay1 v x (ix2 r q) = cl (Ideal.ofBits .f32 0xC3E00000#32) (Ideal.ofBits .f32 0x43E00000#32) (x (ix2 r q) * v (ix2 0 q)) := by
  unfold k0_pay1; simp only [pointwise]; rfl
theorem pay2_ap : k0_pay2 v x (ix2 r q) = k0_pay1 v x (ix2 r q) := by
  unfold k0_pay2; simp only [pointwise]
theorem pay3_ap : k0_pay3 v x (ix2 r q) = cl (Ideal.ofBits .f32 0xC7600000#32) (Ideal.ofBits .f32 0x47600000#32) (x (ix2 r q) * v (ix2 0 q)) := by
  unfold k0_pay3; simp only [pointwise]; rfl
theorem pay9_ap : k0_pay9 v x (ix2 r q) = cl (Ideal.ofBits .f32 0xC3E00000#32) (Ideal.ofBits .f32 0x43E00000#32) (x (ix2 r q) * v (ix2 0 q)) := by
  unfold k0_pay9; simp only [pointwise]; rfl
theorem pay10_ap : k0_pay10 v x (ix2 r q) = cl (Ideal.ofBits .f32 0xC7600000#32) (Ideal.ofBits .f32 0x47600000#32) (x (ix2 r q) * v (ix2 0 q)) := by
  unfold k0_pay10; simp only [pointwise]; rfl
theorem zero_bits : Ideal.ofBits .f32 0#32 = 0 := by simp [Ideal.ofBits, Ideal.ieee]
theorem pay5_ap (j : S1x2048x2048.Idx) : (k0_pay5 (F := Ideal)) j = 0 := zero_bits
theorem pay6_ap (a : Vec Ideal S1x2048x2048 .f32) (x : Vec Ideal S512x2048 .fp8e4m3) (y : Vec Ideal S512x2048 .fp8e5m2) :
    k0_pay6 a x y (ix3 0 p q) = a (ix3 0 p q) + ∑ k : Fin 512, x (ix2 k p) * y (ix2 k q) := by
  unfold k0_pay6; simp only [pointwise]; rw [zero_add]; rfl
theorem pay7_ap (s t : FVec Ideal S1x2048 .f32) (a : Vec Ideal S1x2048x2048 .f32) :
    k0_pay7 s t a (ix3 0 p q) = a (ix3 0 p q) * (s (ix2 0 p) * t (ix2 0 q)) := by
  unfold k0_pay7; simp only [pointwise]
  refine congrArg (fun z => a (ix3 0 p q) * (s z * t (ix2 0 q))) ?_
  refine congrArg (fun z : Fin 2048 => (ix2 (0 : Fin 1) z : S1x2048.Idx)) (Fin.ext ?_)
  show 0 + p.val = p.val
  omega
theorem pay8_ap (w : BitVec 32) : k0_pay8 w (ix2 r q) = w + BitVec.ofNat 32 r.val := by
  unfold k0_pay8; simp only [pointwise]
  show w + BitVec.ofNat 32 (0 * 512 + r.val) = _
  rw [Nat.zero_mul, Nat.zero_add]
theorem pay4_ap (a : FVec Ideal S512x2048 .f32) (b : IVec S512x2048 1) (c : Vec Ideal S512x2048 .fp8e5m2) :
    k0_pay4 a b c (ix2 r q) = Scalar.select (b (ix2 r q)) (a (ix2 r q)) (c (ix2 r q)) := by
  unfold k0_pay4; simp only [pointwise]
theorem pay11_ap (lo hi w : BitVec 32) :
    k0_pay11 (F := Ideal) lo hi w v x (ix2 r q) = Scalar.select (IntOp.andi (IntOp.cmpi .sge (k0_pay8 w (ix2 r q)) lo) (IntOp.cmpi .slt (k0_pay8 w (ix2 r q)) hi))
      (k0_pay9 v x (ix2 r q)) (Ideal.ofBits .f32 0#32) := by
  unfold k0_pay11; simp only [pointwise]
theorem pay12_ap (lo w : BitVec 32) (c : Vec Ideal S512x2048 .fp8e4m3) :
    k0_pay12 (F := Ideal) lo w v x c (ix2 r q) = Scalar.select (IntOp.cmpi .sge (k0_pay8 w (ix2 r q)) lo) (k0_pay9 v x (ix2 r q)) (c (ix2 r q)) := by
  unfold k0_pay12; simp only [pointwise]
theorem pay13_ap (lo w : BitVec 32) (j : S512x2048.Idx) : k0_pay13 (F := Ideal) lo w j = IntOp.cmpi .sge (k0_pay8 w j) lo := rfl

end

end Cert.KernelIdeal.ValP

end
-- ==== Proof.ValK.lean ====
module

public import proofs.«01_k».proof.Proof.Body
public import Idealize.ShloMosaic.Lib.Pointwise

/-!
What one visit's stores hold at an index, over the extended reals.
-/

@[expose] public section

set_option maxRecDepth 16384

noncomputable section

namespace Cert.KernelIdeal.ValK

open Cert.KernelIdeal Cert.KernelIdeal.Gen Cert.KernelIdeal.Body
open Idealize.ShloMosaic hiding ix0 ix1 ix2
open Idealize.ShloMosaic.ValueIdx

/-- The test of one bit of the exponent, and the exponent after it. -/
def tst (p : FVec Ideal S1x2048 .f32) (b : BitVec 32) (e : IVec S1x2048 32) : IVec S1x2048 1 :=
  cmpf .oge p (bitcastToFloat .f32 (shli (addi e (broadcast S1x2048 b)) (broadcast S1x2048 23#32)))
def vst (p : FVec Ideal S1x2048 .f32) (b : BitVec 32) (e : IVec S1x2048 32) : IVec S1x2048 32 :=
  select (tst p b e) (addi e (broadcast S1x2048 b)) e
/-- The search. -/
def vex (p : FVec Ideal S1x2048 .f32) : IVec S1x2048 32 :=
  vst p 1#32 (vst p 2#32 (vst p 4#32 (vst p 8#32 (vst p 16#32 (vst p 32#32 (vst p 64#32 (vst p 128#32 (broadcast S1x2048 0#32))))))))
/-- The scale's exponent, the scale and its inverse. -/
def vfe (x : IVec S1x2048 32) : IVec S1x2048 32 :=
  select (ori (cmpi .eq x (broadcast S1x2048 0#32)) (cmpi .eq x (broadcast S1x2048 255#32))) (broadcast S1x2048 0#32) (subi x (broadcast S1x2048 126#32))
def vscl (x : IVec S1x2048 32) : FVec Ideal S1x2048 .f32 :=
  bitcastToFloat .f32 (shli (addi (broadcast S1x2048 127#32) x) (broadcast S1x2048 23#32))
def vinv (x : IVec S1x2048 32) : FVec Ideal S1x2048 .f32 :=
  bitcastToFloat .f32 (shli (subi (broadcast S1x2048 127#32) x) (broadcast S1x2048 23#32))

section Search
variable (r : Vec Ideal S1x2048 .f32) (p : FVec Ideal S1x2048 .f32) (e b : IVec S1x2048 32) (d : IVec S1x2048 1)

theorem p15 : k0_pay15 r = vst (k0_pay14 r) 128#32 (broadcast S1x2048 0#32) := rfl
theorem p16 : k0_pay16 r = tst (k0_pay14 r) 64#32 (k0_pay15 r) := rfl
theorem p18 : k0_pay18 p e d b = vst p 4#32 (vst p 8#32 (vst p 16#32 (vst p 32#32 (select d (addi e b) e)))) := by
  generalize hz : select d (addi e b) e = z
  unfold k0_pay18; simp only [hz]
  generalize hz1 : vst p 32#32 z = z1
  have h1 : select (cmpf .oge p (bitcastToFloat .f32 (shli (addi z (broadcast S1x2048 32#32)) (broadcast S1x2048 23#32)))) (addi z (broadcast S1x2048 32#32)) z = z1 := hz1
  simp only [h1]
  generalize hz2 : vst p 16#32 z1 = z2
  have h2 : select (cmpf .oge p (bitcastToFloat .f32 (shli (addi z1 (broadcast S1x2048 16#32)) (broadcast S1x2048 23#32)))) (addi z1 (broadcast S1x2048 16#32)) z1 = z2 := hz2
  simp only [h2]
  rfl
theorem p19 : k0_pay19 p e d b = tst p 2#32 (k0_pay18 p e d b) := rfl
theorem p21 : k0_pay21 p e d b = vfe (vst p 1#32 (select d (addi e b) e)) := by
  generalize hz : select d (addi e b) e = z
  unfold k0_pay21; simp only [hz]
  rfl
theorem p22 : k0_pay22 p e d b = vscl (k0_pay21 p e d b) := rfl
theorem p23 : k0_pay23 p e d b = vinv (k0_pay21 p e d b) := rfl
theorem p26 : k0_pay26 r = tst (k0_pay24 r) 128#32 (broadcast S1x2048 0#32) := rfl
theorem p28 : k0_pay28 p e d b = vst p 8#32 (vst p 16#32 (vst p 32#32 (vst p 64#32 (select d b e)))) := by
  generalize hz : select d b e = z
  unfold k0_pay28; simp only [hz]
  generalize hz1 : vst p 64#32 z = z1
  have h1 : select (cmpf .oge p (bitcastToFloat .f32 (shli (addi z (broadcast S1x2048 64#32)) (broadcast S1x2048 23#32)))) (addi z (broadcast S1x2048 64#32)) z = z1 := hz1
  simp only [h1]
  generalize hz2 : vst p 32#32 z1 = z2
  have h2 : select (cmpf .oge p (bitcastToFloat .f32 (shli (addi z1 (broadcast S1x2048 32#32)) (broadcast S1x2048 23#32)))) (addi z1 (broadcast S1x2048 32#32)) z1 = z2 := hz2
  simp only [h2]
  rfl
theorem p29 : k0_pay29 p e d b = tst p 4#32 (k0_pay28 p e d b) := rfl
theorem p30 : k0_pay30 p e d b = addi (k0_pay28 p e d b) (broadcast S1x2048 4#32) := rfl
theorem p31 (d : IVec S1x2048 1) (x y : IVec S1x2048 32) : k0_pay31 p x d y = vfe (vst p 1#32 (vst p 2#32 (select d y x))) := by
  generalize hz : select d y x = z
  unfold k0_pay31; simp only [hz]
  generalize hz1 : vst p 2#32 z = z1
  have h1 : select (cmpf .oge p (bitcastToFloat .f32 (shli (addi z (broadcast S1x2048 2#32)) (broadcast S1x2048 23#32)))) (addi z (broadcast S1x2048 2#32)) z = z1 := hz1
  simp only [h1]
  rfl
theorem p32 (d : IVec S1x2048 1) (x y : IVec S1x2048 32) : k0_pay32 p x d y = vscl (k0_pay31 p x d y) := rfl
theorem p33 (d : IVec S1x2048 1) (x y : IVec S1x2048 32) : k0_pay33 p x d y = vinv (k0_pay31 p x d y) := rfl
theorem vst_def (bb : BitVec 32) : select (tst p bb e) (addi e (broadcast S1x2048 bb)) e = vst p bb e := rfl

theorem exX : k0_pay21 (k0_pay14 r) (k0_pay18 (k0_pay14 r) (k0_pay15 r) (k0_pay16 r) k0_pay17) (k0_pay19 (k0_pay14 r) (k0_pay15 r) (k0_pay16 r) k0_pay17) k0_pay20
    = vfe (vex (k0_pay14 r)) := by
  rw [p21, p19, show (k0_pay20 : IVec S1x2048 32) = broadcast S1x2048 2#32 from rfl, vst_def, p18, p16,
    show (k0_pay17 : IVec S1x2048 32) = broadcast S1x2048 64#32 from rfl, vst_def, p15]
  rfl
theorem exY : k0_pay31 (k0_pay24 r) (k0_pay28 (k0_pay24 r) k0_pay25 (k0_pay26 r) k0_pay27) (k0_pay29 (k0_pay24 r) k0_pay25 (k0_pay26 r) k0_pay27)
    (k0_pay30 (k0_pay24 r) k0_pay25 (k0_pay26 r) k0_pay27) = vfe (vex (k0_pay24 r)) := by
  rw [p31, p29, p30, vst_def, p28, p26, show (k0_pay25 : IVec S1x2048 32) = broadcast S1x2048 0#32 from rfl,
    show (k0_pay27 : IVec S1x2048 32) = addi (broadcast S1x2048 0#32) (broadcast S1x2048 128#32) from rfl, vst_def]
  rfl
end Search

theorem sclX_eq (r : Vec Ideal S1x2048 .f32) : sclX r = vscl (vfe (vex (k0_pay14 r))) := by unfold sclX; rw [p22, exX]
theorem invX_eq (r : Vec Ideal S1x2048 .f32) : invX r = vinv (vfe (vex (k0_pay14 r))) := by unfold invX; rw [p23, exX]
theorem sclY_eq (r : Vec Ideal S1x2048 .f32) : sclY r = vscl (vfe (vex (k0_pay24 r))) := by unfold sclY; rw [p32, exY]
theorem invY_eq (r : Vec Ideal S1x2048 .f32) : invY r = vinv (vfe (vex (k0_pay24 r))) := by unfold invY; rw [p33, exY]

theorem pay14_ap (r : Vec Ideal S1x2048 .f32) (j : S1x2048.Idx) : k0_pay14 r j = r j * Ideal.ofBits .f32 0x3B124925#32 := rfl
theorem pay24_ap (r : Vec Ideal S1x2048 .f32) (j : S1x2048.Idx) : k0_pay24 r j = r j * Ideal.ofBits .f32 0x37924925#32 := rfl

end Cert.KernelIdeal.ValK

end
-- ==== Proof.Scale.lean ====
module

public import Idealize.ShloMosaic.PureOps.Ideal
public import Idealize.ShloMosaic.PureOps.Ideal.Laws

/-!
The exponent of a positive number, found bit by bit or by counting the powers of two below it.
-/

@[expose] public section

noncomputable section

namespace Cert.Scale

open Idealize.ShloMosaic

/-- The power of two whose biased exponent is `k`. -/
def th (k : Nat) : EReal := (((2 : ℝ) ^ ((k : ℤ) - 127) : ℝ) : EReal)

theorem th_mono {a b : Nat} (h : a ≤ b) : th a ≤ th b := by
  unfold th
  exact EReal.coe_le_coe_iff.mpr (zpow_le_zpow_right₀ (by norm_num) (by omega))

theorem th_lt {a b : Nat} (h : a < b) : th a < th b := by
  unfold th
  exact EReal.coe_lt_coe_iff.mpr (zpow_lt_zpow_right₀ (by norm_num) (by omega))

/-- The bits with exponent field `k` and nothing else. -/
theorem bits_th (k : Nat) (h0 : 1 ≤ k) (h1 : k ≤ 254) : Ideal.ofBits .f32 (BitVec.ofNat 32 k <<< 23) = th k := by
  have hex : ((BitVec.ofNat 32 k <<< 23).extractLsb' 23 8).toNat = k := by
    simp only [BitVec.extractLsb'_toNat, BitVec.toNat_shiftLeft, BitVec.toNat_ofNat, Nat.shiftLeft_eq, Nat.shiftRight_eq_div_pow]; omega
  have hfr : ((BitVec.ofNat 32 k <<< 23).extractLsb' 0 23).toNat = 0 := by
    simp only [BitVec.extractLsb'_toNat, BitVec.toNat_shiftLeft, BitVec.toNat_ofNat, Nat.shiftLeft_eq, Nat.shiftRight_eq_div_pow]; omega
  have hng : ((BitVec.ofNat 32 k <<< 23).extractLsb' 31 1 == 1#1) = false := by
    rw [beq_eq_false_iff_ne]; intro h
    have := congrArg BitVec.toNat h
    simp only [BitVec.extractLsb'_toNat, BitVec.toNat_shiftLeft, BitVec.toNat_ofNat, Nat.shiftLeft_eq, Nat.shiftRight_eq_div_pow] at this; omega
  generalize BitVec.ofNat 32 k <<< 23 = w at *
  have hw : Ideal.ofBits .f32 w = Ideal.ieee 8 23 w := by unfold Ideal.ofBits; rfl
  rw [hw]
  unfold Ideal.ieee
  simp only [hex, hfr, hng, show (8 + 23 : Nat) = 31 from rfl]
  rw [if_neg (show ¬ k = 2 ^ 8 - 1 by omega), if_neg (show ¬ k = 0 by omega)]
  unfold th
  rw [EReal.coe_eq_coe_iff]
  have e2 : (2 : ℝ) ^ ((k : ℤ) - 127) = (2 : ℝ) ^ (23 : ℤ) * (2 : ℝ) ^ ((k : ℤ) - 150) := by
    rw [← zpow_add₀ (by norm_num)]; congr 1; ring
  rw [e2]
  norm_num
  rw [show (k : ℤ) - 127 - 23 = (k : ℤ) - 150 by ring]

theorem bits_inf : Ideal.ofBits .f32 (BitVec.ofNat 32 255 <<< 23) = ⊤ := by
  simp [Ideal.ofBits, Ideal.ieee]

/-- How many powers of two are at most `p`. -/
def cnt (p : EReal) : Nat → Nat
  | 0 => 0
  | k + 1 => cnt p k + if th (k + 1) ≤ p then 1 else 0

theorem cnt_le (p : EReal) (k : Nat) : cnt p k ≤ k := by
  induction k with
  | zero => exact Nat.le_refl _
  | succ k ih => unfold cnt; split <;> omega

theorem cnt_full (p : EReal) (k : Nat) (h : th k ≤ p) : cnt p k = k := by
  induction k with
  | zero => rfl
  | succ k ih => unfold cnt; rw [if_pos h, ih ((th_mono (Nat.le_succ k)).trans h)]

theorem cnt_stop (p : EReal) (k j : Nat) (h : ¬ th (k + 1) ≤ p) : cnt p (k + j) = cnt p k := by
  induction j with
  | zero => rfl
  | succ j ih =>
    show cnt p (k + j) + (if th (k + j + 1) ≤ p then 1 else 0) = _
    rw [if_neg fun h' => h ((th_mono (show k + 1 ≤ k + j + 1 by omega)).trans h'), ih, Nat.add_zero]

theorem th_iff (p : EReal) (N k : Nat) (h0 : 1 ≤ k) (hk : k ≤ N) : th k ≤ p ↔ k ≤ cnt p N := by
  constructor
  · intro h
    obtain ⟨d, rfl⟩ := Nat.exists_eq_add_of_le hk
    have : ∀ d, k ≤ cnt p (k + d) := by
      intro d
      induction d with
      | zero => exact (cnt_full p k h).ge
      | succ d ih => show k ≤ cnt p (k + d) + _; omega
    exact this d
  · intro h
    by_contra hn
    obtain ⟨k', rfl⟩ := Nat.exists_eq_add_of_le' h0
    obtain ⟨d, rfl⟩ := Nat.exists_eq_add_of_le (show k' ≤ N by omega)
    rw [cnt_stop p k' d hn] at h
    have := cnt_le p k'
    omega

/-- The biased exponent. -/
def nn (p : EReal) : Nat := cnt p 254

theorem nn_lt {p : EReal} (h : p < th 250) : nn p < 250 := by
  by_contra hn
  exact absurd ((th_iff p 254 250 (by omega) (by omega)).2 (by unfold nn at hn; omega)) (not_le.mpr h)

/-- One bit of the search. -/
theorem step (p : EReal) (hp : p < th 250) (a b : Nat) (hb : 1 ≤ b) (hab : a + b ≤ 255) :
    (Ideal.ofBits .f32 (BitVec.ofNat 32 (a + b) <<< 23) ≤ p) ↔ a + b ≤ nn p := by
  by_cases h : a + b ≤ 254
  · rw [bits_th _ (by omega) h]; exact th_iff p 254 _ (by omega) h
  · obtain h : a + b = 255 := by omega
    rw [h, bits_inf]
    have := nn_lt hp
    constructor
    · intro ht
      exact absurd (lt_of_lt_of_le (lt_of_le_of_lt ht hp) le_top) (lt_irrefl _)
    · intro; omega

/-- The exponent from the biased one. -/
def ee (n : Nat) : ℝ := if n = 0 then 0 else (n : ℝ) - 126

theorem rpow_th (k : Nat) : Ideal.exp2 ((((k : ℝ) - 127 : ℝ)) : EReal) = th k := by
  show ((Real.rpow 2 ((k : ℝ) - 127) : ℝ) : EReal) = _
  unfold th; congr 1
  show (2 : ℝ) ^ ((k : ℝ) - 127) = _
  rw [show ((k : ℝ) - 127) = (((k : ℤ) - 127 : ℤ) : ℝ) by push_cast; ring, Real.rpow_intCast]

theorem scale_bits (n : Nat) (h : n < 250) : Ideal.ofBits .f32 (BitVec.ofNat 32 (if n = 0 then 127 else n + 1) <<< 23) = Ideal.exp2 ((ee n : ℝ) : EReal) := by
  rw [bits_th _ (by split <;> omega) (by split <;> omega), ← rpow_th]
  unfold ee; congr 2
  split
  · norm_num
  · push_cast; ring

theorem inv_bits (n : Nat) (h : n < 250) : Ideal.ofBits .f32 (BitVec.ofNat 32 (if n = 0 then 127 else 253 - n) <<< 23) = Ideal.exp2 ((-ee n : ℝ) : EReal) := by
  rw [bits_th _ (by split <;> omega) (by split <;> omega), ← rpow_th]
  unfold ee; congr 2
  split
  · norm_num
  · rw [Nat.cast_sub (by omega)]; push_cast; ring_nf

/-- A maximum that is a number, times a constant that is at most 2^(-8), is small. -/
theorem small (x : EReal) (hx : x ≤ Ideal.ofBits .f32 0x7F7FFFFF#32) (c : BitVec 32) (hc : c = 0x3B124925#32 ∨ c = 0x37924925#32) :
    x * Ideal.ofBits .f32 c < th 250 := by
  have hM : Ideal.ofBits .f32 0x7F7FFFFF#32 = (((16777215 : ℝ) * 2 ^ (104 : ℤ) : ℝ) : EReal) := by
    simp [Ideal.ofBits, Ideal.ieee, -EReal.coe_mul]
  have hC : ∃ r : ℝ, 0 ≤ r ∧ r ≤ 1 / 256 ∧ Ideal.ofBits .f32 c = (r : EReal) := by
    rcases hc with rfl | rfl
    · refine ⟨(9586981 : ℝ) * 2 ^ (-32 : ℤ), by positivity, by norm_num, ?_⟩
      simp [Ideal.ofBits, Ideal.ieee, -EReal.coe_mul]
    · refine ⟨(9586981 : ℝ) * 2 ^ (-39 : ℤ), by positivity, by norm_num, ?_⟩
      simp [Ideal.ofBits, Ideal.ieee, -EReal.coe_mul]
  obtain ⟨r, hr0, hr1, hr⟩ := hC
  have h1 : x * (r : EReal) ≤ Ideal.ofBits .f32 0x7F7FFFFF#32 * (r : EReal) :=
    mul_le_mul_of_nonneg_right hx (by exact_mod_cast hr0)
  rw [hr]
  refine lt_of_le_of_lt h1 ?_
  rw [hM, ← EReal.coe_mul]
  unfold th
  rw [EReal.coe_lt_coe_iff]
  have : (16777215 : ℝ) * 2 ^ (104 : ℤ) * r ≤ 16777215 * 2 ^ (104 : ℤ) * (1 / 256) := mul_le_mul_of_nonneg_left hr1 (by positivity)
  refine lt_of_le_of_lt this ?_
  norm_num

end Cert.Scale

end
-- ==== Proof.ValS.lean ====
module

public import proofs.«01_k».proof.Proof.ValK
public import proofs.«01_k».proof.Proof.Scale

/-!
The scales and their inverses at an index, over the extended reals.
-/

@[expose] public section

set_option maxRecDepth 16384

noncomputable section

namespace Cert.KernelIdeal.ValS

open Cert.KernelIdeal Cert.KernelIdeal.Gen Cert.KernelIdeal.Body Cert.KernelIdeal.ValK
open Idealize.ShloMosaic hiding ix0 ix1 ix2
open Idealize.ShloMosaic.ValueIdx
open Cert.Scale

theorem ofBool_one (q : Prop) [Decidable q] : BitVec.ofBool (decide q) = 1#1 ↔ q := by
  by_cases h : q <;> simp [h]

theorem shl (x : BitVec 32) : IntOp.shli .vector x 23#32 = x <<< 23 := by
  unfold IntOp.shli
  rw [if_pos (by decide)]
  rfl

/-- One step of the search. -/
theorem vst_ap (p : FVec Ideal S1x2048 .f32) (e : IVec S1x2048 32) (j : S1x2048.Idx) (a b : Nat) (hp : p j < th 250)
    (he : e j = BitVec.ofNat 32 a) (hb : 1 ≤ b) (hab : a + b ≤ 255) :
    vst p (BitVec.ofNat 32 b) e j = BitVec.ofNat 32 (if a + b ≤ nn (p j) then a + b else a) := by
  have hs : IntOp.addi (e j) (BitVec.ofNat 32 b) = BitVec.ofNat 32 (a + b) := by
    rw [he]; exact (BitVec.ofNat_add a b).symm
  have h1 : vst p (BitVec.ofNat 32 b) e j
      = Scalar.select (Ideal.cmp .oge (p j) (Ideal.ofBits .f32 (IntOp.shli .vector (IntOp.addi (e j) (BitVec.ofNat 32 b)) 23#32)))
          (IntOp.addi (e j) (BitVec.ofNat 32 b)) (e j) := rfl
  rw [h1, hs, shl]
  have hc : (Ideal.cmp .oge (p j) (Ideal.ofBits .f32 (BitVec.ofNat 32 (a + b) <<< 23)) = 1#1) ↔ a + b ≤ nn (p j) := by
    rw [← step (p j) hp a b hb hab]
    exact ofBool_one _
  unfold Scalar.select
  by_cases h : a + b ≤ nn (p j)
  · have h' : Ideal.cmp .oge (p j) (Ideal.ofBits .f32 (BitVec.ofNat 32 (a + b) <<< 23)) = 1 := hc.2 h
    rw [if_pos h', if_pos h]
  · have h' : ¬ Ideal.cmp .oge (p j) (Ideal.ofBits .f32 (BitVec.ofNat 32 (a + b) <<< 23)) = 1 := fun h' => h (hc.1 h')
    rw [if_neg h', if_neg h, he]

/-- A search bit by bit ends at the number. -/
theorem vex_ap (p : FVec Ideal S1x2048 .f32) (j : S1x2048.Idx) (hp : p j < th 250) : vex p j = BitVec.ofNat 32 (nn (p j)) := by
  have hn := nn_lt hp
  unfold vex
  have h0 : (broadcast S1x2048 0#32 : IVec S1x2048 32) j = BitVec.ofNat 32 0 := rfl
  generalize hA : nn (p j) = n at hn
  have key : ∀ (b a : Nat) (e : IVec S1x2048 32), e j = BitVec.ofNat 32 a → 1 ≤ b → a + b ≤ 255 → a ≤ n →
      vst p (BitVec.ofNat 32 b) e j = BitVec.ofNat 32 (if a + b ≤ n then a + b else a) := by
    intro b a e he hb hab _; rw [← hA]; exact vst_ap p e j a b hp he hb hab
  have go : ∀ (b a : Nat) (e : IVec S1x2048 32), e j = BitVec.ofNat 32 a → 1 ≤ b → a + b ≤ 255 → a ≤ n → n < a + 2 * b →
      ∃ a', vst p (BitVec.ofNat 32 b) e j = BitVec.ofNat 32 a' ∧ a' ≤ n ∧ n < a' + b ∧ a' ≤ a + b := by
    intro b a e he hb hab ha hlt
    refine ⟨_, key b a e he hb hab ha, ?_, ?_, ?_⟩ <;> split <;> omega
  obtain ⟨a1, e1, l1, u1, m1⟩ := go 128 0 _ h0 (by omega) (by omega) (by omega) (by omega)
  obtain ⟨a2, e2, l2, u2, m2⟩ := go 64 a1 _ e1 (by omega) (by omega) l1 (by omega)
  obtain ⟨a3, e3, l3, u3, m3⟩ := go 32 a2 _ e2 (by omega) (by omega) l2 (by omega)
  obtain ⟨a4, e4, l4, u4, m4⟩ := go 16 a3 _ e3 (by omega) (by omega) l3 (by omega)
  obtain ⟨a5, e5, l5, u5, m5⟩ := go 8 a4 _ e4 (by omega) (by omega) l4 (by omega)
  obtain ⟨a6, e6, l6, u6, m6⟩ := go 4 a5 _ e5 (by omega) (by omega) l5 (by omega)
  obtain ⟨a7, e7, l7, u7, m7⟩ := go 2 a6 _ e6 (by omega) (by omega) l6 (by omega)
  obtain ⟨a8, e8, l8, u8, m8⟩ := go 1 a7 _ e7 (by omega) (by omega) l7 (by omega)
  refine e8.trans (congrArg _ ?_)
  omega

/-- The exponent, as a word. -/
theorem vfe_ap (x : IVec S1x2048 32) (j : S1x2048.Idx) (n : Nat) (hn : n < 250) (hx : x j = BitVec.ofNat 32 n) :
    vfe x j = if n = 0 then 0#32 else BitVec.ofNat 32 n - 126#32 := by
  have h1 : vfe x j = Scalar.select (IntOp.ori (IntOp.cmpi .eq (x j) 0#32) (IntOp.cmpi .eq (x j) 255#32)) 0#32 (IntOp.subi (x j) 126#32) := rfl
  rw [h1, hx]
  unfold Scalar.select
  have e0 : (BitVec.ofNat 32 n = 0#32) ↔ n = 0 := by
    constructor
    · intro h; have := congrArg BitVec.toNat h; simp only [BitVec.toNat_ofNat] at this; omega
    · intro h; subst h; rfl
  have e1 : ¬ BitVec.ofNat 32 n = 255#32 := by
    intro h; have := congrArg BitVec.toNat h; simp only [BitVec.toNat_ofNat] at this; omega
  by_cases h : n = 0
  · subst h; rfl
  · rw [if_neg h, if_neg]
    · rfl
    · have h2 : ¬ BitVec.ofNat 32 n = 0#32 := fun h' => h (e0.1 h')
      have b2 : (BitVec.ofNat 32 n == 0#32) = false := beq_eq_false_iff_ne.2 h2
      have b1 : (BitVec.ofNat 32 n == 255#32) = false := beq_eq_false_iff_ne.2 e1
      simp only [IntOp.cmpi, IntOp.ori, b2, b1]
      decide

theorem vscl_ap (x : IVec S1x2048 32) (j : S1x2048.Idx) (n : Nat) (hn : n < 250) (hx : x j = BitVec.ofNat 32 n) :
    vscl (vfe x) j = Ideal.exp2 ((ee n : ℝ) : EReal) := by
  have h1 : vscl (vfe x) j = Ideal.ofBits .f32 (IntOp.shli .vector (127#32 + vfe x j) 23#32) := rfl
  rw [h1, shl, ← scale_bits n hn, vfe_ap x j n hn hx]
  congr 2
  split
  · rfl
  · apply BitVec.eq_of_toNat_eq
    simp only [BitVec.toNat_add, BitVec.toNat_sub, BitVec.toNat_ofNat]; omega
theorem vinv_ap (x : IVec S1x2048 32) (j : S1x2048.Idx) (n : Nat) (hn : n < 250) (hx : x j = BitVec.ofNat 32 n) :
    vinv (vfe x) j = Ideal.exp2 ((-ee n : ℝ) : EReal) := by
  have h1 : vinv (vfe x) j = Ideal.ofBits .f32 (IntOp.shli .vector (127#32 - vfe x j) 23#32) := rfl
  rw [h1, shl, ← inv_bits n hn, vfe_ap x j n hn hx]
  congr 2
  split
  · rfl
  · apply BitVec.eq_of_toNat_eq
    simp only [BitVec.toNat_sub, BitVec.toNat_ofNat]; omega

/-- The scale of a maximum at a constant, and its inverse. -/
def sc (c : BitVec 32) (x : EReal) : EReal := Ideal.exp2 ((ee (nn (x * Ideal.ofBits .f32 c)) : ℝ) : EReal)
def iv (c : BitVec 32) (x : EReal) : EReal := Ideal.exp2 ((-ee (nn (x * Ideal.ofBits .f32 c)) : ℝ) : EReal)
abbrev cX : BitVec 32 := 0x3B124925#32
abbrev cY : BitVec 32 := 0x37924925#32

section
variable (r : Vec Ideal S1x2048 .f32) (j : S1x2048.Idx) (h : r j ≤ Ideal.ofBits .f32 0x7F7FFFFF#32)
include h
theorem sclX_ap : sclX r j = sc cX (r j) := by
  have hp := small (r j) h cX (.inl rfl)
  rw [sclX_eq]; exact vscl_ap _ j _ (nn_lt hp) (vex_ap (k0_pay14 r) j hp)
theorem invX_ap : invX r j = iv cX (r j) := by
  have hp := small (r j) h cX (.inl rfl)
  rw [invX_eq]; exact vinv_ap _ j _ (nn_lt hp) (vex_ap (k0_pay14 r) j hp)
theorem sclY_ap : sclY r j = sc cY (r j) := by
  have hp := small (r j) h cY (.inr rfl)
  rw [sclY_eq]; exact vscl_ap _ j _ (nn_lt hp) (vex_ap (k0_pay24 r) j hp)
theorem invY_ap : invY r j = iv cY (r j) := by
  have hp := small (r j) h cY (.inr rfl)
  rw [invY_eq]; exact vinv_ap _ j _ (nn_lt hp) (vex_ap (k0_pay24 r) j hp)
end

end Cert.KernelIdeal.ValS

end
-- ==== Proof.Inv.lean ====
module

public import proofs.«01_k».proof.Proof.Plan
public import Mathlib.Data.EReal.Operations
public import Mathlib.Algebra.BigOperators.Fin

/-!
What a visit keeps, in plain numbers: the coded rows of a block are right up to the end of the visit's group, and the
sum of a group's products is right up to the end of the visit's block.
-/

@[expose] public section

noncomputable section

namespace Cert.Inv

open Cert Plan

variable {g : Nat → Nat} (hS : S g 8 = 49152)

theorem uniqS {a b x : Nat} (h1 : S g a ≤ x) (h2 : x < S g (a + 1)) (h3 : S g b ≤ x) (h4 : x < S g (b + 1)) : a = b := by
  rcases Nat.lt_trichotomy a b with h | h | h
  · have := S_mono g (show a + 1 ≤ b by omega); omega
  · exact h
  · have := S_mono g (show b + 1 ≤ a by omega); omega

/-- The coded rows of the visit's block that lie before the end of its group are each coded with the scale of their group. -/
def Good (g : Nat → Nat) (Q : Nat → Nat → Fin 2048 → EReal) (v : Nat) (f : Fin 512 → Fin 2048 → EReal) : Prop :=
  ∀ (j : Fin 512) (p : Fin 2048) (k : Nat), k < 8 → S g k ≤ 512 * blk g v + j.val → 512 * blk g v + j.val < S g (k + 1) →
    512 * blk g v + j.val < hi g v → f j p = Q k (512 * blk g v + j.val) p

variable {Q : Nat → Nat → Fin 2048 → EReal}

include hS in
theorem good_step {v : Nat} {old new : Fin 512 → Fin 2048 → EReal}
    (hold : ∀ u, v = u + 1 → blk g v = blk g u → Good g Q u old)
    (hact : act g v → ∀ (j : Fin 512) p, 512 * blk g v + j.val < hi g v →
      new j p = if lo g v ≤ 512 * blk g v + j.val then Q (e g v) (512 * blk g v + j.val) p else old j p)
    (hidle : ¬ act g v → ∀ j p, new j p = old j p) : Good g Q v new := by
  intro j p k hk h1 h2 h3
  -- a row before the visit's group was right already
  have before : 512 * blk g v + j.val < lo g v → old j p = Q k (512 * blk g v + j.val) p := by
    intro hlt
    obtain ⟨u, hv, hb, hu⟩ := inside hS (v := v) (by omega)
    have h := hold u hv hb
    rw [hb] at h1 h2 hlt ⊢
    exact h j p k hk h1 h2 (by omega)
  by_cases ha : act g v
  · rw [hact ha j p h3]
    by_cases hl : lo g v ≤ 512 * blk g v + j.val
    · rw [if_pos hl]
      have hke : k = e g v := uniqS h1 h2 hl h3
      rw [hke]
    · rw [if_neg hl]; exact before (by omega)
  · rw [hidle ha j p]
    rcases idle hS ha with h | ⟨u, hv, hb, hu⟩
    · exact before (by omega)
    · have h := hold u hv hb
      rw [hb] at h1 h2 h3 ⊢
      exact h j p k hk h1 h2 (by omega)

include hS in
/-- When a block is left, all of its rows are right. -/
theorem good_full {v : Nat} {f : Fin 512 → Fin 2048 → EReal} (hv : v = 102 ∨ blk g (v + 1) ≠ blk g v) (h : Good g Q v f)
    (j : Fin 512) (p : Fin 2048) (k : Nat) (hk : k < 8) (h1 : S g k ≤ 512 * blk g v + j.val) (h2 : 512 * blk g v + j.val < S g (k + 1)) :
    f j p = Q k (512 * blk g v + j.val) p := by
  refine h j p k hk h1 h2 ?_
  have hj := j.isLt
  rcases hv with hv | hv
  · subst hv
    have := hi_end hS; have := blk_end hS
    omega
  · have := done_block hS hv
    omega

section Sum

variable (g) (X Y : Nat → Nat → Fin 2048 → EReal) (sx sy : Nat → Fin 2048 → EReal)

/-- One row's product, for the rows of a group; 0 for the other rows. -/
def term (k : Nat) (p q : Fin 2048) (r : Nat) : EReal := if S g k ≤ r ∧ r < S g (k + 1) then X k r p * Y k r q else 0

/-- The products of the rows before `n`. -/
def part (k : Nat) (p q : Fin 2048) (n : Nat) : EReal := ∑ r ∈ Finset.range n, term g X Y k p q r

theorem part_add (k : Nat) (p q : Fin 2048) (n m : Nat) :
    part g X Y k p q (n + m) = part g X Y k p q n + ∑ j : Fin m, term g X Y k p q (n + j.val) := by
  unfold part
  rw [Finset.sum_range_add, Finset.sum_range (fun x => term g X Y k p q (n + x))]

theorem part_low (k : Nat) (p q : Fin 2048) (n : Nat) (h : n ≤ S g k) : part g X Y k p q n = 0 := by
  unfold part
  refine Finset.sum_eq_zero fun r hr => ?_
  rw [Finset.mem_range] at hr
  unfold term
  rw [if_neg (by omega)]

theorem part_high (k : Nat) (p q : Fin 2048) (n m : Nat) (h : S g (k + 1) ≤ n) (hm : n ≤ m) :
    part g X Y k p q m = part g X Y k p q n := by
  obtain ⟨d, rfl⟩ := Nat.exists_eq_add_of_le hm
  rw [part_add, Finset.sum_eq_zero, add_zero]
  intro j _
  unfold term
  rw [if_neg (by omega)]

theorem part_empty (k : Nat) (p q : Fin 2048) (n : Nat) (h : g k = 0) : part g X Y k p q n = 0 := by
  unfold part
  refine Finset.sum_eq_zero fun r hr => ?_
  unfold term
  have := S_succ g k
  rw [if_neg (by omega)]

/-- The sum as a visit leaves it: all the products, scaled, at the last visit of the group; before, the products up to the
end of the block. -/
def Acc (v : Nat) (Z : Fin 2048 → Fin 2048 → EReal) : Prop :=
  ∀ p q, Z p q = if kk g v = nb g (e g v) - 1 then part g X Y (e g v) p q 49152 * (sx (e g v) p * sy (e g v) q)
    else part g X Y (e g v) p q (512 * (blk g v + 1))

variable {g X Y sx sy}

include hS in
theorem acc_step {v : Nat} {old a b new : Fin 2048 → Fin 2048 → EReal}
    (hold : ∀ u, v = u + 1 → e g v = e g u → Acc g X Y sx sy u old)
    (ha : ∀ p q, a p q = if first g v then 0 else old p q)
    (hb1 : act g v → ∀ p q, b p q = a p q + ∑ j : Fin 512, term g X Y (e g v) p q (512 * blk g v + j.val))
    (hb0 : ¬ act g v → ∀ p q, b p q = a p q)
    (hn : ∀ p q, new p q = if last g v then b p q * (sx (e g v) p * sy (e g v) q) else b p q) : Acc g X Y sx sy v new := by
  intro p q
  have hlast : ∀ n, kk g v = nb g (e g v) - 1 → n = 512 * (blk g v + 1) →
      part g X Y (e g v) p q 49152 = part g X Y (e g v) p q n := by
    intro n hk hn
    have h1 := last_rows hS hk
    have h2 := blk_le hS v
    exact part_high g X Y _ p q n 49152 (by unfold hi at h1; omega) (by omega)
  by_cases hl : live g v
  · -- what the sum is before the scaling
    have hb : b p q = part g X Y (e g v) p q (512 * (blk g v + 1)) := by
      by_cases h0 : kk g v = 0
      · have haz : a p q = 0 := by rw [ha, if_pos ⟨hl, h0⟩]
        by_cases hac : act g v
        · rw [hb1 hac, haz, ← part_low g X Y (e g v) p q (512 * blk g v) (first_rows hS h0 hac.2), ← part_add]
          rfl
        · rw [hb0 hac, haz, part_empty]
          by_contra hne
          exact hac ⟨hl, Nat.pos_of_ne_zero hne⟩
      · obtain ⟨u, hv, hlu, he, hku, hbl⟩ := later hS h0 hl
        have hu := hold u hv he p q
        rw [if_neg hku] at hu
        have hgp : 0 < g (e g v) := by
          rcases Nat.eq_zero_or_pos (g (e g v)) with hz | hz
          · exact absurd ((place hS v).2.1 hz).2.2.1 h0
          · exact hz
        have hf : ¬ first g v := fun h => h0 h.2
        rw [hb1 ⟨hl, hgp⟩, ha, if_neg hf, hu, ← he, show 512 * (blk g u + 1) = 512 * blk g v by omega, ← part_add]
        rfl
    rw [hn]
    by_cases hk : kk g v = nb g (e g v) - 1
    · rw [if_pos ⟨hl, hk⟩, if_pos hk, hb, hlast _ hk rfl]
    · rw [if_neg (fun h => hk h.2), if_neg hk, hb]
  · have hf : ¬ first g v := fun h => hl h.1
    have hac : ¬ act g v := fun h => hl h.1
    have hla : ¬ last g v := fun h => hl h.1
    rw [hn, if_neg hla, hb0 hac, ha, if_neg hf]
    cases v with
    | zero => exact absurd (show live g 0 from P8_pos g) hl
    | succ u =>
      obtain ⟨d1, d2, d3, d4, d5⟩ := dead_step g hl
      have hu := hold u rfl d1 p q
      rw [d1, d2, d3]
      exact hu

include hS in
/-- When a group is left, its sum is whole and scaled. -/
theorem acc_full {v : Nat} {Z : Fin 2048 → Fin 2048 → EReal} (hv : v = 102 ∨ e g (v + 1) ≠ e g v) (h : Acc g X Y sx sy v Z) (p q : Fin 2048) :
    Z p q = part g X Y (e g v) p q 49152 * (sx (e g v) p * sy (e g v) q) := by
  rw [h p q, if_pos]
  rcases hv with hv | hv
  · subst hv
    have := e_end hS
    rw [this.1, this.2]
  · exact last_of_step g hv

end Sum

end Cert.Inv

end
-- ==== Proof.Visit.lean ====
module

public import proofs.«01_k».proof.Proof.Start
public import proofs.«01_k».proof.Proof.ValP
public import proofs.«01_k».proof.Proof.ValS
public import proofs.«01_k».proof.Proof.Inv

/-!
One visit over the extended reals: what it leaves in each window's buffer, at an index, when the schedule's words are
those of the plan.
-/

@[expose] public section

set_option maxRecDepth 16384

noncomputable section

namespace Cert.KernelIdeal.Visit

open Cert.KernelIdeal Cert.KernelIdeal.Gen Cert.KernelIdeal.Body Cert.KernelIdeal.Start Cert.KernelIdeal.ValP Cert.KernelIdeal.ValS
open Idealize.ShloMosaic hiding ix0 ix1 ix2 ix3
open Idealize.ShloMosaic.ValueIdx
open Cert Pipeline

/-! The conditions, from the words they are computed from. -/

theorem and3 (x y z : BitVec 1) : Scalar.cmpi .ne (Scalar.extui (Scalar.andi x (Scalar.andi y z)) : BitVec 32) 0#32 = 1#1 ↔ x = 1#1 ∧ y = 1#1 ∧ z = 1#1 := by
  revert x y z; decide
theorem and3n (x y z : BitVec 1) : Scalar.cmpi .ne (Scalar.extui (Scalar.andi x (Scalar.xori (Scalar.andi y z) 1#1)) : BitVec 32) 0#32 = 1#1
    ↔ x = 1#1 ∧ ¬ (y = 1#1 ∧ z = 1#1) := by
  revert x y z; decide

theorem flag (p : Prop) [Decidable p] : Scalar.cmpi .eq (BitVec.ofNat 32 (if p then 1 else 0)) 1#32 = 1#1 ↔ p := by
  by_cases h : p
  · simp only [if_pos h, h, iff_true]; decide
  · simp only [if_neg h, h, iff_false]; decide
theorem flag' (p : Prop) [Decidable p] : Scalar.cmpi .ne (Scalar.extui (Scalar.cmpi .eq (BitVec.ofNat 32 (if p then 1 else 0)) 1#32) : BitVec 32) 0#32 = 1#1 ↔ p := by
  by_cases h : p
  · simp only [if_pos h, h, iff_true]; decide
  · simp only [if_neg h, h, iff_false]; decide

theorem base (b : Nat) : Scalar.muli (BitVec.ofNat 32 b) 512#32 = BitVec.ofNat 32 (512 * b) := by
  show BitVec.ofNat 32 b * BitVec.ofNat 32 512 = _
  rw [← BitVec.ofNat_mul, Nat.mul_comm]
theorem next (b : Nat) : Scalar.addi (BitVec.ofNat 32 (512 * b)) 512#32 = BitVec.ofNat 32 (512 * b + 512) := (BitVec.ofNat_add _ _).symm

theorem sle (a b : Nat) (ha : a < 2 ^ 31) (hb : b < 2 ^ 31) : Scalar.cmpi .sle (BitVec.ofNat 32 a) (BitVec.ofNat 32 b) = 1#1 ↔ a ≤ b :=
  WordCmp.cmpi_sle_ofNat_eq_one_iff (w := 32) ha hb
theorem sge (a b : Nat) (ha : a < 2 ^ 31) (hb : b < 2 ^ 31) : IntOp.cmpi .sge (BitVec.ofNat 32 a) (BitVec.ofNat 32 b) = 1#1 ↔ b ≤ a :=
  WordCmp.cmpi_sge_ofNat_eq_one_iff (w := 32) ha hb
theorem slt (a b : Nat) (ha : a < 2 ^ 31) (hb : b < 2 ^ 31) : IntOp.cmpi .slt (BitVec.ofNat 32 a) (BitVec.ofNat 32 b) = 1#1 ↔ a < b :=
  WordCmp.cmpi_slt_ofNat_eq_one_iff (w := 32) ha hb

theorem and_one (x y : BitVec 1) : IntOp.andi x y = 1#1 ↔ x = 1#1 ∧ y = 1#1 := by revert x y; decide

theorem sel {α : Type} (c : BitVec 1) (p : Prop) [Decidable p] (h : c = 1#1 ↔ p) (a b : α) : Scalar.select c a b = if p then a else b := by
  by_cases hp : p
  · rw [if_pos hp]; exact if_pos (h.mpr hp)
  · rw [if_neg hp]; exact if_neg fun hc => hp (h.mp hc)

section

variable {g : Nat → Nat} {gs : Sched.V8} (hg : ∀ k : Fin 8, gs (ix1 k) = BitVec.ofNat 32 (g k)) (hS : Plan.S g 8 = 49152)
include hg hS
variable (x1 : Vec Ideal S7x103 .i32) (hx : x1 = Sched.tbl gs) (i : grid0.Coords)
include hx

theorem bounds : Plan.blk g (num i) ≤ 95 ∧ Plan.lo g (num i) ≤ Plan.hi g (num i) ∧ Plan.hi g (num i) ≤ 49152 :=
  ⟨Plan.blk_le hS _, (Plan.place hS _).2.2.2.1, (Plan.place hS _).2.2.2.2⟩

theorem whole_iff : cWhole x1 i ↔ Plan.act g (num i) ∧ Plan.lo g (num i) ≤ 512 * Plan.blk g (num i) ∧ 512 * Plan.blk g (num i) + 512 ≤ Plan.hi g (num i) := by
  have hb := bounds hg hS x1 hx i
  show k0_cond1 (wBlk x1 i) (wLo x1 i) (wHi x1 i) (wAct x1 i) = 1#1 ↔ _
  rw [wBlk_eq hg hS x1 hx i, wLo_eq hg hS x1 hx i, wHi_eq hg hS x1 hx i, wAct_eq hg hS x1 hx i]
  refine (and3 _ _ _).trans ?_
  rw [flag, base, next, sle _ _ (by omega) (by omega)]
  refine and_congr_right fun _ => and_congr_right fun _ => ?_
  exact sge _ _ (by omega) (by omega)
theorem part_iff : cPart x1 i ↔ Plan.act g (num i) ∧ ¬ (Plan.lo g (num i) ≤ 512 * Plan.blk g (num i) ∧ 512 * Plan.blk g (num i) + 512 ≤ Plan.hi g (num i)) := by
  have hb := bounds hg hS x1 hx i
  show k0_cond2 (wBlk x1 i) (wLo x1 i) (wHi x1 i) (wAct x1 i) = 1#1 ↔ _
  rw [wBlk_eq hg hS x1 hx i, wLo_eq hg hS x1 hx i, wHi_eq hg hS x1 hx i, wAct_eq hg hS x1 hx i]
  refine (and3n _ _ _).trans ?_
  rw [flag, base, next, sle _ _ (by omega) (by omega)]
  refine and_congr_right fun _ => not_congr (and_congr_right fun _ => ?_)
  exact sge _ _ (by omega) (by omega)
theorem first_iff : k0_cond3 (wFirst x1 i) = 1#1 ↔ Plan.first g (num i) := by
  rw [wFirst_eq hg hS x1 hx i]; exact flag' _
theorem act_iff : k0_cond4 (wAct x1 i) = 1#1 ↔ Plan.act g (num i) := by
  rw [wAct_eq hg hS x1 hx i]; exact flag' _
theorem last_iff : k0_cond5 (wLast x1 i) = 1#1 ↔ Plan.last g (num i) := by
  rw [wLast_eq hg hS x1 hx i]; exact flag' _

variable (hchk : k0_chk1 (wE x1 i))

/-- The group's row of an eight-row buffer. -/
theorem rowR_emb (q : Fin 2048) : (rowR x1 i hchk).emb (ix2 0 q) = ix2 ⟨Plan.e g (num i), Plan.e_lt g _⟩ q := by
  have h := wE_nat hg hS x1 hx i
  refine funext fun b => Fin.ext ?_
  unfold rowR
  rw [Rect.emb_apply]
  match b with
  | ⟨0, _⟩ =>
    show (wE x1 i).toNat + 1 * 0 = Plan.e g (num i)
    omega
  | ⟨1, _⟩ =>
    show 0 + 1 * q.val = q.val
    omega
theorem row_ap (A : Vec Ideal S8x2048 .f32) (q : Fin 2048) : row x1 i hchk A (ix2 0 q) = A (ix2 ⟨Plan.e g (num i), Plan.e_lt g _⟩ q) :=
  congrArg A (rowR_emb hg hS x1 hx i hchk q)

/-- A buffer of scales with one row rewritten. -/
theorem overlay_ap (Z : Vec Ideal S8x2048 .f32) (G : FVec Ideal S1x2048 .f32) (k : Fin 8) (q : Fin 2048) :
    ((rowR x1 i hchk).overlay Z G : Vec Ideal S8x2048 .f32) (ix2 k q) = if k.val = Plan.e g (num i) then G (ix2 0 q) else Z (ix2 k q) := by
  by_cases hk : k.val = Plan.e g (num i)
  · rw [if_pos hk]
    have h : (ix2 k q : S8x2048.Idx) = (rowR x1 i hchk).emb (ix2 0 q) := by
      rw [rowR_emb hg hS x1 hx i hchk q]
      exact congrArg (fun z : Fin 8 => (ix2 z q : S8x2048.Idx)) (Fin.ext hk)
    rw [h]
    exact Rect.overlay_emb (rowR x1 i hchk) Z G (ix2 0 q)
  · rw [if_neg hk]
    refine Rect.overlay_of_not_mem (rowR x1 i hchk) Z G ?_
    intro hm
    rw [rowR, Rect.mem_set_unit] at hm
    obtain ⟨h1, h2⟩ := hm 0
    have h := wE_nat hg hS x1 hx i
    have h1' : (wE x1 i).toNat ≤ k.val := h1
    have h2' : k.val < (wE x1 i).toNat + 1 := h2
    omega

variable (A B : Vec Ideal S8x2048 .f32) (hA : ∀ j, A j ≤ Ideal.ofBits .f32 0x7F7FFFFF#32) (hB : ∀ j, B j ≤ Ideal.ofBits .f32 0x7F7FFFFF#32)
variable (X Y : Vec Ideal S49152x2048 .bf16)

/-- A row coded with a group's scale. -/
def QX (X : Vec Ideal S49152x2048 .bf16) (A : Vec Ideal S8x2048 .f32) (k r : Nat) (p : Fin 2048) : EReal :=
  if h : r < 49152 ∧ k < 8 then cl (Ideal.ofBits .f32 0xC3E00000#32) (Ideal.ofBits .f32 0x43E00000#32) (X (ix2 ⟨r, h.1⟩ p) * iv cX (A (ix2 ⟨k, h.2⟩ p))) else 0
def QY (Y : Vec Ideal S49152x2048 .bf16) (B : Vec Ideal S8x2048 .f32) (k r : Nat) (p : Fin 2048) : EReal :=
  if h : r < 49152 ∧ k < 8 then cl (Ideal.ofBits .f32 0xC7600000#32) (Ideal.ofBits .f32 0x47600000#32) (Y (ix2 ⟨r, h.1⟩ p) * iv cY (B (ix2 ⟨k, h.2⟩ p))) else 0
/-- A group's scale. -/
def SX (A : Vec Ideal S8x2048 .f32) (k : Nat) (p : Fin 2048) : EReal := if h : k < 8 then sc cX (A (ix2 ⟨k, h⟩ p)) else 0
def SY (B : Vec Ideal S8x2048 .f32) (k : Nat) (p : Fin 2048) : EReal := if h : k < 8 then sc cY (B (ix2 ⟨k, h⟩ p)) else 0

variable (y0 y1 : Vec Ideal S512x2048 .bf16)
  (h0 : ∀ (j : Fin 512) (p : Fin 2048) (h : 512 * Plan.blk g (num i) + j.val < 49152), y0 (ix2 j p) = X (ix2 ⟨512 * Plan.blk g (num i) + j.val, h⟩ p))
  (h1 : ∀ (j : Fin 512) (p : Fin 2048) (h : 512 * Plan.blk g (num i) + j.val < 49152), y1 (ix2 j p) = Y (ix2 ⟨512 * Plan.blk g (num i) + j.val, h⟩ p))

theorem sclX_row (p : Fin 2048) (hA : ∀ j, A j ≤ Ideal.ofBits .f32 0x7F7FFFFF#32) : sclX (row x1 i hchk A) (ix2 0 p) = SX A (Plan.e g (num i)) p := by
  rw [sclX_ap (row x1 i hchk A) (ix2 0 p) (hA _), row_ap hg hS x1 hx i hchk A p]
  unfold SX; rw [dif_pos (Plan.e_lt g _)]
theorem sclY_row (p : Fin 2048) (hB : ∀ j, B j ≤ Ideal.ofBits .f32 0x7F7FFFFF#32) : sclY (row x1 i hchk B) (ix2 0 p) = SY B (Plan.e g (num i)) p := by
  rw [sclY_ap (row x1 i hchk B) (ix2 0 p) (hB _), row_ap hg hS x1 hx i hchk B p]
  unfold SY; rw [dif_pos (Plan.e_lt g _)]

include hA h0 in
theorem codeX (j : Fin 512) (p : Fin 2048) :
    cl (Ideal.ofBits .f32 0xC3E00000#32) (Ideal.ofBits .f32 0x43E00000#32) (y0 (ix2 j p) * invX (row x1 i hchk A) (ix2 0 p))
      = QX X A (Plan.e g (num i)) (512 * Plan.blk g (num i) + j.val) p := by
  have hb := bounds hg hS x1 hx i
  have hj := j.isLt
  have hr : 512 * Plan.blk g (num i) + j.val < 49152 := by omega
  rw [invX_ap (row x1 i hchk A) (ix2 0 p) (hA _), row_ap hg hS x1 hx i hchk A p, h0 j p hr]
  unfold QX; rw [dif_pos ⟨hr, Plan.e_lt g _⟩]
include hB h1 in
theorem codeY (j : Fin 512) (p : Fin 2048) :
    cl (Ideal.ofBits .f32 0xC7600000#32) (Ideal.ofBits .f32 0x47600000#32) (y1 (ix2 j p) * invY (row x1 i hchk B) (ix2 0 p))
      = QY Y B (Plan.e g (num i)) (512 * Plan.blk g (num i) + j.val) p := by
  have hb := bounds hg hS x1 hx i
  have hj := j.isLt
  have hr : 512 * Plan.blk g (num i) + j.val < 49152 := by omega
  rw [invY_ap (row x1 i hchk B) (ix2 0 p) (hB _), row_ap hg hS x1 hx i hchk B p, h1 j p hr]
  unfold QY; rw [dif_pos ⟨hr, Plan.e_lt g _⟩]

/-- A row's number, as the visit computes it. -/
theorem num_row (j : Fin 512) (p : Fin 2048) :
    k0_pay8 (Scalar.muli (wBlk x1 i) 512#32) (ix2 j p) = BitVec.ofNat 32 (512 * Plan.blk g (num i) + j.val) := by
  rw [pay8_ap, wBlk_eq hg hS x1 hx i, base, ← BitVec.ofNat_add]

theorem ge_lo (j : Fin 512) (p : Fin 2048) : IntOp.cmpi .sge (k0_pay8 (Scalar.muli (wBlk x1 i) 512#32) (ix2 j p)) (wLo x1 i) = 1#1
    ↔ Plan.lo g (num i) ≤ 512 * Plan.blk g (num i) + j.val := by
  have hb := bounds hg hS x1 hx i
  have hj := j.isLt
  rw [num_row hg hS x1 hx i, wLo_eq hg hS x1 hx i, sge _ _ (by omega) (by omega)]
theorem lt_hi (j : Fin 512) (p : Fin 2048) : IntOp.cmpi .slt (k0_pay8 (Scalar.muli (wBlk x1 i) 512#32) (ix2 j p)) (wHi x1 i) = 1#1
    ↔ 512 * Plan.blk g (num i) + j.val < Plan.hi g (num i) := by
  have hb := bounds hg hS x1 hx i
  have hj := j.isLt
  rw [num_row hg hS x1 hx i, wHi_eq hg hS x1 hx i, slt _ _ (by omega) (by omega)]

include hA h0 in
theorem xc_act (ha : Plan.act g (num i)) (y5 : Vec Ideal S512x2048 .fp8e4m3) (j : Fin 512) (p : Fin 2048) :
    nXc x1 i hchk y0 A y5 (ix2 j p) = if Plan.lo g (num i) ≤ 512 * Plan.blk g (num i) + j.val then QX X A (Plan.e g (num i)) (512 * Plan.blk g (num i) + j.val) p
      else y5 (ix2 j p) := by
  have hw := whole_iff hg hS x1 hx i
  have hp := part_iff hg hS x1 hx i
  unfold nXc
  by_cases hc : Plan.lo g (num i) ≤ 512 * Plan.blk g (num i) ∧ 512 * Plan.blk g (num i) + 512 ≤ Plan.hi g (num i)
  · rw [if_neg (fun h => (hp.mp h).2 hc), if_pos (hw.mpr ⟨ha, hc⟩), if_pos (by omega), pay1_ap]
    exact codeX hg hS x1 hx i hchk A hA X y0 h0 j p
  · rw [if_pos (hp.mpr ⟨ha, hc⟩), if_neg (fun h => hc (hw.mp h).2), pay12_ap, pay9_ap, sel _ _ (ge_lo hg hS x1 hx i j p),
      codeX hg hS x1 hx i hchk A hA X y0 h0 j p]
theorem xc_idle (ha : ¬ Plan.act g (num i)) (y5 : Vec Ideal S512x2048 .fp8e4m3) : nXc x1 i hchk y0 A y5 = y5 := by
  unfold nXc
  rw [if_neg (fun h => ha ((part_iff hg hS x1 hx i).mp h).1), if_neg (fun h => ha ((whole_iff hg hS x1 hx i).mp h).1)]

include hB h1 in
theorem dyc_act (ha : Plan.act g (num i)) (y6 : Vec Ideal S512x2048 .fp8e5m2) (j : Fin 512) (p : Fin 2048) :
    nDyc x1 i hchk y1 B y6 (ix2 j p) = if Plan.lo g (num i) ≤ 512 * Plan.blk g (num i) + j.val then QY Y B (Plan.e g (num i)) (512 * Plan.blk g (num i) + j.val) p
      else y6 (ix2 j p) := by
  have hw := whole_iff hg hS x1 hx i
  have hp := part_iff hg hS x1 hx i
  unfold nDyc
  by_cases hc : Plan.lo g (num i) ≤ 512 * Plan.blk g (num i) ∧ 512 * Plan.blk g (num i) + 512 ≤ Plan.hi g (num i)
  · rw [if_neg (fun h => (hp.mp h).2 hc), if_pos (hw.mpr ⟨ha, hc⟩), if_pos (by omega), pay3_ap]
    exact codeY hg hS x1 hx i hchk B hB Y y1 h1 j p
  · rw [if_pos (hp.mpr ⟨ha, hc⟩), if_neg (fun h => hc (hw.mp h).2), pay4_ap, pay13_ap, pay10_ap, sel _ _ (ge_lo hg hS x1 hx i j p),
      codeY hg hS x1 hx i hchk B hB Y y1 h1 j p]
theorem dyc_idle (ha : ¬ Plan.act g (num i)) (y6 : Vec Ideal S512x2048 .fp8e5m2) : nDyc x1 i hchk y1 B y6 = y6 := by
  unfold nDyc
  rw [if_neg (fun h => ha ((part_iff hg hS x1 hx i).mp h).1), if_neg (fun h => ha ((whole_iff hg hS x1 hx i).mp h).1)]

include hA h0 in
theorem xm_act (ha : Plan.act g (num i)) (x11 : Vec Ideal S512x2048 .fp8e4m3) (j : Fin 512) (p : Fin 2048) :
    nXm x1 i hchk y0 A x11 (ix2 j p) = if Plan.lo g (num i) ≤ 512 * Plan.blk g (num i) + j.val ∧ 512 * Plan.blk g (num i) + j.val < Plan.hi g (num i)
      then QX X A (Plan.e g (num i)) (512 * Plan.blk g (num i) + j.val) p else 0 := by
  have hw := whole_iff hg hS x1 hx i
  have hp := part_iff hg hS x1 hx i
  have hj := j.isLt
  unfold nXm
  by_cases hc : Plan.lo g (num i) ≤ 512 * Plan.blk g (num i) ∧ 512 * Plan.blk g (num i) + 512 ≤ Plan.hi g (num i)
  · rw [if_neg (fun h => (hp.mp h).2 hc), if_pos (hw.mpr ⟨ha, hc⟩), if_pos (by omega), pay2_ap, pay1_ap]
    exact codeX hg hS x1 hx i hchk A hA X y0 h0 j p
  · rw [if_pos (hp.mpr ⟨ha, hc⟩), pay11_ap, pay9_ap,
      sel _ _ ((and_one _ _).trans (and_congr (ge_lo hg hS x1 hx i j p) (lt_hi hg hS x1 hx i j p))),
      codeX hg hS x1 hx i hchk A hA X y0 h0 j p, zero_bits]

/-- The product of the visit's block, row by row. -/
theorem prod_row (ha : Plan.act g (num i)) (x11 : Vec Ideal S512x2048 .fp8e4m3) (y6 : Vec Ideal S512x2048 .fp8e5m2) (j : Fin 512) (p q : Fin 2048)
    (hA : ∀ j, A j ≤ Ideal.ofBits .f32 0x7F7FFFFF#32) (hB : ∀ j, B j ≤ Ideal.ofBits .f32 0x7F7FFFFF#32)
    (h0 : ∀ (j : Fin 512) (p : Fin 2048) (h : 512 * Plan.blk g (num i) + j.val < 49152), y0 (ix2 j p) = X (ix2 ⟨512 * Plan.blk g (num i) + j.val, h⟩ p))
    (h1 : ∀ (j : Fin 512) (p : Fin 2048) (h : 512 * Plan.blk g (num i) + j.val < 49152), y1 (ix2 j p) = Y (ix2 ⟨512 * Plan.blk g (num i) + j.val, h⟩ p)) :
    nXm x1 i hchk y0 A x11 (ix2 j p) * nDyc x1 i hchk y1 B y6 (ix2 j q)
      = Inv.term g (QX X A) (QY Y B) (Plan.e g (num i)) p q (512 * Plan.blk g (num i) + j.val) := by
  rw [xm_act hg hS x1 hx i hchk A hA X y0 h0 ha, dyc_act hg hS x1 hx i hchk B hB Y y1 h1 ha]
  unfold Inv.term
  by_cases hc : Plan.lo g (num i) ≤ 512 * Plan.blk g (num i) + j.val ∧ 512 * Plan.blk g (num i) + j.val < Plan.hi g (num i)
  · rw [if_pos hc, if_pos hc.1]; exact (if_pos hc).symm
  · rw [if_neg hc, zero_mul]; exact (if_neg hc).symm

/-- The sum after the visit. -/
theorem dw_acc (x11 : Vec Ideal S512x2048 .fp8e4m3) (y6 : Vec Ideal S512x2048 .fp8e5m2) (y4 : Vec Ideal S1x2048x2048 .f32)
    (hA : ∀ j, A j ≤ Ideal.ofBits .f32 0x7F7FFFFF#32) (hB : ∀ j, B j ≤ Ideal.ofBits .f32 0x7F7FFFFF#32)
    (h0 : ∀ (j : Fin 512) (p : Fin 2048) (h : 512 * Plan.blk g (num i) + j.val < 49152), y0 (ix2 j p) = X (ix2 ⟨512 * Plan.blk g (num i) + j.val, h⟩ p))
    (h1 : ∀ (j : Fin 512) (p : Fin 2048) (h : 512 * Plan.blk g (num i) + j.val < 49152), y1 (ix2 j p) = Y (ix2 ⟨512 * Plan.blk g (num i) + j.val, h⟩ p))
    (hold : ∀ u, (num i).val = u + 1 → Plan.e g (num i) = Plan.e g u → Inv.Acc g (QX X A) (QY Y B) (SX A) (SY B) u fun p q => y4 (ix3 0 p q)) :
    Inv.Acc g (QX X A) (QY Y B) (SX A) (SY B) (num i) fun p q => nDw x1 i hchk y0 y1 A B y4 y6 x11 (ix3 0 p q) := by
  refine Inv.acc_step hS (a := fun p q => accA x1 i y4 (ix3 0 p q)) (b := fun p q => accB x1 i hchk y0 y1 A B y4 y6 x11 (ix3 0 p q)) hold ?_ ?_ ?_ ?_
  · intro p q
    show accA x1 i y4 (ix3 0 p q) = _
    unfold accA
    by_cases h : Plan.first g (num i)
    · rw [if_pos ((first_iff hg hS x1 hx i).mpr h), if_pos h, pay5_ap]
    · rw [if_neg (fun h' => h ((first_iff hg hS x1 hx i).mp h')), if_neg h]
  · intro ha p q
    show accB x1 i hchk y0 y1 A B y4 y6 x11 (ix3 0 p q) = accA x1 i y4 (ix3 0 p q) + _
    unfold accB
    rw [if_pos ((act_iff hg hS x1 hx i).mpr ha), pay6_ap]
    refine congrArg (accA x1 i y4 (ix3 0 p q) + ·) (Finset.sum_congr rfl fun j _ => ?_)
    exact prod_row hg hS x1 hx i hchk A B X Y y0 y1 ha x11 y6 j p q hA hB h0 h1
  · intro ha p q
    show accB x1 i hchk y0 y1 A B y4 y6 x11 (ix3 0 p q) = accA x1 i y4 (ix3 0 p q)
    unfold accB
    rw [if_neg (fun h' => ha ((act_iff hg hS x1 hx i).mp h'))]
  · intro p q
    show nDw x1 i hchk y0 y1 A B y4 y6 x11 (ix3 0 p q) = _
    unfold nDw
    by_cases h : Plan.last g (num i)
    · rw [if_pos ((last_iff hg hS x1 hx i).mpr h), if_pos h, pay7_ap, sclX_row hg hS x1 hx i hchk A p hA, sclY_row hg hS x1 hx i hchk B q hB]
    · rw [if_neg (fun h' => h ((last_iff hg hS x1 hx i).mp h')), if_neg h]

/-- The codes after the visit. -/
theorem xc_good (y5 : Vec Ideal S512x2048 .fp8e4m3) (hA : ∀ j, A j ≤ Ideal.ofBits .f32 0x7F7FFFFF#32)
    (h0 : ∀ (j : Fin 512) (p : Fin 2048) (h : 512 * Plan.blk g (num i) + j.val < 49152), y0 (ix2 j p) = X (ix2 ⟨512 * Plan.blk g (num i) + j.val, h⟩ p))
    (hold : ∀ u, (num i).val = u + 1 → Plan.blk g (num i) = Plan.blk g u → Inv.Good g (QX X A) u fun j p => y5 (ix2 j p)) :
    Inv.Good g (QX X A) (num i) fun j p => nXc x1 i hchk y0 A y5 (ix2 j p) :=
  Inv.good_step hS hold (fun ha j p _ => xc_act hg hS x1 hx i hchk A hA X y0 h0 ha y5 j p)
    fun ha j p => congrFun (xc_idle hg hS x1 hx i hchk A y0 ha y5) (ix2 j p)
theorem dyc_good (y6 : Vec Ideal S512x2048 .fp8e5m2) (hB : ∀ j, B j ≤ Ideal.ofBits .f32 0x7F7FFFFF#32)
    (h1 : ∀ (j : Fin 512) (p : Fin 2048) (h : 512 * Plan.blk g (num i) + j.val < 49152), y1 (ix2 j p) = Y (ix2 ⟨512 * Plan.blk g (num i) + j.val, h⟩ p))
    (hold : ∀ u, (num i).val = u + 1 → Plan.blk g (num i) = Plan.blk g u → Inv.Good g (QY Y B) u fun j p => y6 (ix2 j p)) :
    Inv.Good g (QY Y B) (num i) fun j p => nDyc x1 i hchk y1 B y6 (ix2 j p) :=
  Inv.good_step hS hold (fun ha j p _ => dyc_act hg hS x1 hx i hchk B hB Y y1 h1 ha y6 j p)
    fun ha j p => congrFun (dyc_idle hg hS x1 hx i hchk B y1 ha y6) (ix2 j p)

/-- The scales after the visit: right for every group up to the visit's. -/
theorem xs_good (y7 : Vec Ideal S8x2048 .f32) (hA : ∀ j, A j ≤ Ideal.ofBits .f32 0x7F7FFFFF#32)
    (hold : ∀ u, (num i).val = u + 1 → ∀ (k : Fin 8) p, k.val ≤ Plan.e g u → y7 (ix2 k p) = SX A k p) (k : Fin 8) (p : Fin 2048) (hk : k.val ≤ Plan.e g (num i)) :
    nXs x1 i hchk A y7 (ix2 k p) = SX A k p := by
  unfold nXs
  rw [overlay_ap hg hS x1 hx i hchk]
  by_cases h : k.val = Plan.e g (num i)
  · rw [if_pos h, sclX_row hg hS x1 hx i hchk A p hA, h]
  · rw [if_neg h]
    cases hv : (num i).val with
    | zero => rw [hv, Plan.e_zero] at hk h; omega
    | succ u =>
      rw [hv] at hk h
      exact hold u hv k p (by have := Plan.e_step g u; omega)
theorem dys_good (y8 : Vec Ideal S8x2048 .f32) (hB : ∀ j, B j ≤ Ideal.ofBits .f32 0x7F7FFFFF#32)
    (hold : ∀ u, (num i).val = u + 1 → ∀ (k : Fin 8) p, k.val ≤ Plan.e g u → y8 (ix2 k p) = SY B k p) (k : Fin 8) (p : Fin 2048) (hk : k.val ≤ Plan.e g (num i)) :
    nDys x1 i hchk B y8 (ix2 k p) = SY B k p := by
  unfold nDys
  rw [overlay_ap hg hS x1 hx i hchk]
  by_cases h : k.val = Plan.e g (num i)
  · rw [if_pos h, sclY_row hg hS x1 hx i hchk B p hB, h]
  · rw [if_neg h]
    cases hv : (num i).val with
    | zero => rw [hv, Plan.e_zero] at hk h; omega
    | succ u =>
      rw [hv] at hk h
      exact hold u hv k p (by have := Plan.e_step g u; omega)

end

end Cert.KernelIdeal.Visit

end
-- ==== Proof.KRun.lean ====
module

public import proofs.«01_k».proof.Proof.Visit
public import Idealize.ShloMosaic.Lib.Pipeline.FrameBody
public import Idealize.ShloMosaic.Lib.Pipeline.TableIdle
public import Idealize.ShloMosaic.Lib.Pipeline.ValueKit.Geometry

/-!
The call over the extended reals: every visit keeps what `Inv` says of the buffers, so the arrays end as the plan has
them.
-/

@[expose] public section

set_option maxRecDepth 16384

noncomputable section

namespace Cert.KernelIdeal.KRun

open Cert.KernelIdeal Cert.KernelIdeal.Gen Cert.KernelIdeal.Body Cert.KernelIdeal.Frame Cert.KernelIdeal.Start Cert.KernelIdeal.Visit
open Idealize.ShloMosaic hiding ix0 ix1 ix2 ix3
open Idealize.ShloMosaic.ValueIdx
open Idealize.ShloMosaic.TcCoe Idealize.ShloMosaic.Pipeline
open Idealize.SL.Sem
open Cert

theorem coords_val : ∀ t : Fin grid0.N, (grid0.coords t 0).val = t.val := by decide +kernel
theorem num_coords (t : Fin grid0.N) : (num (grid0.coords t)).val = t.val := coords_val t

variable (m : (ℓ : Loc nD τ sig) → Buf (Elt Ideal) ℓ)
variable {g : Nat → Nat} (hg : ∀ k : Fin 8, m (((0 : Dev nD).tc : Thread nD τ).loc main_arg2) (ix1 k) = BitVec.ofNat 32 (g k)) (hS : Plan.S g 8 = 49152)

/-- The arguments, as arrays. -/
abbrev X (c : Dev nD) : Vec Ideal S49152x2048 .bf16 := m ((c.tc : Thread nD τ).loc main_arg0)
abbrev Y (c : Dev nD) : Vec Ideal S49152x2048 .bf16 := m ((c.tc : Thread nD τ).loc main_arg1)
abbrev A (c : Dev nD) : Vec Ideal S8x2048 .f32 := m ((c.tc : Thread nD τ).loc main_arg3)
abbrev B (c : Dev nD) : Vec Ideal S8x2048 .f32 := m ((c.tc : Thread nD τ).loc main_arg4)

/-! When a window's buffer is written back. -/

theorem flush_iff {G : Grid} (w : Window sig G) (hout : w.isOut = true) (t : Fin G.N) :
    w.flush t = true ↔ t.val + 1 = G.N ∨ ∃ h : t.val + 1 < G.N, w.index ⟨t.val + 1, h⟩ ≠ w.index t := by
  unfold Window.flush
  simp only [hout, Bool.true_and, Bool.or_eq_true, decide_eq_true_eq]

theorem noflush {G : Grid} (w : Window sig G) (hout : w.isOut = true) (t : Fin G.N) (u : Nat) (hu : t.val = u + 1) (hlt : u < G.N)
    (hix : w.index t = w.index ⟨u, hlt⟩) : ¬ w.flush ⟨u, hlt⟩ = true := by
  rw [flush_iff w hout]
  rintro (h | ⟨h, hne⟩)
  · have h' : u + 1 = G.N := h
    have := t.isLt; omega
  · exact hne (by rw [← hix]; exact congrArg w.index (Fin.ext hu.symm))

section Inputs

variable (R : (w : Fin 9) → Fin (cfg0 (adm m hg hS)).N → Blk (adm m hg hS) w → Blk (adm m hg hS) w → Prop) (c : Dev nD) (t : Fin (cfg0 (adm m hg hS)).N)

theorem ix_0 : ((cfg0 (adm m hg hS)).win 0).index t = ![Plan.blk g (num (grid0.coords t)), 0] :=
  tr0 hg hS (pf m) (pf_eq m) (grid0.coords t)
theorem ix_1 : ((cfg0 (adm m hg hS)).win 1).index t = ![Plan.blk g (num (grid0.coords t)), 0] :=
  tr1 hg hS (pf m) (pf_eq m) (grid0.coords t)
theorem ix_4 : ((cfg0 (adm m hg hS)).win 4).index t = ![Plan.e g (num (grid0.coords t)), 0, 0] :=
  tr4 hg hS (pf m) (pf_eq m) (grid0.coords t)
theorem ix_5 : ((cfg0 (adm m hg hS)).win 5).index t = ![Plan.blk g (num (grid0.coords t)), 0] :=
  tr5 hg hS (pf m) (pf_eq m) (grid0.coords t)
theorem ix_6 : ((cfg0 (adm m hg hS)).win 6).index t = ![Plan.blk g (num (grid0.coords t)), 0] :=
  tr6 hg hS (pf m) (pf_eq m) (grid0.coords t)
theorem ix_2 : ((cfg0 (adm m hg hS)).win 2).index t = ![0, 0] := rfl
theorem ix_3 : ((cfg0 (adm m hg hS)).win 3).index t = ![0, 0] := rfl
theorem ix_7 : ((cfg0 (adm m hg hS)).win 7).index t = ![0, 0] := rfl
theorem ix_8 : ((cfg0 (adm m hg hS)).win 8).index t = ![0, 0] := rfl

theorem in0 (hk : ∀ t Y X, R 0 t Y X → X = Y) (Z : Blk (adm m hg hS) 0) (hZ : (rdat (adm m hg hS) m R c).Finds 0 t Z) (j : Fin 512) (p : Fin 2048)
    (h : 512 * Plan.blk g (num (grid0.coords t)) + j.val < 49152) :
    (Z : Vec Ideal S512x2048 .bf16) (ix2 j p) = X m c (ix2 ⟨512 * Plan.blk g (num (grid0.coords t)) + j.val, h⟩ p) := by
  obtain ⟨d, rfl⟩ := RDat.finds_in_eq_fetched (rdat (adm m hg hS) m R c) 0 rfl (fun _ _ _ => rfl) hk t Z hZ
  have hm : ((cfg0 (adm m hg hS)).win 0).moved ((cfg0 (adm m hg hS)).grid.coords t) (ix2 j p : S512x2048.Idx) = true :=
    (Window.moved_iff _ _ _).mpr fun a => (ix2 j p a).isLt
  unfold RDat.fetched Window.fill
  rw [dif_pos hm]
  unfold RDat.blockOf
  rw [View.read_apply]
  show V m c main_arg0 _ = _
  rw [V_arg0]
  refine congrArg (m ((c.tc : Thread nD τ).loc main_arg0)) (funext fun b => Fin.ext ?_)
  refine (Window.rect_emb_val _ _ _ _).trans ?_
  rw [ix_0]
  match b with
  | ⟨0, _⟩ =>
    show Plan.blk g (num (grid0.coords t)) * 512 + j.val = _
    exact congrArg (· + j.val) (Nat.mul_comm _ _)
  | ⟨1, _⟩ =>
    show 0 * 2048 + p.val = p.val
    omega

theorem in1 (hk : ∀ t Y X, R 1 t Y X → X = Y) (Z : Blk (adm m hg hS) 1) (hZ : (rdat (adm m hg hS) m R c).Finds 1 t Z) (j : Fin 512) (p : Fin 2048)
    (h : 512 * Plan.blk g (num (grid0.coords t)) + j.val < 49152) :
    (Z : Vec Ideal S512x2048 .bf16) (ix2 j p) = Y m c (ix2 ⟨512 * Plan.blk g (num (grid0.coords t)) + j.val, h⟩ p) := by
  obtain ⟨d, rfl⟩ := RDat.finds_in_eq_fetched (rdat (adm m hg hS) m R c) 1 rfl (fun _ _ _ => rfl) hk t Z hZ
  have hm : ((cfg0 (adm m hg hS)).win 1).moved ((cfg0 (adm m hg hS)).grid.coords t) (ix2 j p : S512x2048.Idx) = true :=
    (Window.moved_iff _ _ _).mpr fun a => (ix2 j p a).isLt
  unfold RDat.fetched Window.fill
  rw [dif_pos hm]
  unfold RDat.blockOf
  rw [View.read_apply]
  show V m c main_arg1 _ = _
  rw [V_arg1]
  refine congrArg (m ((c.tc : Thread nD τ).loc main_arg1)) (funext fun b => Fin.ext ?_)
  refine (Window.rect_emb_val _ _ _ _).trans ?_
  rw [ix_1]
  match b with
  | ⟨0, _⟩ =>
    show Plan.blk g (num (grid0.coords t)) * 512 + j.val = _
    exact congrArg (· + j.val) (Nat.mul_comm _ _)
  | ⟨1, _⟩ =>
    show 0 * 2048 + p.val = p.val
    omega

theorem in2 (hk : ∀ t Y X, R 2 t Y X → X = Y) (Z : Blk (adm m hg hS) 2) (hZ : (rdat (adm m hg hS) m R c).Finds 2 t Z) : (Z : Vec Ideal S8x2048 .f32) = A m c := by
  obtain ⟨d, rfl⟩ := RDat.finds_in_eq_fetched (rdat (adm m hg hS) m R c) 2 rfl (fun _ _ _ => rfl) hk t Z hZ
  refine funext fun (i : S8x2048.Idx) => ?_
  have hm : ((cfg0 (adm m hg hS)).win 2).moved ((cfg0 (adm m hg hS)).grid.coords t) i = true :=
    (Window.moved_iff _ _ _).mpr fun a => (i a).isLt
  unfold RDat.fetched Window.fill
  rw [dif_pos hm]
  unfold RDat.blockOf
  rw [View.read_apply]
  show V m c main_arg3 _ = _
  rw [V_arg3]
  refine congrArg (m ((c.tc : Thread nD τ).loc main_arg3)) (funext fun b => Fin.ext ?_)
  refine (Window.rect_emb_val _ _ _ _).trans ?_
  rw [ix_2]
  match b with
  | ⟨0, _⟩ =>
    show 0 * 8 + (i (0 : Fin 2)).val = (i (0 : Fin 2)).val
    omega
  | ⟨1, _⟩ =>
    show 0 * 2048 + (i (1 : Fin 2)).val = (i (1 : Fin 2)).val
    omega

theorem in3 (hk : ∀ t Y X, R 3 t Y X → X = Y) (Z : Blk (adm m hg hS) 3) (hZ : (rdat (adm m hg hS) m R c).Finds 3 t Z) : (Z : Vec Ideal S8x2048 .f32) = B m c := by
  obtain ⟨d, rfl⟩ := RDat.finds_in_eq_fetched (rdat (adm m hg hS) m R c) 3 rfl (fun _ _ _ => rfl) hk t Z hZ
  refine funext fun (i : S8x2048.Idx) => ?_
  have hm : ((cfg0 (adm m hg hS)).win 3).moved ((cfg0 (adm m hg hS)).grid.coords t) i = true :=
    (Window.moved_iff _ _ _).mpr fun a => (i a).isLt
  unfold RDat.fetched Window.fill
  rw [dif_pos hm]
  unfold RDat.blockOf
  rw [View.read_apply]
  show V m c main_arg4 _ = _
  rw [V_arg4]
  refine congrArg (m ((c.tc : Thread nD τ).loc main_arg4)) (funext fun b => Fin.ext ?_)
  refine (Window.rect_emb_val _ _ _ _).trans ?_
  rw [ix_3]
  match b with
  | ⟨0, _⟩ =>
    show 0 * 8 + (i (0 : Fin 2)).val = (i (0 : Fin 2)).val
    omega
  | ⟨1, _⟩ =>
    show 0 * 2048 + (i (1 : Fin 2)).val = (i (1 : Fin 2)).val
    omega

/-- What is found in a buffer not just written back is what the visit before left. -/
theorem found (w : Fin 9) (hout : ((cfg0 (adm m hg hS)).win w).isOut = true) (Z : Blk (adm m hg hS) w) (hZ : (rdat (adm m hg hS) m R c).Finds w t Z)
    (u : Nat) (hu : t.val = u + 1) (hlt : u < (cfg0 (adm m hg hS)).N)
    (hix : ((cfg0 (adm m hg hS)).win w).index t = ((cfg0 (adm m hg hS)).win w).index ⟨u, hlt⟩) : ∃ Y, R w ⟨u, hlt⟩ Y Z := by
  have h := (RDat.finds_of_pos (rdat (adm m hg hS) m R c) (Window.fetch_out _ hout t) (by omega) Z).mp hZ
  have e : (⟨t.val - 1, Nat.lt_of_le_of_lt (Nat.sub_le _ _) t.isLt⟩ : Fin (cfg0 (adm m hg hS)).N) = ⟨u, hlt⟩ := Fin.ext (by simp only [hu]; omega)
  rw [e] at h
  rcases h with h | ⟨Y, -, hY⟩
  · exact absurd h (noflush _ hout t u hu hlt hix)
  · exact ⟨Y, hY⟩

end Inputs

/-! ## What a visit keeps -/

/-- What a visit leaves: its inputs as found; of its outputs, what `Inv` says at the visit. -/
def R (c : Dev nD) : (w : Fin 9) → Fin (cfg0 (adm m hg hS)).N → Blk (adm m hg hS) w → Blk (adm m hg hS) w → Prop
  | 0, _, Y, X => X = Y
  | 1, _, Y, X => X = Y
  | 2, _, Y, X => X = Y
  | 3, _, Y, X => X = Y
  | 4, t, _, Z => Inv.Acc g (QX (X m c) (A m c)) (QY (Y m c) (B m c)) (SX (A m c)) (SY (B m c)) (num (grid0.coords t)) fun p q => (Z : Vec Ideal S1x2048x2048 .f32) (ix3 0 p q)
  | 5, t, _, Z => Inv.Good g (QX (X m c) (A m c)) (num (grid0.coords t)) fun j p => (Z : Vec Ideal S512x2048 .fp8e4m3) (ix2 j p)
  | 6, t, _, Z => Inv.Good g (QY (Y m c) (B m c)) (num (grid0.coords t)) fun j p => (Z : Vec Ideal S512x2048 .fp8e5m2) (ix2 j p)
  | 7, t, _, Z => ∀ (k : Fin 8) (p : Fin 2048), k.val ≤ Plan.e g (num (grid0.coords t)) → (Z : Vec Ideal S8x2048 .f32) (ix2 k p) = SX (A m c) k p
  | 8, t, _, Z => ∀ (k : Fin 8) (p : Fin 2048), k.val ≤ Plan.e g (num (grid0.coords t)) → (Z : Vec Ideal S8x2048 .f32) (ix2 k p) = SY (B m c) k p
  | ⟨_ + 9, h⟩, _, _, _ => absurd h (Nat.not_lt.2 (Nat.le_add_left _ _))

variable (hA : ∀ (c : Dev nD) j, A m c j ≤ Ideal.ofBits .f32 0x7F7FFFFF#32) (hB : ∀ (c : Dev nD) j, B m c j ≤ Ideal.ofBits .f32 0x7F7FFFFF#32)

section Keep

variable (c : Dev nD) (t : Fin (cfg0 (adm m hg hS)).N) (Z : (w : Fin 9) → Blk (adm m hg hS) w) (hZ : ∀ w, (rdat (adm m hg hS) m (R m hg hS c) c).Finds w t (Z w))
include hZ

/-- The visit before. -/
theorem before (u : Nat) (hu : (num (grid0.coords t)).val = u + 1) : t.val = u + 1 ∧ ∃ h : u < (cfg0 (adm m hg hS)).N, (num (grid0.coords ⟨u, h⟩)).val = u := by
  have h1 := num_coords t
  have h2 := t.isLt
  have h3 : t.val = u + 1 := by omega
  exact ⟨h3, by omega, num_coords _⟩

theorem hold4 (u : Nat) (hu : (num (grid0.coords t)).val = u + 1) (he : Plan.e g (num (grid0.coords t)) = Plan.e g u) :
    Inv.Acc g (QX (X m c) (A m c)) (QY (Y m c) (B m c)) (SX (A m c)) (SY (B m c)) u fun p q => (Z 4 : Vec Ideal S1x2048x2048 .f32) (ix3 0 p q) := by
  obtain ⟨h1, h2, h3⟩ := before m hg hS c t Z hZ u hu
  obtain ⟨Y, hY⟩ := found m hg hS (R m hg hS c) c t 4 rfl (Z 4) (hZ 4) u h1 h2 (by rw [ix_4, ix_4, h3, he])
  have hY' : Inv.Acc g (QX (X m c) (A m c)) (QY (KRun.Y m c) (B m c)) (SX (A m c)) (SY (B m c)) (num (grid0.coords ⟨u, h2⟩)) fun p q => (Z 4 : Vec Ideal S1x2048x2048 .f32) (ix3 0 p q) := hY
  rw [h3] at hY'
  exact hY'
theorem hold5 (u : Nat) (hu : (num (grid0.coords t)).val = u + 1) (he : Plan.blk g (num (grid0.coords t)) = Plan.blk g u) :
    Inv.Good g (QX (X m c) (A m c)) u fun j p => (Z 5 : Vec Ideal S512x2048 .fp8e4m3) (ix2 j p) := by
  obtain ⟨h1, h2, h3⟩ := before m hg hS c t Z hZ u hu
  obtain ⟨Y, hY⟩ := found m hg hS (R m hg hS c) c t 5 rfl (Z 5) (hZ 5) u h1 h2 (by rw [ix_5, ix_5, h3, he])
  have hY' : Inv.Good g (QX (X m c) (A m c)) (num (grid0.coords ⟨u, h2⟩)) fun j p => (Z 5 : Vec Ideal S512x2048 .fp8e4m3) (ix2 j p) := hY
  rw [h3] at hY'
  exact hY'
theorem hold6 (u : Nat) (hu : (num (grid0.coords t)).val = u + 1) (he : Plan.blk g (num (grid0.coords t)) = Plan.blk g u) :
    Inv.Good g (QY (Y m c) (B m c)) u fun j p => (Z 6 : Vec Ideal S512x2048 .fp8e5m2) (ix2 j p) := by
  obtain ⟨h1, h2, h3⟩ := before m hg hS c t Z hZ u hu
  obtain ⟨Y, hY⟩ := found m hg hS (R m hg hS c) c t 6 rfl (Z 6) (hZ 6) u h1 h2 (by rw [ix_6, ix_6, h3, he])
  have hY' : Inv.Good g (QY (KRun.Y m c) (B m c)) (num (grid0.coords ⟨u, h2⟩)) fun j p => (Z 6 : Vec Ideal S512x2048 .fp8e5m2) (ix2 j p) := hY
  rw [h3] at hY'
  exact hY'
theorem hold7 (u : Nat) (hu : (num (grid0.coords t)).val = u + 1) (k : Fin 8) (p : Fin 2048) (hk : k.val ≤ Plan.e g u) :
    (Z 7 : Vec Ideal S8x2048 .f32) (ix2 k p) = SX (A m c) k p := by
  obtain ⟨h1, h2, h3⟩ := before m hg hS c t Z hZ u hu
  obtain ⟨Y, hY⟩ := found m hg hS (R m hg hS c) c t 7 rfl (Z 7) (hZ 7) u h1 h2 (by rw [ix_7, ix_7])
  exact hY k p (by rw [h3]; exact hk)
theorem hold8 (u : Nat) (hu : (num (grid0.coords t)).val = u + 1) (k : Fin 8) (p : Fin 2048) (hk : k.val ≤ Plan.e g u) :
    (Z 8 : Vec Ideal S8x2048 .f32) (ix2 k p) = SY (B m c) k p := by
  obtain ⟨h1, h2, h3⟩ := before m hg hS c t Z hZ u hu
  obtain ⟨Y, hY⟩ := found m hg hS (R m hg hS c) c t 8 rfl (Z 8) (hZ 8) u h1 h2 (by rw [ix_8, ix_8])
  exact hY k p (by rw [h3]; exact hk)

include hA hB in
theorem keeps (x11 : Vec Ideal S512x2048 .fp8e4m3) :
    R m hg hS c 0 t (Z 0) (Z 0) ∧ R m hg hS c 1 t (Z 1) (Z 1) ∧ R m hg hS c 2 t (Z 2) (Z 2) ∧ R m hg hS c 3 t (Z 3) (Z 3)
    ∧ R m hg hS c 4 t (Z 4) (nDw (pf m 0) (grid0.coords t) (chk hg hS _ (pf_eq m) _) (Z 0) (Z 1) (Z 2) (Z 3) (Z 4) (Z 6) x11)
    ∧ R m hg hS c 5 t (Z 5) (nXc (pf m 0) (grid0.coords t) (chk hg hS _ (pf_eq m) _) (Z 0) (Z 2) (Z 5))
    ∧ R m hg hS c 6 t (Z 6) (nDyc (pf m 0) (grid0.coords t) (chk hg hS _ (pf_eq m) _) (Z 1) (Z 3) (Z 6))
    ∧ R m hg hS c 7 t (Z 7) (nXs (pf m 0) (grid0.coords t) (chk hg hS _ (pf_eq m) _) (Z 2) (Z 7))
    ∧ R m hg hS c 8 t (Z 8) (nDys (pf m 0) (grid0.coords t) (chk hg hS _ (pf_eq m) _) (Z 3) (Z 8)) := by
  have e2 := in2 m hg hS (R m hg hS c) c t (fun _ _ _ h => h) (Z 2) (hZ 2)
  have e3 := in3 m hg hS (R m hg hS c) c t (fun _ _ _ h => h) (Z 3) (hZ 3)
  have h0 := in0 m hg hS (R m hg hS c) c t (fun _ _ _ h => h) (Z 0) (hZ 0)
  have h1 := in1 m hg hS (R m hg hS c) c t (fun _ _ _ h => h) (Z 1) (hZ 1)
  have f2 := hA c
  have f3 := hB c
  refine ⟨rfl, rfl, rfl, rfl, ?_, ?_, ?_, ?_, ?_⟩
  · show Inv.Acc g _ _ _ _ _ fun p q => nDw (pf m 0) (grid0.coords t) (chk hg hS _ (pf_eq m) _) (Z 0 : Vec Ideal S512x2048 .bf16) (Z 1 : Vec Ideal S512x2048 .bf16)
      (Z 2 : Vec Ideal S8x2048 .f32) (Z 3 : Vec Ideal S8x2048 .f32) (Z 4 : Vec Ideal S1x2048x2048 .f32) (Z 6 : Vec Ideal S512x2048 .fp8e5m2) x11 (ix3 0 p q)
    rw [e2, e3]
    exact dw_acc hg hS (pf m 0) (pf_eq m) (grid0.coords t) (chk hg hS _ (pf_eq m) _) (A m c) (B m c) (X m c) (Y m c) (Z 0) (Z 1) x11 (Z 6) (Z 4) f2 f3 h0 h1
      (hold4 m hg hS c t Z hZ)
  · show Inv.Good g _ _ fun j p => nXc (pf m 0) (grid0.coords t) (chk hg hS _ (pf_eq m) _) (Z 0 : Vec Ideal S512x2048 .bf16) (Z 2 : Vec Ideal S8x2048 .f32)
      (Z 5 : Vec Ideal S512x2048 .fp8e4m3) (ix2 j p)
    rw [e2]
    exact xc_good hg hS (pf m 0) (pf_eq m) (grid0.coords t) (chk hg hS _ (pf_eq m) _) (A m c) (X m c) (Z 0) (Z 5) f2 h0 (hold5 m hg hS c t Z hZ)
  · show Inv.Good g _ _ fun j p => nDyc (pf m 0) (grid0.coords t) (chk hg hS _ (pf_eq m) _) (Z 1 : Vec Ideal S512x2048 .bf16) (Z 3 : Vec Ideal S8x2048 .f32)
      (Z 6 : Vec Ideal S512x2048 .fp8e5m2) (ix2 j p)
    rw [e3]
    exact dyc_good hg hS (pf m 0) (pf_eq m) (grid0.coords t) (chk hg hS _ (pf_eq m) _) (B m c) (Y m c) (Z 1) (Z 6) f3 h1 (hold6 m hg hS c t Z hZ)
  · show ∀ (k : Fin 8) (p : Fin 2048), k.val ≤ Plan.e g (num (grid0.coords t)) →
      nXs (pf m 0) (grid0.coords t) (chk hg hS _ (pf_eq m) _) (Z 2 : Vec Ideal S8x2048 .f32) (Z 7 : Vec Ideal S8x2048 .f32) (ix2 k p) = SX (A m c) k p
    rw [e2]
    exact xs_good hg hS (pf m 0) (pf_eq m) (grid0.coords t) (chk hg hS _ (pf_eq m) _) (A m c) (Z 7) f2 (hold7 m hg hS c t Z hZ)
  · show ∀ (k : Fin 8) (p : Fin 2048), k.val ≤ Plan.e g (num (grid0.coords t)) →
      nDys (pf m 0) (grid0.coords t) (chk hg hS _ (pf_eq m) _) (Z 3 : Vec Ideal S8x2048 .f32) (Z 8 : Vec Ideal S8x2048 .f32) (ix2 k p) = SY (B m c) k p
    rw [e3]
    exact dys_good hg hS (pf m 0) (pf_eq m) (grid0.coords t) (chk hg hS _ (pf_eq m) _) (B m c) (Z 8) f3 (hold8 m hg hS c t Z hZ)

end Keep

end Cert.KernelIdeal.KRun

end
-- ==== Proof.Final.lean ====
module

public import proofs.«01_k».proof.Proof.Visit

/-!
What the two programs are to end with: the coded rows with the scale of their group, the scales, and for each group the sum of
the products of its coded rows, scaled.
-/

@[expose] public section

noncomputable section

namespace Cert.Final

open Cert.KernelIdeal Cert.KernelIdeal.Visit
open Idealize.ShloMosaic hiding ix0 ix1 ix2 ix3
open Idealize.ShloMosaic.ValueIdx

variable (g : Nat → Nat) (X Y : Vec Ideal S49152x2048 .bf16) (A B : Vec Ideal S8x2048 .f32)

/-- Each group's sum of products. -/
def IsDw (d : Vec Ideal S8x2048x2048 .f32) : Prop := ∀ (e : Fin 8) (p q : Fin 2048),
  d (ix3 e p q) = Inv.part g (QX X A) (QY Y B) e.val p q 49152 * (SX A e.val p * SY B e.val q)
/-- The codes of either operand: a row is coded with the scale of its group. -/
def IsXc (x : Vec Ideal S49152x2048 .fp8e4m3) : Prop := ∀ (r : Fin 49152) (p : Fin 2048) (k : Nat), k < 8 → Plan.S g k ≤ r.val → r.val < Plan.S g (k + 1) →
  x (ix2 r p) = QX X A k r.val p
def IsYc (y : Vec Ideal S49152x2048 .fp8e5m2) : Prop := ∀ (r : Fin 49152) (p : Fin 2048) (k : Nat), k < 8 → Plan.S g k ≤ r.val → r.val < Plan.S g (k + 1) →
  y (ix2 r p) = QY Y B k r.val p
/-- The scales of either operand. -/
def IsXs (s : Vec Ideal S8x2048 .f32) : Prop := ∀ (k : Fin 8) (p : Fin 2048), s (ix2 k p) = SX A k.val p
def IsYs (s : Vec Ideal S8x2048 .f32) : Prop := ∀ (k : Fin 8) (p : Fin 2048), s (ix2 k p) = SY B k.val p

/-! Each is met by one array alone. -/

/-- A row's group. -/
def gr (r : Nat) : Nat := open Classical in if h : ∃ k, k < 8 ∧ Plan.S g k ≤ r ∧ r < Plan.S g (k + 1) then h.choose else 0

theorem gr_spec {r : Nat} (h : ∃ k, k < 8 ∧ Plan.S g k ≤ r ∧ r < Plan.S g (k + 1)) : gr g r < 8 ∧ Plan.S g (gr g r) ≤ r ∧ r < Plan.S g (gr g r + 1) := by
  unfold gr; rw [dif_pos h]; exact h.choose_spec

def fDw : Vec Ideal S8x2048x2048 .f32 := fun i => Inv.part g (QX X A) (QY Y B) (i 0).val (i 1) (i 2) 49152 * (SX A (i 0).val (i 1) * SY B (i 0).val (i 2))
def fXc : Vec Ideal S49152x2048 .fp8e4m3 := fun i => QX X A (gr g (i 0).val) (i 0).val (i 1)
def fYc : Vec Ideal S49152x2048 .fp8e5m2 := fun i => QY Y B (gr g (i 0).val) (i 0).val (i 1)
def fXs : Vec Ideal S8x2048 .f32 := fun i => SX A (i 0).val (i 1)
def fYs : Vec Ideal S8x2048 .f32 := fun i => SY B (i 0).val (i 1)

theorem eta2 {n m : Nat} (i : (⟨2, ![n, m]⟩ : Shape).Idx) : i = ix2 (i 0 : Fin n) (i 1 : Fin m) := by
  funext b; match b with | ⟨0, _⟩ => rfl | ⟨1, _⟩ => rfl
theorem eta3 {n m l : Nat} (i : (⟨3, ![n, m, l]⟩ : Shape).Idx) : i = ix3 (i 0 : Fin n) (i 1 : Fin m) (i 2 : Fin l) := by
  funext b; match b with | ⟨0, _⟩ => rfl | ⟨1, _⟩ => rfl | ⟨2, _⟩ => rfl

variable {g X Y A B}

theorem dw_eq {d : Vec Ideal S8x2048x2048 .f32} (h : IsDw g X Y A B d) : d = fDw g X Y A B := by
  funext i; exact (congrArg d (eta3 i)).trans (h _ _ _)
theorem xs_eq {d : Vec Ideal S8x2048 .f32} (h : IsXs A d) : d = fXs A := by
  funext i; exact (congrArg d (eta2 i)).trans (h _ _)
theorem ys_eq {d : Vec Ideal S8x2048 .f32} (h : IsYs B d) : d = fYs B := by
  funext i; exact (congrArg d (eta2 i)).trans (h _ _)

variable (hG : ∀ r, r < 49152 → ∃ k, k < 8 ∧ Plan.S g k ≤ r ∧ r < Plan.S g (k + 1))
include hG
theorem xc_eq {d : Vec Ideal S49152x2048 .fp8e4m3} (h : IsXc g X A d) : d = fXc g X A := by
  funext i
  obtain ⟨a, b, e⟩ := gr_spec g (hG (i 0).val (i 0).isLt)
  exact (congrArg d (eta2 i)).trans (h (i 0) (i 1) _ a b e)
theorem yc_eq {d : Vec Ideal S49152x2048 .fp8e5m2} (h : IsYc g Y B d) : d = fYc g Y B := by
  funext i
  obtain ⟨a, b, e⟩ := gr_spec g (hG (i 0).val (i 0).isLt)
  exact (congrArg d (eta2 i)).trans (h (i 0) (i 1) _ a b e)

end Cert.Final

end
-- ==== Proof.KEnd.lean ====
module

public import proofs.«01_k».proof.Proof.KRun
public import proofs.«01_k».proof.Proof.Final

/-!
What the kernel ends with: each array, element by element, from what the last visit of each of its blocks leaves.
-/

@[expose] public section

set_option maxRecDepth 16384

noncomputable section

namespace Cert.KernelIdeal.KEnd

open Cert.KernelIdeal Cert.KernelIdeal.Gen Cert.KernelIdeal.Body Cert.KernelIdeal.Frame Cert.KernelIdeal.Start Cert.KernelIdeal.Visit Cert.KernelIdeal.KRun
open Cert Cert.Final
open Idealize.ShloMosaic hiding ix0 ix1 ix2 ix3
open Idealize.ShloMosaic.ValueIdx
open Idealize.ShloMosaic.TcCoe Idealize.ShloMosaic.Pipeline Idealize.SL.Sem

variable (m : (ℓ : Loc nD τ sig) → Buf (Elt Ideal) ℓ)
variable {g : Nat → Nat} (hg : ∀ k : Fin 8, m (((0 : Dev nD).tc : Thread nD τ).loc main_arg2) (ix1 k) = BitVec.ofNat 32 (g k)) (hS : Plan.S g 8 = 49152)

/-- The number of visits. -/
theorem N_eq : (cfg0 (adm m hg hS)).N = 103 := rfl

variable (c : Dev nD) (after : (w : Fin 9) → (t : Fin (cfg0 (adm m hg hS)).N) → Blk (adm m hg hS) w)
  (haf : ∀ w t, ((cfg0 (adm m hg hS)).win w).flush t = true → (rdat (adm m hg hS) m (R m hg hS 0) c).Leaves w t (after w t))

abbrev dat := (rdat (adm m hg hS) m (R m hg hS 0) c).withAfter after

/-- A visit whose block number is another at the next visit, or the last. -/
theorem flush_of (w : Fin 9) (hout : ((cfg0 (adm m hg hS)).win w).isOut = true) (f : Nat → Nat) (t : Fin (cfg0 (adm m hg hS)).N) (a : Fin ((cfg0 (adm m hg hS)).win w).shape.rank)
    (hix : ∀ t, ((cfg0 (adm m hg hS)).win w).index t a = f (num (grid0.coords t)))
    (h : t.val = 102 ∨ f (t.val + 1) ≠ f t.val) : ((cfg0 (adm m hg hS)).win w).flush t = true := by
  refine (flush_iff _ hout t).mpr ?_
  by_cases h2 : t.val = 102
  · left; rw [h2]; rfl
  · right
    have h3 : t.val + 1 < (cfg0 (adm m hg hS)).N := by
      have h4 : t.val < 103 := t.isLt
      show t.val + 1 < 103
      omega
    refine ⟨h3, fun e => ?_⟩
    have e1 := congrFun e a
    rw [hix, hix, num_coords, num_coords] at e1
    rcases h with h | h
    · exact h2 h
    · exact h e1

/-- And the other way round. -/
theorem of_flush (w : Fin 9) (hout : ((cfg0 (adm m hg hS)).win w).isOut = true) (f : Nat → Nat) (t : Fin (cfg0 (adm m hg hS)).N)
    (hix : ∀ t u, f (num (grid0.coords t)) = f (num (grid0.coords u)) → ((cfg0 (adm m hg hS)).win w).index t = ((cfg0 (adm m hg hS)).win w).index u)
    (h : ((cfg0 (adm m hg hS)).win w).flush t = true) : (num (grid0.coords t)).val = 102 ∨ f ((num (grid0.coords t)).val + 1) ≠ f (num (grid0.coords t)) := by
  rw [num_coords]
  rcases (flush_iff _ hout t).mp h with h | ⟨h1, h2⟩
  · left; have h' : t.val + 1 = 103 := h; omega
  · right
    intro e
    refine h2 (hix _ _ ?_)
    rw [num_coords, num_coords]
    exact e

include haf

theorem end4 (i : S8x2048x2048.Idx) : ((dat m hg hS c after).arrAt 4 (cfg0 (adm m hg hS)).N : Vec Ideal S8x2048x2048 .f32) i
    = Inv.part g (QX (X m 0) (A m 0)) (QY (Y m 0) (B m 0)) (i (0 : Fin 3)).val (i (1 : Fin 3)) (i (2 : Fin 3)) 49152 * (SX (A m 0) (i (0 : Fin 3)).val (i (1 : Fin 3)) * SY (B m 0) (i (0 : Fin 3)).val (i (2 : Fin 3))) := by
  refine Dat.arrAt_forall_of_cover (dat m hg hS c after) 4 (fun (i : S8x2048x2048.Idx) (v : EReal) => v
    = Inv.part g (QX (X m 0) (A m 0)) (QY (Y m 0) (B m 0)) (i (0 : Fin 3)).val (i (1 : Fin 3)) (i (2 : Fin 3)) 49152 * (SX (A m 0) (i (0 : Fin 3)).val (i (1 : Fin 3)) * SY (B m 0) (i (0 : Fin 3)).val (i (2 : Fin 3)))) ?_ ?_ i
  · intro t hf y
    obtain ⟨Y', -, hL⟩ := haf 4 t hf
    have hL' : Inv.Acc g (QX (X m 0) (A m 0)) (QY (Y m 0) (B m 0)) (SX (A m 0)) (SY (B m 0)) (num (grid0.coords t)) fun p q => (after 4 t : Vec Ideal S1x2048x2048 .f32) (ix3 0 p q) := hL
    have hfull := Inv.acc_full hS (of_flush m hg hS 4 rfl (Plan.e g) t (fun t u h => by rw [ix_4, ix_4, h]) hf) hL' (y (1 : Fin 3)) (y (2 : Fin 3))
    have e0 : ((((cfg0 (adm m hg hS)).win 4).blk t).view.emb y (0 : Fin 3)).val = Plan.e g (num (grid0.coords t)) := by
      refine (Window.rect_emb_val _ _ _ _).trans ?_
      rw [ix_4]
      have hy : (y (0 : Fin 3)).val < 1 := (y (0 : Fin 3)).isLt
      show Plan.e g (num (grid0.coords t)) * 1 + (y (0 : Fin 3)).val = _
      omega
    have e1 : (((cfg0 (adm m hg hS)).win 4).blk t).view.emb y (1 : Fin 3) = y (1 : Fin 3) := by
      refine Fin.ext ((Window.rect_emb_val _ _ _ _).trans ?_)
      rw [ix_4]
      show 0 * 2048 + (y (1 : Fin 3)).val = _
      omega
    have e2 : (((cfg0 (adm m hg hS)).win 4).blk t).view.emb y (2 : Fin 3) = y (2 : Fin 3) := by
      refine Fin.ext ((Window.rect_emb_val _ _ _ _).trans ?_)
      rw [ix_4]
      show 0 * 2048 + (y (2 : Fin 3)).val = _
      omega
    rw [e0, e1, e2, ← hfull]
    refine congrArg (after 4 t : Vec Ideal S1x2048x2048 .f32) ?_
    funext b
    match b with
    | ⟨0, _⟩ => exact Subsingleton.elim (α := Fin 1) _ _
    | ⟨1, _⟩ => rfl
    | ⟨2, _⟩ => rfl
  · intro (i : S8x2048x2048.Idx)
    obtain ⟨v, hv, hfv, hn⟩ := Plan.hits hS (f := Plan.e g) (Plan.e_zero g) (Plan.e_step g) 102 (i (0 : Fin 3)).val (by rw [(Plan.e_end hS).1]; have : (i (0 : Fin 3)).val < 8 := (i (0 : Fin 3)).isLt; omega)
    have hvN : v < (cfg0 (adm m hg hS)).N := by rw [N_eq]; omega
    refine ⟨⟨v, hvN⟩, flush_of m hg hS 4 rfl (Plan.e g) _ (0 : Fin 3) (fun t => by rw [ix_4]; rfl) (by rw [hfv]; exact hn), ?_⟩
    refine (Window.emb_mem_blk_iff ((cfg0 (adm m hg hS)).win 4) ⟨v, hvN⟩ i rfl).mpr fun b => ?_
    rw [ix_4, num_coords]
    match b with
    | ⟨0, _⟩ =>
      show Plan.e g v * 1 ≤ (i (0 : Fin 3)).val ∧ (i (0 : Fin 3)).val < Plan.e g v * 1 + 1
      omega
    | ⟨1, _⟩ =>
      have := (i (1 : Fin 3)).isLt
      show 0 * 2048 ≤ (i (1 : Fin 3)).val ∧ (i (1 : Fin 3)).val < 0 * 2048 + 2048
      exact ⟨by omega, by have h : (i (1 : Fin 3)).val < 2048 := this; omega⟩
    | ⟨2, _⟩ =>
      have := (i (2 : Fin 3)).isLt
      show 0 * 2048 ≤ (i (2 : Fin 3)).val ∧ (i (2 : Fin 3)).val < 0 * 2048 + 2048
      exact ⟨by omega, by have h : (i (2 : Fin 3)).val < 2048 := this; omega⟩

theorem end5 (i : S49152x2048.Idx) (k : Nat) (hk : k < 8) (h1 : Plan.S g k ≤ (i (0 : Fin 2)).val) (h2 : (i (0 : Fin 2)).val < Plan.S g (k + 1)) :
    ((dat m hg hS c after).arrAt 5 (cfg0 (adm m hg hS)).N : Vec Ideal S49152x2048 .fp8e4m3) i = QX (X m 0) (A m 0) k (i (0 : Fin 2)).val (i (1 : Fin 2)) := by
  refine Dat.arrAt_forall_of_cover (dat m hg hS c after) 5 (fun (i : S49152x2048.Idx) (v : EReal) => ∀ k, k < 8 → Plan.S g k ≤ (i (0 : Fin 2)).val → (i (0 : Fin 2)).val < Plan.S g (k + 1) → v = QX (X m 0) (A m 0) k (i (0 : Fin 2)).val (i (1 : Fin 2))) ?_ ?_ i k hk h1 h2
  · intro t hf y k hk h1 h2
    obtain ⟨Y', -, hL⟩ := haf 5 t hf
    have hL' : Inv.Good g (QX (X m 0) (A m 0)) (num (grid0.coords t)) fun j p => (after 5 t : Vec Ideal S512x2048 .fp8e4m3) (ix2 j p) := hL
    have e0 : ((((cfg0 (adm m hg hS)).win 5).blk t).view.emb y (0 : Fin 2)).val = 512 * Plan.blk g (num (grid0.coords t)) + (y (0 : Fin 2)).val := by
      refine (Window.rect_emb_val _ _ _ _).trans ?_
      rw [ix_5]
      show Plan.blk g (num (grid0.coords t)) * 512 + (y (0 : Fin 2)).val = _
      exact congrArg (· + (y (0 : Fin 2)).val) (Nat.mul_comm _ _)
    have e1 : (((cfg0 (adm m hg hS)).win 5).blk t).view.emb y (1 : Fin 2) = y (1 : Fin 2) := by
      refine Fin.ext ((Window.rect_emb_val _ _ _ _).trans ?_)
      rw [ix_5]
      show 0 * 2048 + (y (1 : Fin 2)).val = _
      omega
    rw [e0] at h1 h2
    have hfull := Inv.good_full hS (of_flush m hg hS 5 rfl (Plan.blk g) t (fun t u h => by rw [ix_5, ix_5, h]) hf) hL' (y (0 : Fin 2)) (y (1 : Fin 2)) k hk h1 h2
    rw [e0, e1, ← hfull]
    refine congrArg (after 5 t : Vec Ideal S512x2048 .fp8e4m3) ?_
    funext b
    match b with
    | ⟨0, _⟩ => rfl
    | ⟨1, _⟩ => rfl
  · intro (i : S49152x2048.Idx)
    have hi : (i (0 : Fin 2)).val < 49152 := (i (0 : Fin 2)).isLt
    obtain ⟨v, hv, hfv, hn⟩ := Plan.hits hS (f := Plan.blk g) (Plan.blk_zero hS) (Plan.blk_step hS) 102 ((i (0 : Fin 2)).val / 512) (by rw [Plan.blk_end hS]; omega)
    have hvN : v < (cfg0 (adm m hg hS)).N := by rw [N_eq]; omega
    refine ⟨⟨v, hvN⟩, flush_of m hg hS 5 rfl (Plan.blk g) _ (0 : Fin 2) (fun t => by rw [ix_5]; rfl) (by rw [hfv]; exact hn), ?_⟩
    refine (Window.emb_mem_blk_iff ((cfg0 (adm m hg hS)).win 5) ⟨v, hvN⟩ i rfl).mpr fun b => ?_
    rw [ix_5, num_coords]
    match b with
    | ⟨0, _⟩ =>
      show Plan.blk g v * 512 ≤ (i (0 : Fin 2)).val ∧ (i (0 : Fin 2)).val < Plan.blk g v * 512 + 512
      omega
    | ⟨1, _⟩ =>
      have := (i (1 : Fin 2)).isLt
      show 0 * 2048 ≤ (i (1 : Fin 2)).val ∧ (i (1 : Fin 2)).val < 0 * 2048 + 2048
      exact ⟨by omega, by have h : (i (1 : Fin 2)).val < 2048 := this; omega⟩

theorem end6 (i : S49152x2048.Idx) (k : Nat) (hk : k < 8) (h1 : Plan.S g k ≤ (i (0 : Fin 2)).val) (h2 : (i (0 : Fin 2)).val < Plan.S g (k + 1)) :
    ((dat m hg hS c after).arrAt 6 (cfg0 (adm m hg hS)).N : Vec Ideal S49152x2048 .fp8e5m2) i = QY (Y m 0) (B m 0) k (i (0 : Fin 2)).val (i (1 : Fin 2)) := by
  refine Dat.arrAt_forall_of_cover (dat m hg hS c after) 6 (fun (i : S49152x2048.Idx) (v : EReal) => ∀ k, k < 8 → Plan.S g k ≤ (i (0 : Fin 2)).val → (i (0 : Fin 2)).val < Plan.S g (k + 1) → v = QY (Y m 0) (B m 0) k (i (0 : Fin 2)).val (i (1 : Fin 2))) ?_ ?_ i k hk h1 h2
  · intro t hf y k hk h1 h2
    obtain ⟨Y', -, hL⟩ := haf 6 t hf
    have hL' : Inv.Good g (QY (Y m 0) (B m 0)) (num (grid0.coords t)) fun j p => (after 6 t : Vec Ideal S512x2048 .fp8e5m2) (ix2 j p) := hL
    have e0 : ((((cfg0 (adm m hg hS)).win 6).blk t).view.emb y (0 : Fin 2)).val = 512 * Plan.blk g (num (grid0.coords t)) + (y (0 : Fin 2)).val := by
      refine (Window.rect_emb_val _ _ _ _).trans ?_
      rw [ix_6]
      show Plan.blk g (num (grid0.coords t)) * 512 + (y (0 : Fin 2)).val = _
      exact congrArg (· + (y (0 : Fin 2)).val) (Nat.mul_comm _ _)
    have e1 : (((cfg0 (adm m hg hS)).win 6).blk t).view.emb y (1 : Fin 2) = y (1 : Fin 2) := by
      refine Fin.ext ((Window.rect_emb_val _ _ _ _).trans ?_)
      rw [ix_6]
      show 0 * 2048 + (y (1 : Fin 2)).val = _
      omega
    rw [e0] at h1 h2
    have hfull := Inv.good_full hS (of_flush m hg hS 6 rfl (Plan.blk g) t (fun t u h => by rw [ix_6, ix_6, h]) hf) hL' (y (0 : Fin 2)) (y (1 : Fin 2)) k hk h1 h2
    rw [e0, e1, ← hfull]
    refine congrArg (after 6 t : Vec Ideal S512x2048 .fp8e5m2) ?_
    funext b
    match b with
    | ⟨0, _⟩ => rfl
    | ⟨1, _⟩ => rfl
  · intro (i : S49152x2048.Idx)
    have hi : (i (0 : Fin 2)).val < 49152 := (i (0 : Fin 2)).isLt
    obtain ⟨v, hv, hfv, hn⟩ := Plan.hits hS (f := Plan.blk g) (Plan.blk_zero hS) (Plan.blk_step hS) 102 ((i (0 : Fin 2)).val / 512) (by rw [Plan.blk_end hS]; omega)
    have hvN : v < (cfg0 (adm m hg hS)).N := by rw [N_eq]; omega
    refine ⟨⟨v, hvN⟩, flush_of m hg hS 6 rfl (Plan.blk g) _ (0 : Fin 2) (fun t => by rw [ix_6]; rfl) (by rw [hfv]; exact hn), ?_⟩
    refine (Window.emb_mem_blk_iff ((cfg0 (adm m hg hS)).win 6) ⟨v, hvN⟩ i rfl).mpr fun b => ?_
    rw [ix_6, num_coords]
    match b with
    | ⟨0, _⟩ =>
      show Plan.blk g v * 512 ≤ (i (0 : Fin 2)).val ∧ (i (0 : Fin 2)).val < Plan.blk g v * 512 + 512
      omega
    | ⟨1, _⟩ =>
      have := (i (1 : Fin 2)).isLt
      show 0 * 2048 ≤ (i (1 : Fin 2)).val ∧ (i (1 : Fin 2)).val < 0 * 2048 + 2048
      exact ⟨by omega, by have h : (i (1 : Fin 2)).val < 2048 := this; omega⟩

theorem end7 (i : S8x2048.Idx) : ((dat m hg hS c after).arrAt 7 (cfg0 (adm m hg hS)).N : Vec Ideal S8x2048 .f32) i = SX (A m 0) (i (0 : Fin 2)).val (i (1 : Fin 2)) := by
  refine Dat.arrAt_forall_of_cover (dat m hg hS c after) 7 (fun (i : S8x2048.Idx) (v : EReal) => v = SX (A m 0) (i (0 : Fin 2)).val (i (1 : Fin 2))) ?_ ?_ i
  · intro t hf y
    obtain ⟨Y', -, hL⟩ := haf 7 t hf
    have hL' : ∀ (k : Fin 8) (p : Fin 2048), k.val ≤ Plan.e g (num (grid0.coords t)) → (after 7 t : Vec Ideal S8x2048 .f32) (ix2 k p) = SX (A m 0) k p := hL
    have ht : (num (grid0.coords t)).val = 102 := by
      rcases of_flush m hg hS 7 rfl (fun _ => 0) t (fun t u h => by rw [ix_7, ix_7]) hf with h | h
      · exact h
      · exact absurd rfl h
    have e0 : (((cfg0 (adm m hg hS)).win 7).blk t).view.emb y (0 : Fin 2) = y (0 : Fin 2) := by
      refine Fin.ext ((Window.rect_emb_val _ _ _ _).trans ?_)
      rw [ix_7]
      show 0 * 8 + (y (0 : Fin 2)).val = _
      omega
    have e1 : (((cfg0 (adm m hg hS)).win 7).blk t).view.emb y (1 : Fin 2) = y (1 : Fin 2) := by
      refine Fin.ext ((Window.rect_emb_val _ _ _ _).trans ?_)
      rw [ix_7]
      show 0 * 2048 + (y (1 : Fin 2)).val = _
      omega
    have hy : (y (0 : Fin 2)).val < 8 := (y (0 : Fin 2)).isLt
    have h := hL' (y (0 : Fin 2)) (y (1 : Fin 2)) (by rw [ht, (Plan.e_end hS).1]; omega)
    rw [e0, e1]
    refine Eq.trans ?_ h
    refine congrArg (after 7 t : Vec Ideal S8x2048 .f32) ?_
    funext b
    match b with
    | ⟨0, _⟩ => rfl
    | ⟨1, _⟩ => rfl
  · intro (i : S8x2048.Idx)
    have hvN : 102 < (cfg0 (adm m hg hS)).N := by rw [N_eq]; omega
    refine ⟨⟨102, hvN⟩, (flush_iff _ rfl _).mpr (.inl rfl), ?_⟩
    refine (Window.emb_mem_blk_iff ((cfg0 (adm m hg hS)).win 7) ⟨102, hvN⟩ i rfl).mpr fun b => ?_
    rw [ix_7]
    match b with
    | ⟨0, _⟩ =>
      have h : (i (0 : Fin 2)).val < 8 := (i (0 : Fin 2)).isLt
      show 0 * 8 ≤ (i (0 : Fin 2)).val ∧ (i (0 : Fin 2)).val < 0 * 8 + 8
      omega
    | ⟨1, _⟩ =>
      have h : (i (1 : Fin 2)).val < 2048 := (i (1 : Fin 2)).isLt
      show 0 * 2048 ≤ (i (1 : Fin 2)).val ∧ (i (1 : Fin 2)).val < 0 * 2048 + 2048
      omega

theorem end8 (i : S8x2048.Idx) : ((dat m hg hS c after).arrAt 8 (cfg0 (adm m hg hS)).N : Vec Ideal S8x2048 .f32) i = SY (B m 0) (i (0 : Fin 2)).val (i (1 : Fin 2)) := by
  refine Dat.arrAt_forall_of_cover (dat m hg hS c after) 8 (fun (i : S8x2048.Idx) (v : EReal) => v = SY (B m 0) (i (0 : Fin 2)).val (i (1 : Fin 2))) ?_ ?_ i
  · intro t hf y
    obtain ⟨Y', -, hL⟩ := haf 8 t hf
    have hL' : ∀ (k : Fin 8) (p : Fin 2048), k.val ≤ Plan.e g (num (grid0.coords t)) → (after 8 t : Vec Ideal S8x2048 .f32) (ix2 k p) = SY (B m 0) k p := hL
    have ht : (num (grid0.coords t)).val = 102 := by
      rcases of_flush m hg hS 8 rfl (fun _ => 0) t (fun t u h => by rw [ix_8, ix_8]) hf with h | h
      · exact h
      · exact absurd rfl h
    have e0 : (((cfg0 (adm m hg hS)).win 8).blk t).view.emb y (0 : Fin 2) = y (0 : Fin 2) := by
      refine Fin.ext ((Window.rect_emb_val _ _ _ _).trans ?_)
      rw [ix_8]
      show 0 * 8 + (y (0 : Fin 2)).val = _
      omega
    have e1 : (((cfg0 (adm m hg hS)).win 8).blk t).view.emb y (1 : Fin 2) = y (1 : Fin 2) := by
      refine Fin.ext ((Window.rect_emb_val _ _ _ _).trans ?_)
      rw [ix_8]
      show 0 * 2048 + (y (1 : Fin 2)).val = _
      omega
    have hy : (y (0 : Fin 2)).val < 8 := (y (0 : Fin 2)).isLt
    have h := hL' (y (0 : Fin 2)) (y (1 : Fin 2)) (by rw [ht, (Plan.e_end hS).1]; omega)
    rw [e0, e1]
    refine Eq.trans ?_ h
    refine congrArg (after 8 t : Vec Ideal S8x2048 .f32) ?_
    funext b
    match b with
    | ⟨0, _⟩ => rfl
    | ⟨1, _⟩ => rfl
  · intro (i : S8x2048.Idx)
    have hvN : 102 < (cfg0 (adm m hg hS)).N := by rw [N_eq]; omega
    refine ⟨⟨102, hvN⟩, (flush_iff _ rfl _).mpr (.inl rfl), ?_⟩
    refine (Window.emb_mem_blk_iff ((cfg0 (adm m hg hS)).win 8) ⟨102, hvN⟩ i rfl).mpr fun b => ?_
    rw [ix_8]
    match b with
    | ⟨0, _⟩ =>
      have h : (i (0 : Fin 2)).val < 8 := (i (0 : Fin 2)).isLt
      show 0 * 8 ≤ (i (0 : Fin 2)).val ∧ (i (0 : Fin 2)).val < 0 * 8 + 8
      omega
    | ⟨1, _⟩ =>
      have h : (i (1 : Fin 2)).val < 2048 := (i (1 : Fin 2)).isLt
      show 0 * 2048 ≤ (i (1 : Fin 2)).val ∧ (i (1 : Fin 2)).val < 0 * 2048 + 2048
      omega

omit haf

include hg hS

/-- The run of the kernel. -/
theorem run (ρ : Dev nD → PrngReg) (hA : ∀ (c : Dev nD) j, A m c j ≤ Ideal.ofBits .f32 0x7F7FFFFF#32) (hB : ∀ (c : Dev nD) j, B m c j ≤ Ideal.ofBits .f32 0x7F7FFFFF#32) :
    θ_run (defs (F := Ideal)) (onTc (τ := τ) (main (F := Ideal))) ⟨m, fun _ => 0, ρ⟩ (fun r => ∀ c : Dev nD,
      IsDw g (X m 0) (Y m 0) (A m 0) (B m 0) (r.2.mem ((c.tc : Thread nD τ).loc main_v106_0))
      ∧ IsXc g (X m 0) (A m 0) (r.2.mem ((c.tc : Thread nD τ).loc main_v106_1))
      ∧ IsXs (A m 0) (r.2.mem ((c.tc : Thread nD τ).loc main_v106_3))
      ∧ IsYc g (Y m 0) (B m 0) (r.2.mem ((c.tc : Thread nD τ).loc main_v106_2))
      ∧ IsYs (B m 0) (r.2.mem ((c.tc : Thread nD τ).loc main_v106_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine call m hg hS ρ (R m hg hS 0) (fun c t Z hZ x11 => ?_) _ ?_
  · obtain rfl : c = 0 := Subsingleton.elim _ _
    exact keeps m hg hS hA hB 0 t Z hZ x11
  · rintro r ⟨hp, -⟩ c
    obtain ⟨after, haf, hm⟩ := RDat.FramePost.exists_exact hp c
    refine ⟨?_, ?_, ?_, ?_, ?_, args_of m r hp c⟩
    · have e : r.2.mem ((c.tc : Thread nD τ).loc main_v106_0) = _ := hm 4
      rw [e]; intro a p q; exact end4 m hg hS c after haf (ix3 a p q)
    · have e : r.2.mem ((c.tc : Thread nD τ).loc main_v106_1) = _ := hm 5
      rw [e]; intro a p k hk h1 h2; exact end5 m hg hS c after haf (ix2 a p) k hk h1 h2
    · have e : r.2.mem ((c.tc : Thread nD τ).loc main_v106_3) = _ := hm 7
      rw [e]; intro k p; exact end7 m hg hS c after haf (ix2 k p)
    · have e : r.2.mem ((c.tc : Thread nD τ).loc main_v106_2) = _ := hm 6
      rw [e]; intro a p k hk h1 h2; exact end6 m hg hS c after haf (ix2 a p) k hk h1 h2
    · have e : r.2.mem ((c.tc : Thread nD τ).loc main_v106_4) = _ := hm 8
      rw [e]; intro k p; exact end8 m hg hS c after haf (ix2 k p)
end Cert.KernelIdeal.KEnd

end
-- ==== Proof.ValR.lean ====
module

public import proofs.«01_k».proof.Proof.Gen.ReferenceIdeal.Frame
public import Idealize.ShloMosaic.Lib.Pointwise
public import Idealize.ShloMosaic.Lib.Pipeline.ArrRel
public import Idealize.ShloMosaic.Lib.VecWindow
public import Idealize.ShloMosaic.Lib.WritesUnit
public import proofs.«01_k».proof.Proof.Scale

/-!
What the reference's stores hold at an index, over the extended reals.
-/

@[expose] public section

set_option maxRecDepth 16384

noncomputable section

namespace Cert.ReferenceIdeal.ValR

open Cert.ReferenceIdeal Cert.ReferenceIdeal.Gen
open Idealize.ShloMosaic hiding ix0 ix1 ix2 ix3
open Idealize.ShloMosaic.ValueIdx
open Idealize.ShloMosaic.TcCoe Idealize.ShloMosaic.Pipeline

variable (m : (ℓ : Loc nD τ sig) → Buf (Elt Ideal) ℓ) (c : Dev nD)
variable (arg0 : Memref sig .tc .vmem S49152x1 .i32) (h0 : arg0.IsWhole) (arg1 : Memref sig .tc .vmem S49152x2048 .bf16) (h1 : arg1.IsWhole) (arg2 : Memref sig .tc .vmem S49152x2048 .bf16) (h2 : arg2.IsWhole) (arg3 : Memref sig .tc .vmem S8x2048 .f32) (h3 : arg3.IsWhole) (arg4 : Memref sig .tc .vmem S8x2048 .f32) (h4 : arg4.IsWhole) (arg5 : Memref sig .tc .vmem S8x2048x2048 .f32) (h5 : arg5.IsWhole) (arg6 : Memref sig .tc .vmem S49152x2048 .fp8e4m3) (h6 : arg6.IsWhole) (arg7 : Memref sig .tc .vmem S8x2048 .f32) (h7 : arg7.IsWhole) (arg8 : Memref sig .tc .vmem S49152x2048 .fp8e5m2) (h8 : arg8.IsWhole) (arg9 : Memref sig .tc .vmem S8x2048 .f32) (h9 : arg9.IsWhole)
variable (x0 : Vec Ideal S49152x1 .i32) (x1 x2 : Vec Ideal S49152x2048 .bf16) (x3 x4 : Vec Ideal S8x2048 .f32)

/-- A load of a whole memref that holds `x` reads `x`. -/
theorem rd_unread {κ : Kind} {sp : Space} {s : Shape} {e : EltTy} {a : Memref sig κ sp s e} (h : a.IsWhole) (x : Vec Ideal s e)
    {off : Fin s.rank → Nat} (ho : off = fun _ => 0) (inb) :
    a.view.readAt (Elt Ideal) (Rect.unit (s := s) off s.size inb).toLoadRect (h.unread x) = x := by
  subst ho; funext y; rw [View.readAt_apply, h.read_unread]; congr 1; funext b; apply Fin.ext; simp [Rect.unit]

theorem z2 : (![0, 0] : Fin 2 → Nat) = fun _ => 0 := by funext a; fin_cases a <;> rfl

/-- The count of the powers of two, for either operand. -/
def cntX : FVec Ideal S8x2048 .f32 := Scf.fold (k0_pay3 (F := Ideal) x3) (k0_pay2 (F := Ideal))
def cntY : FVec Ideal S8x2048 .f32 := Scf.fold (k0_pay13 (F := Ideal) x4) (k0_pay12 (F := Ideal))

abbrev invSX : FVec Ideal S8x2048 .f32 := k0_pay6 (F := Ideal) (cntX x3)
abbrev invSY : FVec Ideal S8x2048 .f32 := k0_pay17 (F := Ideal) (k0_pay14 (cntY x4)) (k0_pay16 (F := Ideal))
/-- The codes of either operand. -/
def codX : FVec Ideal S49152x2048 .fp8e4m3 :=
  k0_pay11 (F := Ideal) (invSX x3) (k0_pay8 (F := Ideal) (invSX x3) (k0_pay7 (F := Ideal) (cntX x3) x0 x0) x0 x0 x0 x0) (k0_pay9 (F := Ideal) x0) (k0_pay10 (F := Ideal) (invSX x3)) x0 x1
def codY : FVec Ideal S49152x2048 .fp8e5m2 :=
  k0_pay21 (F := Ideal) (k0_pay19 (F := Ideal) (invSY x4) (k0_pay18 (F := Ideal) (k0_pay14 (F := Ideal) (cntY x4)) (k0_pay16 (F := Ideal)) x0 x0 x0 x0) x0 x0 x0 x0 x2)
    (Scalar.ofBits (F := Ideal) .f32 0x47600000#32) (k0_pay20 (F := Ideal))

theorem r0 : kernelRun0_A.sl.r c arg3 h3 x3 = cntX x3 := by
  delta kernelRun0_A.sl.r; rw [rd_unread h3 x3 z2]; rfl
theorem r1 : kernelRun0_A.sl.r_1 c arg3 h3 x3 = invSX x3 := by
  delta kernelRun0_A.sl.r_1; rw [r0]
theorem r2 : kernelRun0_A.sl.r_2 c arg0 h0 arg3 h3 x0 x3 = k0_pay7 (F := Ideal) (cntX x3) x0 x0 := by
  delta kernelRun0_A.sl.r_2; simp only [r0, rd_unread h0 x0 z2]
theorem r3 : kernelRun0_A.sl.r_3 c arg0 h0 arg3 h3 x0 x3 = k0_pay8 (F := Ideal) (invSX x3) (k0_pay7 (F := Ideal) (cntX x3) x0 x0) x0 x0 x0 x0 := by
  delta kernelRun0_A.sl.r_3; simp only [r1, r2, rd_unread h0 x0 z2]
theorem r4 : kernelRun0_A.sl.r_4 c arg0 h0 x0 = k0_pay9 (F := Ideal) x0 := by
  delta kernelRun0_A.sl.r_4; simp only [rd_unread h0 x0 z2]
theorem r5 : kernelRun0_A.sl.r_5 c arg3 h3 x3 = k0_pay10 (F := Ideal) (invSX x3) := by
  delta kernelRun0_A.sl.r_5; rw [r1]
theorem r6 : kernelRun0_A.sl.r_6 c arg4 h4 x4 = cntY x4 := by
  delta kernelRun0_A.sl.r_6; rw [rd_unread h4 x4 z2]; rfl
theorem r7 : kernelRun0_A.sl.r_7 c arg4 h4 x4 = k0_pay14 (cntY x4) := by
  delta kernelRun0_A.sl.r_7; rw [r6]
theorem r8 : kernelRun0_A.sl.r_8 c arg4 h4 x4 = k0_pay15 (cntY x4) := by
  delta kernelRun0_A.sl.r_8; rw [r6]
theorem r9 : kernelRun0_A.sl.r_9 c arg4 h4 x4 = invSY x4 := by
  delta kernelRun0_A.sl.r_9; rw [r7]
theorem r10 : kernelRun0_A.sl.r_10 c arg0 h0 arg4 h4 x0 x4 = k0_pay18 (F := Ideal) (k0_pay14 (F := Ideal) (cntY x4)) (k0_pay16 (F := Ideal)) x0 x0 x0 x0 := by
  delta kernelRun0_A.sl.r_10; simp only [r7, rd_unread h0 x0 z2]

theorem out7 : out0_A_7 (F := Ideal) c arg0 h0 arg1 h1 arg2 h2 arg3 h3 arg4 h4 arg5 h5 arg6 h6 arg7 h7 arg8 h8 arg9 h9 x0 x1 x2 x3 x4 = k0_pay5 (cntX x3) := by
  unfold out0_A_7 kernelRun0_A
  dsimp only
  delta kernelRun0_A.sl.H7_1
  refine (View.read_writes_full _ _ _ _ _).trans ?_
  rw [r0]
theorem out9 : out0_A_9 (F := Ideal) c arg0 h0 arg1 h1 arg2 h2 arg3 h3 arg4 h4 arg5 h5 arg6 h6 arg7 h7 arg8 h8 arg9 h9 x0 x1 x2 x3 x4 = k0_pay15 (cntY x4) := by
  unfold out0_A_9 kernelRun0_A
  dsimp only
  delta kernelRun0_A.sl.H9_1
  refine (View.read_writes_full _ _ _ _ _).trans ?_
  rw [r8]
theorem v218 : kernelRun0_A.sl.v218 c arg0 h0 arg1 h1 arg3 h3 arg6 x0 x1 x3 = codX x0 x1 x3 := by
  delta kernelRun0_A.sl.v218
  delta kernelRun0_A.sl.H6_1
  refine (View.readCov_full _ _ _ _ _).trans ?_
  simp only [r1, r3, r4, r5, rd_unread h0 x0 z2, rd_unread h1 x1 z2]; rfl
theorem v225 : kernelRun0_A.sl.v225 c arg0 h0 arg2 h2 arg4 h4 arg8 x0 x2 x4 = codY x0 x2 x4 := by
  delta kernelRun0_A.sl.v225
  delta kernelRun0_A.sl.H8_1
  refine (View.readCov_full _ _ _ _ _).trans ?_
  delta kernelRun0_A.sl.r_11 kernelRun0_A.sl.cst_76
  simp only [r9, r10, rd_unread h0 x0 z2, rd_unread h2 x2 z2]; rfl
theorem out6 : out0_A_6 (F := Ideal) c arg0 h0 arg1 h1 arg2 h2 arg3 h3 arg4 h4 arg5 h5 arg6 h6 arg7 h7 arg8 h8 arg9 h9 x0 x1 x2 x3 x4 = codX x0 x1 x3 := by
  unfold out0_A_6 kernelRun0_A
  dsimp only
  delta kernelRun0_A.sl.H6_1
  refine (View.read_writes_full _ _ _ _ _).trans ?_
  simp only [r1, r3, r4, r5, rd_unread h0 x0 z2, rd_unread h1 x1 z2]; rfl
theorem out8 : out0_A_8 (F := Ideal) c arg0 h0 arg1 h1 arg2 h2 arg3 h3 arg4 h4 arg5 h5 arg6 h6 arg7 h7 arg8 h8 arg9 h9 x0 x1 x2 x3 x4 = codY x0 x2 x4 := by
  unfold out0_A_8 kernelRun0_A
  dsimp only
  delta kernelRun0_A.sl.H8_1
  refine (View.read_writes_full _ _ _ _ _).trans ?_
  delta kernelRun0_A.sl.r_11 kernelRun0_A.sl.cst_76
  simp only [r9, r10, rd_unread h0 x0 z2, rd_unread h2 x2 z2]; rfl

/-- A row of the scales, as a block of one row. -/
def rw1 (k : Nat) (hk : k < 8) (s : FVec Ideal S8x2048 .f32) : FVec Ideal S1x2048 .f32 := fun j => s (ix2 ⟨k, hk⟩ (j 1))

theorem emb_row (k : Nat) (hk : k < 8) (inb) (j : (Rect.unit (s := S8x2048) ![k, 0] S1x2048.size inb).shape.Idx) :
    (Rect.unit (s := S8x2048) ![k, 0] S1x2048.size inb).emb j = (ix2 (⟨k, hk⟩ : Fin 8) (⟨(j 1).val, (j 1).isLt⟩ : Fin 2048) : S8x2048.Idx) := by
  have h1 : (j 0).val < 1 := (j 0).isLt
  funext b; apply Fin.ext
  match b with
  | ⟨0, _⟩ => simp [Rect.unit, Rect.emb, ix2]
  | ⟨1, _⟩ => simp [Rect.unit, Rect.emb, ix2]
theorem row_eq (k : Nat) (hk : k < 8) (inb) (s : FVec Ideal S8x2048 .f32) :
    (fun j => s ((Rect.unit (s := S8x2048) ![k, 0] S1x2048.size inb).idx j)) = rw1 k hk s := by
  funext j
  exact congrArg s (emb_row k hk inb j)

theorem v369 : kernelRun0_A.sl.v369 c arg3 h3 arg7 x3 = rw1 5 (by decide) (k0_pay5 (cntX x3)) := by
  delta kernelRun0_A.sl.v369
  delta kernelRun0_A.sl.H7_1
  rw [View.readCov_eq_canon', View.canon_cons_unit_zero z2, r0]
  exact row_eq 5 _ _ _

/-- One slab, as a sum. -/
def slab (w : BitVec 32) (u : FVec Ideal S49152x2048 .fp8e4m3) (v : FVec Ideal S49152x2048 .fp8e5m2) (s t : FVec Ideal S1x2048 .f32) (p q : Fin 2048) : EReal :=
  (∑ r : Fin 49152, Scalar.select (IntOp.cmpi .eq (x0 (ix2 r 0)) w) (u (ix2 r p) * v (ix2 r q)) 0) * (s (ix2 0 p) * t (ix2 0 q))

variable (u : FVec Ideal S49152x2048 .fp8e4m3) (v : FVec Ideal S49152x2048 .fp8e5m2) (s t : FVec Ideal S1x2048 .f32) (p q : Fin 2048)

end Cert.ReferenceIdeal.ValR

end
-- ==== Proof.ValR2.lean ====
module

public import proofs.«01_k».proof.Proof.ValR

/-!
The reference's products and codes at an index, over the extended reals.
-/

@[expose] public section

set_option maxRecDepth 16384

noncomputable section

namespace Cert.ReferenceIdeal.ValR

open Cert.ReferenceIdeal Cert.ReferenceIdeal.Gen
open Idealize.ShloMosaic hiding ix0 ix1 ix2 ix3
open Idealize.ShloMosaic.ValueIdx
open Idealize.ShloMosaic.TcCoe Idealize.ShloMosaic.Pipeline

section Slabs
variable (x0 : Vec Ideal S49152x1 .i32)
variable (u : FVec Ideal S49152x2048 .fp8e4m3) (v : FVec Ideal S49152x2048 .fp8e5m2) (s t : FVec Ideal S1x2048 .f32) (p q : Fin 2048)

theorem sl0 : k0_pay22 x0 u v s t (ix3 0 p q) = slab x0 0#32 u v s t p q := by
  unfold k0_pay22; simp only [pointwise, zero_add]
  exact congrArg₂ (· * ·) (Finset.sum_congr rfl fun r _ => rfl) rfl
theorem sl1 : k0_pay24 (F := Ideal) (k0_pay23 (F := Ideal) x0) u v s t (ix3 0 p q) = slab x0 1#32 u v s t p q := by
  unfold k0_pay24 k0_pay23; simp only [pointwise, zero_add]
  exact congrArg₂ (· * ·) (Finset.sum_congr rfl fun r _ => rfl) rfl
theorem sl2 : k0_pay27 (k0_pay25 x0 u) (k0_pay26 v) s t (ix3 0 p q) = slab x0 2#32 u v s t p q := by
  unfold k0_pay27 k0_pay25 k0_pay26; simp only [pointwise, zero_add]
  exact congrArg₂ (· * ·) (Finset.sum_congr rfl fun r _ => rfl) rfl
theorem sl3 : k0_pay30 (k0_pay28 x0 u v) (k0_pay29 s t) (ix3 0 p q) = slab x0 3#32 u v s t p q := by
  unfold k0_pay30 k0_pay28 k0_pay29; simp only [pointwise, zero_add]
  exact congrArg₂ (· * ·) (Finset.sum_congr rfl fun r _ => rfl) rfl
theorem sl4 : k0_pay31 x0 u v s t (ix3 0 p q) = slab x0 4#32 u v s t p q := by
  unfold k0_pay31; simp only [pointwise, zero_add]
  exact congrArg₂ (· * ·) (Finset.sum_congr rfl fun r _ => rfl) rfl
theorem sl5 : k0_pay33 (F := Ideal) (k0_pay32 (F := Ideal) x0) u v s t (ix3 0 p q) = slab x0 5#32 u v s t p q := by
  unfold k0_pay33 k0_pay32; simp only [pointwise, zero_add]
  exact congrArg₂ (· * ·) (Finset.sum_congr rfl fun r _ => rfl) rfl
theorem sl6 : k0_pay36 (k0_pay34 x0 u) (k0_pay35 v) s t (ix3 0 p q) = slab x0 6#32 u v s t p q := by
  unfold k0_pay36 k0_pay34 k0_pay35; simp only [pointwise, zero_add]
  exact congrArg₂ (· * ·) (Finset.sum_congr rfl fun r _ => rfl) rfl
theorem sl7 : k0_pay1 (k0_pay37 x0 u v) (k0_pay38 s t) (ix3 0 p q) = slab x0 7#32 u v s t p q := by
  unfold k0_pay1 k0_pay37 k0_pay38; simp only [pointwise, zero_add]
  exact congrArg₂ (· * ·) (Finset.sum_congr rfl fun r _ => rfl) rfl

end Slabs

section Runs
variable (m : (ℓ : Loc nD τ sig) → Buf (Elt Ideal) ℓ) (c : Dev nD)
variable (arg0 : Memref sig .tc .vmem S49152x1 .i32) (h0 : arg0.IsWhole) (arg1 : Memref sig .tc .vmem S49152x2048 .bf16) (h1 : arg1.IsWhole) (arg2 : Memref sig .tc .vmem S49152x2048 .bf16) (h2 : arg2.IsWhole) (arg3 : Memref sig .tc .vmem S8x2048 .f32) (h3 : arg3.IsWhole) (arg4 : Memref sig .tc .vmem S8x2048 .f32) (h4 : arg4.IsWhole) (arg5 : Memref sig .tc .vmem S8x2048x2048 .f32) (h5 : arg5.IsWhole) (arg6 : Memref sig .tc .vmem S49152x2048 .fp8e4m3) (h6 : arg6.IsWhole) (arg7 : Memref sig .tc .vmem S8x2048 .f32) (h7 : arg7.IsWhole) (arg8 : Memref sig .tc .vmem S49152x2048 .fp8e5m2) (h8 : arg8.IsWhole) (arg9 : Memref sig .tc .vmem S8x2048 .f32) (h9 : arg9.IsWhole)
variable (x0 : Vec Ideal S49152x1 .i32) (x1 x2 : Vec Ideal S49152x2048 .bf16) (x3 x4 : Vec Ideal S8x2048 .f32)

abbrev scX : FVec Ideal S8x2048 .f32 := k0_pay5 (cntX x3)
abbrev scY : FVec Ideal S8x2048 .f32 := k0_pay15 (cntY x4)

theorem v229 : kernelRun0_A.sl.v229 c arg3 h3 arg7 x3 = rw1 0 (by decide) (scX x3) := by
  delta kernelRun0_A.sl.v229
  delta kernelRun0_A.sl.H7_1
  rw [View.readCov_eq_canon', View.canon_cons_unit_zero z2, r0]
  exact row_eq 0 _ _ _
theorem v257 : kernelRun0_A.sl.v257 c arg3 h3 arg7 x3 = rw1 1 (by decide) (scX x3) := by
  delta kernelRun0_A.sl.v257
  delta kernelRun0_A.sl.H7_1
  rw [View.readCov_eq_canon', View.canon_cons_unit_zero z2, r0]
  exact row_eq 1 _ _ _
theorem v285 : kernelRun0_A.sl.v285 c arg3 h3 arg7 x3 = rw1 2 (by decide) (scX x3) := by
  delta kernelRun0_A.sl.v285
  delta kernelRun0_A.sl.H7_1
  rw [View.readCov_eq_canon', View.canon_cons_unit_zero z2, r0]
  exact row_eq 2 _ _ _
theorem v313 : kernelRun0_A.sl.v313 c arg3 h3 arg7 x3 = rw1 3 (by decide) (scX x3) := by
  delta kernelRun0_A.sl.v313
  delta kernelRun0_A.sl.H7_1
  rw [View.readCov_eq_canon', View.canon_cons_unit_zero z2, r0]
  exact row_eq 3 _ _ _
theorem v341 : kernelRun0_A.sl.v341 c arg3 h3 arg7 x3 = rw1 4 (by decide) (scX x3) := by
  delta kernelRun0_A.sl.v341
  delta kernelRun0_A.sl.H7_1
  rw [View.readCov_eq_canon', View.canon_cons_unit_zero z2, r0]
  exact row_eq 4 _ _ _
theorem v397 : kernelRun0_A.sl.v397 c arg3 h3 arg7 x3 = rw1 6 (by decide) (scX x3) := by
  delta kernelRun0_A.sl.v397
  delta kernelRun0_A.sl.H7_1
  rw [View.readCov_eq_canon', View.canon_cons_unit_zero z2, r0]
  exact row_eq 6 _ _ _
theorem v425 : kernelRun0_A.sl.v425 c arg3 h3 arg7 x3 = rw1 7 (by decide) (scX x3) := by
  delta kernelRun0_A.sl.v425
  delta kernelRun0_A.sl.H7_1
  rw [View.readCov_eq_canon', View.canon_cons_unit_zero z2, r0]
  exact row_eq 7 _ _ _
theorem v232 : kernelRun0_A.sl.v232 c arg4 h4 arg9 x4 = rw1 0 (by decide) (scY x4) := by
  delta kernelRun0_A.sl.v232
  delta kernelRun0_A.sl.H9_1
  rw [View.readCov_eq_canon', View.canon_cons_unit_zero z2, r8]
  exact row_eq 0 _ _ _
theorem v260 : kernelRun0_A.sl.v260 c arg4 h4 arg9 x4 = rw1 1 (by decide) (scY x4) := by
  delta kernelRun0_A.sl.v260
  delta kernelRun0_A.sl.H9_1
  rw [View.readCov_eq_canon', View.canon_cons_unit_zero z2, r8]
  exact row_eq 1 _ _ _
theorem v288 : kernelRun0_A.sl.v288 c arg4 h4 arg9 x4 = rw1 2 (by decide) (scY x4) := by
  delta kernelRun0_A.sl.v288
  delta kernelRun0_A.sl.H9_1
  rw [View.readCov_eq_canon', View.canon_cons_unit_zero z2, r8]
  exact row_eq 2 _ _ _
theorem v316 : kernelRun0_A.sl.v316 c arg4 h4 arg9 x4 = rw1 3 (by decide) (scY x4) := by
  delta kernelRun0_A.sl.v316
  delta kernelRun0_A.sl.H9_1
  rw [View.readCov_eq_canon', View.canon_cons_unit_zero z2, r8]
  exact row_eq 3 _ _ _
theorem v344 : kernelRun0_A.sl.v344 c arg4 h4 arg9 x4 = rw1 4 (by decide) (scY x4) := by
  delta kernelRun0_A.sl.v344
  delta kernelRun0_A.sl.H9_1
  rw [View.readCov_eq_canon', View.canon_cons_unit_zero z2, r8]
  exact row_eq 4 _ _ _
theorem v372 : kernelRun0_A.sl.v372 c arg4 h4 arg9 x4 = rw1 5 (by decide) (scY x4) := by
  delta kernelRun0_A.sl.v372
  delta kernelRun0_A.sl.H9_1
  rw [View.readCov_eq_canon', View.canon_cons_unit_zero z2, r8]
  exact row_eq 5 _ _ _
theorem v400 : kernelRun0_A.sl.v400 c arg4 h4 arg9 x4 = rw1 6 (by decide) (scY x4) := by
  delta kernelRun0_A.sl.v400
  delta kernelRun0_A.sl.H9_1
  rw [View.readCov_eq_canon', View.canon_cons_unit_zero z2, r8]
  exact row_eq 6 _ _ _
theorem v428 : kernelRun0_A.sl.v428 c arg4 h4 arg9 x4 = rw1 7 (by decide) (scY x4) := by
  delta kernelRun0_A.sl.v428
  delta kernelRun0_A.sl.H9_1
  rw [View.readCov_eq_canon', View.canon_cons_unit_zero z2, r8]
  exact row_eq 7 _ _ _

/-- A slab stored on its own, read back. -/
theorem put {vw : View sig .tc .vmem S8x2048x2048 .f32} (f : vw.ty.Contents (Elt Ideal)) (k : Nat) (inb) (w : S1x2048x2048.Idx → Elt Ideal .f32) (L : List (View.Piece (Elt Ideal) S8x2048x2048 .f32)) (e : Fin 8) (p q : Fin 2048) :
    vw.read (Elt Ideal) (vw.writes (Elt Ideal) f (⟨Rect.unit (s := S8x2048x2048) ![k, 0, 0] S1x2048x2048.size inb, w⟩ :: L)) (ix3 e p q)
      = if e.val = k then w (ix3 0 p q) else vw.read (Elt Ideal) (vw.writes (Elt Ideal) f L) (ix3 e p q) := by
  by_cases h : e.val = k
  · rw [if_pos h]
    refine View.read_writes_cons_unit_of_mem vw f inb w L (ix3 e p q) (ix3 0 p q) rfl fun a => ?_
    match a with
    | ⟨0, _⟩ => show e.val = k + 0; omega
    | ⟨1, _⟩ => show p.val = 0 + p.val; omega
    | ⟨2, _⟩ => show q.val = 0 + q.val; omega
  · rw [if_neg h]
    refine View.read_writes_cons_unit_of_not_mem vw f inb w L (ix3 e p q) rfl 0 ?_
    show e.val < k ∨ k + 1 ≤ e.val
    omega

theorem out5 (e : Fin 8) (p q : Fin 2048) :
    out0_A_5 (F := Ideal) c arg0 h0 arg1 h1 arg2 h2 arg3 h3 arg4 h4 arg5 h5 arg6 h6 arg7 h7 arg8 h8 arg9 h9 x0 x1 x2 x3 x4 (ix3 e p q)
      = slab x0 (BitVec.ofNat 32 e.val) (codX x0 x1 x3) (codY x0 x2 x4) (rw1 e.val e.isLt (scX x3)) (rw1 e.val e.isLt (scY x4)) p q := by
  unfold out0_A_5 kernelRun0_A
  dsimp only
  refine (put _ 7 _ _ _ e p q).trans ?_
  delta kernelRun0_A.sl.r_20 kernelRun0_A.sl.r_21 kernelRun0_A.sl.r_18 kernelRun0_A.sl.r_19 kernelRun0_A.sl.r_17 kernelRun0_A.sl.r_15 kernelRun0_A.sl.r_16 kernelRun0_A.sl.r_13 kernelRun0_A.sl.r_14 kernelRun0_A.sl.r_12
  rw [put, put, put, put, put, put, put]
  simp only [v218, v225, rd_unread h0 x0 z2, v229, v257, v285, v313, v341, v369, v397, v425, v232, v260, v288, v316, v344, v372, v400, v428,
    sl0, sl1, sl2, sl3, sl4, sl5, sl6, sl7]
  obtain ⟨e, he⟩ := e
  match e, he with
  | 0, _ => exact rfl
  | 1, _ => exact rfl
  | 2, _ => exact rfl
  | 3, _ => exact rfl
  | 4, _ => exact rfl
  | 5, _ => exact rfl
  | 6, _ => exact rfl
  | 7, _ => exact rfl
  | e + 8, h => exact absurd h (by omega)

end Runs

section Codes
variable (x0 : Vec Ideal S49152x1 .i32) (x1 x2 : Vec Ideal S49152x2048 .bf16) (x3 x4 : Vec Ideal S8x2048 .f32)

/-- The row of the table a word picks. -/
def pick (w : BitVec 32) (f : Fin 8 → EReal) : EReal :=
  Scalar.select (IntOp.cmpi .eq w 7#32) (f 7) (Scalar.select (IntOp.cmpi .eq w 6#32) (f 6) (Scalar.select (IntOp.cmpi .eq w 5#32) (f 5)
    (Scalar.select (IntOp.cmpi .eq w 4#32) (f 4) (Scalar.select (IntOp.cmpi .eq w 3#32) (f 3) (Scalar.select (IntOp.cmpi .eq w 2#32) (f 2)
      (Scalar.select (IntOp.cmpi .eq w 1#32) (f 1) (Scalar.select (IntOp.cmpi .eq w 0#32) (f 0) 0)))))))

theorem pick_eq (k : Fin 8) (f : Fin 8 → EReal) : pick (BitVec.ofNat 32 k.val) f = f k := by
  match k with
  | 0 => rfl
  | 1 => rfl
  | 2 => rfl
  | 3 => rfl
  | 4 => rfl
  | 5 => rfl
  | 6 => rfl
  | 7 => rfl

/-- A value held between two bounds. -/
def cl (lo hi v : EReal) : EReal := min hi (max lo v)

theorem codX_ap (r : Fin 49152) (p : Fin 2048) (k : Fin 8) (h : x0 (ix2 r 0) = BitVec.ofNat 32 k.val) :
    codX x0 x1 x3 (ix2 r p) = cl (Ideal.ofBits .f32 0xC3E00000#32) (Ideal.ofBits .f32 0x43E00000#32) (x1 (ix2 r p) * invSX x3 (ix2 k p)) := by
  have hz : (⟨0 + p.val, by have := p.isLt; omega⟩ : Fin 2048) = p := Fin.ext (Nat.zero_add _)
  have e1 : codX x0 x1 x3 (ix2 r p) = cl (Ideal.ofBits .f32 0xC3E00000#32) (Ideal.ofBits .f32 0x43E00000#32)
      (x1 (ix2 r p) * pick (x0 (ix2 r 0)) fun e => invSX x3 (ix2 e ⟨0 + p.val, by have := p.isLt; omega⟩)) := by
    unfold codX k0_pay11 k0_pay10 k0_pay9 k0_pay8 k0_pay7; simp only [pointwise]; exact rfl
  rw [e1, h, pick_eq, hz]
theorem codY_ap (r : Fin 49152) (p : Fin 2048) (k : Fin 8) (h : x0 (ix2 r 0) = BitVec.ofNat 32 k.val) :
    codY x0 x2 x4 (ix2 r p) = cl (Ideal.ofBits .f32 0xC7600000#32) (Ideal.ofBits .f32 0x47600000#32) (x2 (ix2 r p) * invSY x4 (ix2 k p)) := by
  have hz : (⟨0 + p.val, by have := p.isLt; omega⟩ : Fin 2048) = p := Fin.ext (Nat.zero_add _)
  have e1 : codY x0 x2 x4 (ix2 r p) = cl (Ideal.ofBits .f32 0xC7600000#32) (Ideal.ofBits .f32 0x47600000#32)
      (x2 (ix2 r p) * pick (x0 (ix2 r 0)) fun e => invSY x4 (ix2 e ⟨0 + p.val, by have := p.isLt; omega⟩)) := by
    unfold codY k0_pay21 k0_pay20 k0_pay19 k0_pay18; simp only [pointwise]; exact rfl
  rw [e1, h, pick_eq, hz]

end Codes

end Cert.ReferenceIdeal.ValR

end
-- ==== Proof.RefCnt.lean ====
module

public import proofs.«01_k».proof.Proof.ValR

/-!
The reference's scales at an index: the powers of two counted, one trip each.
-/

@[expose] public section

set_option maxRecDepth 16384

noncomputable section

namespace Cert.ReferenceIdeal.RefCnt

open Cert.ReferenceIdeal Cert.ReferenceIdeal.Gen Cert.ReferenceIdeal.ValR Cert.Scale
open Idealize.ShloMosaic hiding ix0 ix1 ix2 ix3
open Idealize.ShloMosaic.ValueIdx
open Idealize.ShloMosaic.TcCoe Idealize.ShloMosaic.Pipeline

/-- What every trip keeps, with the trip's number, holds after all of them. -/
theorem fold_ind {α : Type} {N : Nat} (g : Fin N → α → α) (init : α) (P : Nat → α → Prop) (h0 : P 0 init)
    (hs : ∀ (k : Fin N) a, P k.val a → P (k.val + 1) (g k a)) : P N (Scf.fold g init) := by
  have key : ∀ n (h : n ≤ N), P n ((List.finRange n).foldl (fun acc i => g (i.castLE h) acc) init) := by
    intro n
    induction n with
    | zero => intro h; exact h0
    | succ n ih =>
      intro h
      rw [List.finRange_succ_last, List.foldl_append, List.foldl_map]
      exact hs ⟨n, h⟩ _ (ih (by omega))
  rw [Scf.fold_eq]
  exact key N (Nat.le_refl N)

theorem zero_bits : Ideal.ofBits .f32 0x00000000#32 = ((0 : ℝ) : EReal) := by simp [Ideal.ofBits, Ideal.ieee]
theorem b126 : Ideal.ofBits .f32 0x42FC0000#32 = ((126 : ℝ) : EReal) := by
  simp [Ideal.ofBits, Ideal.ieee, -EReal.coe_mul]; norm_num

theorem tripInt : ∀ k : Fin 254, ((BitVec.ofNat 32 k.val) - 126#32).toInt = (k.val : ℤ) - 126 := by decide +kernel

/-- The power of two a trip compares with. -/
theorem trip_th (k : Nat) (hk : k < 254) :
    Ideal.exp2 ((((BitVec.ofNat 32 k - 126#32).toInt : ℝ)) : EReal) = th (k + 1) := by
  rw [tripInt ⟨k, hk⟩, ← rpow_th]; congr 2; push_cast; ring

theorem iv_eq (n : Nat) (k : Fin n) : Scf.iv 0#32 1#32 k = BitVec.ofNat 32 k.val := by
  unfold Scf.iv; simp

/-- One trip at an index. -/
theorem trip (a p E : EReal) (k : Nat) (hE : E = th (k + 1)) (ha : a = ((cnt p k : ℝ) : EReal)) [Decidable (E ≤ p)] :
    a + (if E ≤ p then 1 else 0) = ((cnt p (k + 1) : ℝ) : EReal) := by
  subst hE ha
  by_cases h : th (k + 1) ≤ p
  · have hc : cnt p (k + 1) = cnt p k + 1 := by rw [cnt, if_pos h]
    rw [if_pos h, hc]; push_cast; rfl
  · have hc : cnt p (k + 1) = cnt p k := by rw [cnt, if_neg h, Nat.add_zero]
    rw [if_neg h, hc, add_zero]

variable (x3 x4 : Vec Ideal S8x2048 .f32) (e : Fin 8) (p : Fin 2048)

theorem cntX_ap : cntX x3 (ix2 e p) = ((nn (x3 (ix2 e p) * Ideal.ofBits .f32 0x3B124925#32) : ℝ) : EReal) := by
  unfold cntX
  refine fold_ind (N := 254) (k0_pay3 (F := Ideal) x3) _ (fun n f => f (ix2 e p) = ((cnt (x3 (ix2 e p) * Ideal.ofBits .f32 0x3B124925#32) n : ℝ) : EReal)) ?_ ?_
  · unfold k0_pay2; simp only [pointwise]; simp [cnt]
  · intro k f hf
    unfold k0_pay3; simp only [pointwise]; rw [iv_eq]
    exact trip _ _ _ _ (trip_th k.val k.isLt) hf
theorem cntY_ap : cntY x4 (ix2 e p) = ((nn (x4 (ix2 e p) * Ideal.ofBits .f32 0x37924925#32) : ℝ) : EReal) := by
  unfold cntY
  refine fold_ind (N := 254) (k0_pay13 (F := Ideal) x4) _ (fun n f => f (ix2 e p) = ((cnt (x4 (ix2 e p) * Ideal.ofBits .f32 0x37924925#32) n : ℝ) : EReal)) ?_ ?_
  · unfold k0_pay12; simp only [pointwise]; simp [cnt]
  · intro k f hf
    unfold k0_pay13; simp only [pointwise]; rw [iv_eq]
    exact trip _ _ _ _ (trip_th k.val k.isLt) hf

/-- The exponent out of the count. -/
theorem expo (n : Nat) [Decidable (((n : ℝ) : EReal) = 0)] : (if ((n : ℝ) : EReal) = 0 then 0 else ((n : ℝ) : EReal) - Ideal.ofBits .f32 0x42FC0000#32) = ((ee n : ℝ) : EReal) := by
  rw [b126]
  unfold ee
  by_cases h : n = 0
  · rw [if_pos (by rw [h]; norm_num), if_pos h]; norm_num
  · have h' : ¬ ((n : ℝ) : EReal) = 0 := by
      rw [← EReal.coe_zero, EReal.coe_eq_coe_iff]; exact_mod_cast h
    rw [if_neg h', if_neg h, ← EReal.coe_sub]

theorem expo_neg (n : Nat) [Decidable (((n : ℝ) : EReal) = 0)] : 0 - (if ((n : ℝ) : EReal) = 0 then 0 else ((n : ℝ) : EReal) - Ideal.ofBits .f32 0x42FC0000#32) = ((-ee n : ℝ) : EReal) := by
  rw [expo, ← EReal.coe_zero, ← EReal.coe_sub, zero_sub]

theorem scX_ap : k0_pay5 (F := Ideal) (cntX x3) (ix2 e p) = Ideal.exp2 ((ee (nn (x3 (ix2 e p) * Ideal.ofBits .f32 0x3B124925#32)) : ℝ) : EReal) := by
  unfold k0_pay5 k0_pay4; simp only [pointwise]; rw [cntX_ap]; exact congrArg Ideal.exp2 (expo _)
theorem scY_ap : k0_pay15 (F := Ideal) (cntY x4) (ix2 e p) = Ideal.exp2 ((ee (nn (x4 (ix2 e p) * Ideal.ofBits .f32 0x37924925#32)) : ℝ) : EReal) := by
  unfold k0_pay15 k0_pay14; simp only [pointwise]; rw [cntY_ap]; exact congrArg Ideal.exp2 (expo _)
theorem invX_ap : k0_pay6 (F := Ideal) (cntX x3) (ix2 e p) = Ideal.exp2 ((-ee (nn (x3 (ix2 e p) * Ideal.ofBits .f32 0x3B124925#32)) : ℝ) : EReal) := by
  unfold k0_pay6 k0_pay4; simp only [pointwise]; rw [cntX_ap]; exact congrArg Ideal.exp2 (expo_neg _)
theorem invY_ap : k0_pay17 (F := Ideal) (k0_pay14 (cntY x4)) (k0_pay16 (F := Ideal)) (ix2 e p) = Ideal.exp2 ((-ee (nn (x4 (ix2 e p) * Ideal.ofBits .f32 0x37924925#32)) : ℝ) : EReal) := by
  unfold k0_pay17 k0_pay16 k0_pay14; simp only [pointwise]; rw [cntY_ap]; exact congrArg Ideal.exp2 (expo_neg _)

end Cert.ReferenceIdeal.RefCnt

end
-- ==== Proof.RefHost.lean ====
module

public import proofs.«01_k».proof.Proof.SchedVal
public import proofs.«01_k».proof.Proof.Gen.ReferenceIdeal.Frame.Runs
public import Idealize.ShloMosaic.Lib.StableHlo.Run
public import Idealize.ShloMosaic.Lib.Tactic

/-!
The reference's host operations: the group of every row.
-/

@[expose] public section

set_option maxRecDepth 16384

noncomputable section

namespace Cert.ReferenceIdeal.RefHost

open Cert.ReferenceIdeal Cert.ReferenceIdeal.Gen
open Idealize.ShloMosaic hiding ix0 ix1 ix2
open Idealize.ShloMosaic.ValueIdx
open Idealize.ShloMosaic.TcCoe Idealize.ShloMosaic.Routing Idealize.ShloMosaic.WordCmp
open Idealize.SL.Sem

variable {F : FTy → Type} [FloatOps F]

/-- The comparisons of every row with every group's end. -/
def below (gs : Sched.V8) : IVec S49152x8 1 :=
  cmpi .sge (broadcastInDim S49152x8 ![0, 1] bcast_S49152x1_S49152x8_0_1 (broadcastInDim S49152x1 ![0] bcast_S49152_S49152x1_0 (iotaInDim S49152 32 0)))
    (broadcastInDim S49152x8 ![0, 1] bcast_S1x8_S49152x8_0_1 (broadcastInDim S1x8 ![1] bcast_S8_S1x8_1 (Sched.cum gs)))
/-- How many groups end at or before every row. -/
def ended (gs : Sched.V8) : IVec S49152 32 :=
  Host.reduce IntOp.addi (extui 32 (below gs) natLt_1_32) (constantI S_ 32 0#32) reducesTo_S49152x8_S49152_d1 h_S_
/-- The group of every row. -/
def grp (gs : Sched.V8) : IVec S49152 32 :=
  minsi (broadcastInDim S49152 ![] bcast_S_S49152 (constantI S_ 32 7#32)) (maxsi (broadcastInDim S49152 ![] bcast_S_S49152 (constantI S_ 32 0#32)) (ended gs))

variable (m : (ℓ : Loc nD τ sig) → Buf (Elt F) ℓ) (c : Dev nD)

set_option maxHeartbeats 4000000 in
theorem s0 (W : Valuation τ sig (Elt F)) (gs : Sched.V8) (h : W (Proc.devRef .tc main_arg2) = gs) :
    StableHlo.after hostOps0 W (Proc.devRef .tc main_v0) = Sched.cum gs := by
  after_results_simp; simp only [h]; simp -implicitDefEqProofs only [StableHlo.TRef.toBuf, StableHlo.TRef.ofBuf, cast_cast, cast_eq, id_eq]; rfl
set_option maxHeartbeats 4000000 in
theorem s1 (W : Valuation τ sig (Elt F)) (gs : Sched.V8) (h : W (Proc.devRef .tc main_v0) = Sched.cum gs) :
    StableHlo.after hostOps0_1 W (Proc.devRef .tc main_v8) = ended gs
    ∧ StableHlo.after hostOps0_1 W (Proc.devRef .tc main_c_0) = constantI S_ 32 0#32
    ∧ StableHlo.after hostOps0_1 W (Proc.devRef .tc main_c_1) = constantI S_ 32 7#32 := by
  refine ⟨?_, ?_, ?_⟩
  · after_results_simp; rw [h]; unfold ended below; rfl
  · after_results_simp; try rfl
  · after_results_simp; try rfl
set_option maxHeartbeats 4000000 in
theorem s2 (W : Valuation τ sig (Elt F)) (gs : Sched.V8) (h : W (Proc.devRef .tc main_v8) = ended gs)
    (h0 : W (Proc.devRef .tc main_c_0) = constantI S_ 32 0#32) (h1 : W (Proc.devRef .tc main_c_1) = constantI S_ 32 7#32) :
    StableHlo.after hostOps0_2 W (Proc.devRef .tc main_v9) = grp gs := by
  after_results_simp; simp only [h, h0, h1]; simp -implicitDefEqProofs only [StableHlo.TRef.toBuf, StableHlo.TRef.ofBuf, cast_cast, cast_eq, id_eq]; rfl
theorem s3 (W : Valuation τ sig (Elt F)) (gs : Sched.V8) (h : W (Proc.devRef .tc main_v9) = grp gs) :
    StableHlo.after hostOps0_3 W (Proc.devRef .tc main_v10) = broadcastInDim S49152x1 ![0] bcast_S49152_S49152x1_0 (grp gs) := by
  after_results_simp; rw [h]

theorem V_v10 : V m c main_v10 = broadcastInDim S49152x1 ![0] bcast_S49152_S49152x1_0 (grp (m ((c.tc : Thread nD τ).loc main_arg2))) := by
  show StableHlo.after (List.flatten [hostOps0, hostOps0_1, hostOps0_2, hostOps0_3]) (fun b => m (c, b)) (Proc.devRef .tc main_v10) = _
  simp only [List.flatten_cons, List.flatten_nil, List.append_nil, StableHlo.after_append]
  have a0 := s0 (F := F) (fun b => m (c, b)) _ rfl
  obtain ⟨a1, b1, c1⟩ := s1 (F := F) _ _ a0
  exact s3 _ _ (s2 _ _ a1 b1 c1)

section Num
variable {g : Nat → Nat} {gs : Sched.V8} (hg : ∀ k : Fin 8, gs (ix1 k) = BitVec.ofNat 32 (g k)) (hS : Plan.S g 8 = 49152)
include hg hS

theorem ended_ap (r : Fin 49152) : ended gs (ix1 r) = BitVec.ofNat 32 (Nat.count (fun q => Plan.S g (q + 1) ≤ r.val) 8) := by
  unfold ended
  refine reduce_count (n := 49152) (m := 8) (by decide) _ natLt_1_32 reducesTo_S49152x8_S49152_d1 h_S_ r _ fun q => ?_
  have hm := Plan.S_le hS (show (q : Nat) + 1 ≤ 8 by omega)
  unfold below
  have e1 : broadcastInDim S49152x8 ![0, 1] bcast_S49152x1_S49152x8_0_1 (broadcastInDim S49152x1 ![0] bcast_S49152_S49152x1_0 (iotaInDim S49152 32 0)) (ix2 r q)
      = BitVec.ofNat 32 r.val := (bcRows (n := 49152) (m := 8) _ _ _ _ _).trans rfl
  have e2 : broadcastInDim S49152x8 ![0, 1] bcast_S1x8_S49152x8_0_1 (broadcastInDim S1x8 ![1] bcast_S8_S1x8_1 (Sched.cum gs)) (ix2 r q)
      = BitVec.ofNat 32 (Plan.S g (q + 1)) := (bcCols (n := 49152) (m := 8) _ _ _ _ _).trans (Sched.cum_ap hg hS q)
  rw [cmpi_at]
  rw [e1, e2]
  have := r.isLt
  exact cmpi_sge_ofNat_eq_one_iff (w := 32) (by omega) (by omega)

omit hg in
/-- The groups that end at or before a row are the ones before its own. -/
theorem count_eq (r k : Nat) (hk : k < 8) (h1 : Plan.S g k ≤ r) (h2 : r < Plan.S g (k + 1)) :
    ∀ n, n ≤ 8 → Nat.count (fun q => Plan.S g (q + 1) ≤ r) n = min n k := by
  intro n
  induction n with
  | zero => intro _; simp
  | succ n ih =>
    intro hn
    rw [Nat.count_succ, ih (by omega)]
    by_cases h : n < k
    · rw [if_pos (le_trans (Plan.S_mono g (by omega)) h1)]; omega
    · rw [if_neg (not_le.2 (lt_of_lt_of_le h2 (Plan.S_mono g (by omega))))]; omega

theorem row_ap (r : Fin 49152) (k : Nat) (hk : k < 8) (h1 : Plan.S g k ≤ r.val) (h2 : r.val < Plan.S g (k + 1)) :
    broadcastInDim S49152x1 ![0] bcast_S49152_S49152x1_0 (grp gs) (ix2 r (0 : Fin 1)) = BitVec.ofNat 32 k := by
  rw [bcCol (n := 49152)]
  have he : ended gs (ix1 r) = BitVec.ofNat 32 k := by
    rw [ended_ap hg hS, count_eq hS r.val k hk h1 h2 8 (le_refl _), Nat.min_eq_right (by omega)]
  show IntOp.minsi (broadcastInDim S49152 ![] bcast_S_S49152 (constantI S_ 32 7#32) (ix1 r))
    (IntOp.maxsi (broadcastInDim S49152 ![] bcast_S_S49152 (constantI S_ 32 0#32) (ix1 r)) (ended gs (ix1 r))) = _
  rw [bc0, bc0, he]
  show IntOp.minsi 7#32 (IntOp.maxsi 0#32 (BitVec.ofNat 32 k)) = _
  interval_cases k <;> rfl

omit hg in
/-- Every row has a group. -/
theorem has_group (r : Nat) (hr : r < 49152) : ∃ k, k < 8 ∧ Plan.S g k ≤ r ∧ r < Plan.S g (k + 1) := by
  have key : ∀ n, r < Plan.S g n → ∃ k, k < n ∧ Plan.S g k ≤ r ∧ r < Plan.S g (k + 1) := by
    intro n
    induction n with
    | zero => intro h; rw [Plan.S_zero] at h; omega
    | succ n ih =>
      intro h
      by_cases h' : r < Plan.S g n
      · obtain ⟨k, a, b, d⟩ := ih h'; exact ⟨k, by omega, b, d⟩
      · exact ⟨n, by omega, by omega, h⟩
  exact key 8 (by omega)

end Num

end Cert.ReferenceIdeal.RefHost

end
-- ==== Proof.RefRun.lean ====
module

public import proofs.«01_k».proof.Proof.Final
public import proofs.«01_k».proof.Proof.ValR2
public import proofs.«01_k».proof.Proof.RefCnt
public import proofs.«01_k».proof.Proof.RefHost
public import Idealize.ShloMosaic.Lib.Pipeline.ValueKit.Geometry

/-!
What the reference ends with.
-/

@[expose] public section

set_option maxRecDepth 16384

noncomputable section

namespace Cert.ReferenceIdeal.RefRun

open Cert.ReferenceIdeal Cert.ReferenceIdeal.Gen Cert.ReferenceIdeal.ValR Cert.ReferenceIdeal.RefCnt Cert.ReferenceIdeal.RefHost Cert.Scale
open Cert.Final
open Cert.KernelIdeal.Visit (QX QY SX SY)
open Idealize.ShloMosaic hiding ix0 ix1 ix2 ix3
open Idealize.ShloMosaic.ValueIdx
open Idealize.ShloMosaic.TcCoe Idealize.ShloMosaic.Pipeline Idealize.SL.Sem

section Vals

variable {g : Nat → Nat} (hS : Plan.S g 8 = 49152)
variable (x0 : Vec Ideal S49152x1 .i32) (x1 x2 : Vec Ideal S49152x2048 .bf16) (x3 x4 : Vec Ideal S8x2048 .f32)
variable (h0 : ∀ (r : Fin 49152) (k : Nat), k < 8 → Plan.S g k ≤ r.val → r.val < Plan.S g (k + 1) → x0 (ix2 r (0 : Fin 1)) = BitVec.ofNat 32 k)

theorem xs : IsXs x3 (k0_pay5 (F := Ideal) (cntX x3)) := by
  intro k p
  unfold SX; rw [dif_pos k.isLt]
  exact scX_ap x3 k p
theorem ys : IsYs x4 (k0_pay15 (F := Ideal) (cntY x4)) := by
  intro k p
  unfold SY; rw [dif_pos k.isLt]
  exact scY_ap x4 k p

include h0
theorem xc : IsXc g x1 x3 (codX x0 x1 x3) := by
  intro r p k hk h1 h2
  have e := codX_ap x0 x1 x3 r p ⟨k, hk⟩ (h0 r k hk h1 h2)
  have e2 := invX_ap x3 ⟨k, hk⟩ p
  unfold QX; rw [dif_pos ⟨r.isLt, hk⟩]
  refine e.trans ?_
  rw [show invSX x3 (ix2 ⟨k, hk⟩ p) = _ from e2]
  rfl
theorem yc : IsYc g x2 x4 (codY x0 x2 x4) := by
  intro r p k hk h1 h2
  have e := codY_ap x0 x2 x4 r p ⟨k, hk⟩ (h0 r k hk h1 h2)
  have e2 := invY_ap x4 ⟨k, hk⟩ p
  unfold QY; rw [dif_pos ⟨r.isLt, hk⟩]
  refine e.trans ?_
  rw [show invSY x4 (ix2 ⟨k, hk⟩ p) = _ from e2]
  rfl

theorem sel {k e : Nat} (hk : k < 8) (he : e < 8) (a b : EReal) :
    Scalar.select (IntOp.cmpi .eq (BitVec.ofNat 32 k) (BitVec.ofNat 32 e)) a b = if k = e then a else b := by
  unfold Scalar.select IntOp.cmpi
  by_cases h : k = e
  · subst h; simp
  · have hne : BitVec.ofNat 32 k ≠ BitVec.ofNat 32 e := by
      intro hh
      have := congrArg BitVec.toNat hh
      simp only [BitVec.toNat_ofNat] at this
      omega
    rw [if_neg h]
    have : (BitVec.ofNat 32 k == BitVec.ofNat 32 e) = false := by simpa using hne
    simp [this]

include hS
theorem dw (d : Vec Ideal S8x2048x2048 .f32)
    (hd : ∀ (e : Fin 8) (p q : Fin 2048), d (ix3 e p q) = slab x0 (BitVec.ofNat 32 e.val) (codX x0 x1 x3) (codY x0 x2 x4)
      (rw1 e.val e.isLt (k0_pay5 (F := Ideal) (cntX x3))) (rw1 e.val e.isLt (k0_pay15 (F := Ideal) (cntY x4))) p q) : IsDw g x1 x2 x3 x4 d := by
  intro e p q
  rw [hd]
  unfold slab Inv.part
  have hs : (∑ r : Fin 49152, Scalar.select (IntOp.cmpi .eq (x0 (ix2 r 0)) (BitVec.ofNat 32 e.val)) (codX x0 x1 x3 (ix2 r p) * codY x0 x2 x4 (ix2 r q)) 0 : EReal)
      = ∑ r ∈ Finset.range 49152, Inv.term g (QX x1 x3) (QY x2 x4) e.val p q r := by
    rw [Finset.sum_range]
    refine Finset.sum_congr rfl fun r _ => ?_
    obtain ⟨k, hk, h1, h2⟩ := has_group hS r.val r.isLt
    rw [h0 r k hk h1 h2, sel x0 h0 hk e.isLt, xc x0 x1 x3 h0 r p k hk h1 h2, yc x0 x2 x4 h0 r q k hk h1 h2]
    unfold Inv.term
    by_cases hke : k = e.val
    · rw [if_pos hke, if_pos (hke ▸ ⟨h1, h2⟩), hke]
    · rw [if_neg hke, if_neg fun h => hke (Inv.uniqS h1 h2 h.1 h.2)]
  rw [hs]
  refine congrArg _ ?_
  exact congrArg₂ _ (xs x3 e p) (ys x4 e q)

end Vals

variable (m : (ℓ : Loc nD τ sig) → Buf (Elt Ideal) ℓ) (ρ : Dev nD → PrngReg)

/-! The blocks of the inputs are the arrays. -/

theorem blk0 (c : Dev nD) (t : Fin cfg0.N) : (iblk m c 0 t : Vec Ideal S49152x1 .i32) = V m c main_v10 := by
  funext j
  unfold iblk
  rw [View.read_apply]
  refine congrArg (V m c main_v10) (funext fun b => Fin.ext ?_)
  exact (Window.rect_emb_val _ _ _ _).trans (by match b with | ⟨0, _⟩ => exact (Nat.zero_mul _).symm ▸ Nat.zero_add _ | ⟨1, _⟩ => exact (Nat.zero_mul _).symm ▸ Nat.zero_add _)
theorem blk1 (c : Dev nD) (t : Fin cfg0.N) : (iblk m c 1 t : Vec Ideal S49152x2048 .bf16) = m ((c.tc : Thread nD τ).loc main_arg0) := by
  refine Eq.trans ?_ (V_main_arg0 m c)
  funext j
  unfold iblk
  rw [View.read_apply]
  refine congrArg (V m c main_arg0) (funext fun b => Fin.ext ?_)
  exact (Window.rect_emb_val _ _ _ _).trans (by match b with | ⟨0, _⟩ => exact (Nat.zero_mul _).symm ▸ Nat.zero_add _ | ⟨1, _⟩ => exact (Nat.zero_mul _).symm ▸ Nat.zero_add _)
theorem blk2 (c : Dev nD) (t : Fin cfg0.N) : (iblk m c 2 t : Vec Ideal S49152x2048 .bf16) = m ((c.tc : Thread nD τ).loc main_arg1) := by
  refine Eq.trans ?_ (V_main_arg1 m c)
  funext j
  unfold iblk
  rw [View.read_apply]
  refine congrArg (V m c main_arg1) (funext fun b => Fin.ext ?_)
  exact (Window.rect_emb_val _ _ _ _).trans (by match b with | ⟨0, _⟩ => exact (Nat.zero_mul _).symm ▸ Nat.zero_add _ | ⟨1, _⟩ => exact (Nat.zero_mul _).symm ▸ Nat.zero_add _)
theorem blk3 (c : Dev nD) (t : Fin cfg0.N) : (iblk m c 3 t : Vec Ideal S8x2048 .f32) = m ((c.tc : Thread nD τ).loc main_arg3) := by
  refine Eq.trans ?_ (V_main_arg3 m c)
  funext j
  unfold iblk
  rw [View.read_apply]
  refine congrArg (V m c main_arg3) (funext fun b => Fin.ext ?_)
  exact (Window.rect_emb_val _ _ _ _).trans (by match b with | ⟨0, _⟩ => exact (Nat.zero_mul _).symm ▸ Nat.zero_add _ | ⟨1, _⟩ => exact (Nat.zero_mul _).symm ▸ Nat.zero_add _)
theorem blk4 (c : Dev nD) (t : Fin cfg0.N) : (iblk m c 4 t : Vec Ideal S8x2048 .f32) = m ((c.tc : Thread nD τ).loc main_arg4) := by
  refine Eq.trans ?_ (V_main_arg4 m c)
  funext j
  unfold iblk
  rw [View.read_apply]
  refine congrArg (V m c main_arg4) (funext fun b => Fin.ext ?_)
  exact (Window.rect_emb_val _ _ _ _).trans (by match b with | ⟨0, _⟩ => exact (Nat.zero_mul _).symm ▸ Nat.zero_add _ | ⟨1, _⟩ => exact (Nat.zero_mul _).symm ▸ Nat.zero_add _)

/-- The one visit. -/
abbrev t0 : Fin cfg0.N := ⟨0, by decide⟩

theorem arr5 (c : Dev nD) : (dats m 0 c).arrAt 5 cfg0.N = (outsAt0 m c t0).1 :=
  (dats m 0 c).arrAt_eq_of_after_last 5 t0 (by decide +kernel) _ fun j => by rw [after0_5]; rfl
theorem arr6 (c : Dev nD) : (dats m 0 c).arrAt 6 cfg0.N = (outsAt0 m c t0).2.1 :=
  (dats m 0 c).arrAt_eq_of_after_last 6 t0 (by decide +kernel) _ fun j => by rw [after0_6]; rfl
theorem arr7 (c : Dev nD) : (dats m 0 c).arrAt 7 cfg0.N = (outsAt0 m c t0).2.2.1 :=
  (dats m 0 c).arrAt_eq_of_after_last 7 t0 (by decide +kernel) _ fun j => by rw [after0_7]; rfl
theorem arr8 (c : Dev nD) : (dats m 0 c).arrAt 8 cfg0.N = (outsAt0 m c t0).2.2.2.1 :=
  (dats m 0 c).arrAt_eq_of_after_last 8 t0 (by decide +kernel) _ fun j => by rw [after0_8]; rfl
theorem arr9 (c : Dev nD) : (dats m 0 c).arrAt 9 cfg0.N = (outsAt0 m c t0).2.2.2.2 :=
  (dats m 0 c).arrAt_eq_of_after_last 9 t0 (by decide +kernel) _ fun j => by rw [after0_9]; rfl

variable {g : Nat → Nat} (hg : ∀ (c : Dev nD) (k : Fin 8), m ((c.tc : Thread nD τ).loc main_arg2) (ix1 k) = BitVec.ofNat 32 (g k)) (hS : Plan.S g 8 = 49152)

include hg hS

theorem rows (c : Dev nD) (r : Fin 49152) (k : Nat) (hk : k < 8) (h1 : Plan.S g k ≤ r.val) (h2 : r.val < Plan.S g (k + 1)) :
    (V m c main_v10 : Vec Ideal S49152x1 .i32) (ix2 r (0 : Fin 1)) = BitVec.ofNat 32 k := by
  rw [V_v10]
  exact row_ap (hg c) hS r k hk h1 h2

theorem run : θ_run defs (onTc (τ := τ) (main (F := Ideal))) ⟨m, fun _ => 0, ρ⟩ (fun r => ∀ c : Dev nD,
    IsDw g (m ((c.tc : Thread nD τ).loc main_arg0)) (m ((c.tc : Thread nD τ).loc main_arg1)) (m ((c.tc : Thread nD τ).loc main_arg3)) (m ((c.tc : Thread nD τ).loc main_arg4))
      (r.2.mem ((c.tc : Thread nD τ).loc main_v11_0))
    ∧ IsXc g (m ((c.tc : Thread nD τ).loc main_arg0)) (m ((c.tc : Thread nD τ).loc main_arg3)) (r.2.mem ((c.tc : Thread nD τ).loc main_v11_1))
    ∧ IsXs (m ((c.tc : Thread nD τ).loc main_arg3)) (r.2.mem ((c.tc : Thread nD τ).loc main_v11_2))
    ∧ IsYc g (m ((c.tc : Thread nD τ).loc main_arg1)) (m ((c.tc : Thread nD τ).loc main_arg4)) (r.2.mem ((c.tc : Thread nD τ).loc main_v11_3))
    ∧ IsYs (m ((c.tc : Thread nD τ).loc main_arg4)) (r.2.mem ((c.tc : Thread nD τ).loc main_v11_4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main m ρ)
  obtain ⟨ha, hr⟩ := h c
  have H0 := rows m hg hS c
  have b0 := blk0 m c t0; have b1 := blk1 m c t0; have b2 := blk2 m c t0; have b3 := blk3 m c t0; have b4 := blk4 m c t0
  refine ⟨?_, ?_, ?_, ?_, ?_, ((ha 1).trans (((dats m 0 c).arrAt_in 1 rfl _).trans ((A_eq m c 1).trans (V_main_arg0 m c)))),
    ((ha 2).trans (((dats m 0 c).arrAt_in 2 rfl _).trans ((A_eq m c 2).trans (V_main_arg1 m c)))),
    (hr main_arg2 (Pipeline.mem_restRefs_of main_arg2 (by decide) (by decide))).trans (V_main_arg2 m c),
    ((ha 3).trans (((dats m 0 c).arrAt_in 3 rfl _).trans ((A_eq m c 3).trans (V_main_arg3 m c)))),
    ((ha 4).trans (((dats m 0 c).arrAt_in 4 rfl _).trans ((A_eq m c 4).trans (V_main_arg4 m c))))⟩
  · have e : r.2.mem ((c.tc : Thread nD τ).loc main_v11_0) = _ := (ha 5).trans (arr5 m c)
    rw [e]
    unfold outsAt0
    dsimp only
    rw [b0, b1, b2, b3, b4]
    exact dw hS _ _ _ _ _ H0 _ fun e p q => out5 _ _ _ _ _ _ _ _ _ _ _ _ _ _ _ _ _ _ _ _ _ _ _ _ _ _ e p q
  · have e : r.2.mem ((c.tc : Thread nD τ).loc main_v11_1) = _ := (ha 6).trans (arr6 m c)
    rw [e]
    unfold outsAt0
    dsimp only
    rw [b0, b1, b2, b3, b4, out6]
    exact xc _ _ _ H0
  · have e : r.2.mem ((c.tc : Thread nD τ).loc main_v11_2) = _ := (ha 7).trans (arr7 m c)
    rw [e]
    unfold outsAt0
    dsimp only
    rw [b0, b1, b2, b3, b4, out7]
    exact xs _
  · have e : r.2.mem ((c.tc : Thread nD τ).loc main_v11_3) = _ := (ha 8).trans (arr8 m c)
    rw [e]
    unfold outsAt0
    dsimp only
    rw [b0, b1, b2, b3, b4, out8]
    exact yc _ _ _ H0
  · have e : r.2.mem ((c.tc : Thread nD τ).loc main_v11_4) = _ := (ha 9).trans (arr9 m c)
    rw [e]
    unfold outsAt0
    dsimp only
    rw [b0, b1, b2, b3, b4, out9]
    exact ys _

end Cert.ReferenceIdeal.RefRun

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_valid
public import proofs.«01_k».proof.Proof.Pre
public import proofs.«01_k».proof.Proof.Start
public import proofs.«01_k».proof.Proof.KStart
public import proofs.«01_k».proof.Proof.KEnd
public import proofs.«01_k».proof.Proof.RefRun

@[expose] public section

noncomputable section

namespace Cert.Proof

open Idealize.ShloMosaic Idealize.SL.Sem

instance : Cert.Pre_valid.Facts := Cert.Pre_valid.Gen.facts

/-- A maximum is at most the largest float. -/
theorem bound {a b : EReal} (h : FloatOps.cmpf (F := Ideal) (φ := .f32) .ole a b = 1#1) : a ≤ b :=
  (Cert.KernelIdeal.ValS.ofBool_one _).mp h

open Cert.Final in
theorem equal : algebraic_KernelIdeal_ReferenceIdeal (hKernelIdeal := Cert.KernelIdeal.Gen.facts) (hReferenceIdeal := Cert.ReferenceIdeal.Gen.facts)
    (hPre_valid := Cert.Pre_valid.Gen.facts) := by
  intro m ρ m' ρ' h hm
  have hs := Cert.Pre.sizes _ _ _ _ _ (h 0)
  obtain ⟨-, -, -, hA, hB⟩ := Cert.Pre.split _ _ _ _ _ (h 0)
  have hG := fun r hr => Cert.ReferenceIdeal.RefHost.has_group hs.2 r hr
  have k := Cert.KernelIdeal.KEnd.run m hs.1 hs.2 ρ
    (fun c j => by obtain rfl : c = 0 := Subsingleton.elim _ _; exact bound (hA j)) (fun c j => by obtain rfl : c = 0 := Subsingleton.elim _ _; exact bound (hB j))
  have r := Cert.ReferenceIdeal.RefRun.run m' ρ' (g := Cert.Pre.gOf _)
    (fun c => by obtain rfl : c = 0 := Subsingleton.elim _ _; rw [(hm 0).2.2.1]; exact hs.1) hs.2
  let x := Cert.KernelIdeal.KRun.X m 0
  let y := Cert.KernelIdeal.KRun.Y m 0
  let u := Cert.KernelIdeal.KRun.A m 0
  let v := Cert.KernelIdeal.KRun.B m 0
  let n := Cert.Pre.gOf (m (((0 : Dev Cert.KernelIdeal.nD).tc : Thread Cert.KernelIdeal.nD Cert.KernelIdeal.τ).loc Cert.KernelIdeal.main_arg2))
  refine ⟨fun _ => fDw n x y u v, fun _ => fXc n x u, fun _ => fXs u, fun _ => fYc n y v, fun _ => fYs v, (θ_run _ _ _).mono (fun s hk c => ?_) k,
    (θ_run _ _ _).mono (fun s hr c => ?_) r⟩
  · obtain ⟨a, b, d, e, f, rest⟩ := hk c
    exact ⟨dw_eq a, xc_eq hG b, xs_eq d, yc_eq hG e, ys_eq f, rest⟩
  · obtain rfl : c = 0 := Subsingleton.elim _ _
    obtain ⟨a, b, d, e, f, rest⟩ := hr 0
    obtain ⟨m0, m1, m2, m3, m4⟩ := hm 0
    rw [m0, m1, m3, m4] at a
    rw [m0, m3] at b
    rw [m3] at d
    rw [m1, m4] at e
    rw [m4] at f
    exact ⟨dw_eq a, xc_eq hG b, xs_eq d, yc_eq hG e, ys_eq f, rest⟩

theorem claim : Cert.Claim :=
  ⟨Cert.Kernel.Gen.facts, Cert.KernelIdeal.Gen.facts, Cert.ReferenceIdeal.Gen.facts, Cert.Pre_valid.Gen.facts,
    fun m ρ h => Cert.Kernel.Start.quiet m (Cert.Pre.sizes _ _ _ _ _ (h 0)).1 (Cert.Pre.sizes _ _ _ _ _ (h 0)).2 ρ,
    fun m ρ h => Cert.KernelIdeal.Start.quiet m (Cert.Pre.sizes _ _ _ _ _ (h 0)).1 (Cert.Pre.sizes _ _ _ _ _ (h 0)).2 ρ,
    fun m ρ _ => Cert.ReferenceIdeal.Gen.frame m ρ,
    fun m ρ _ => Cert.ReferenceIdeal.Gen.frame m ρ,
    trivial, equal⟩

end Cert.Proof

end
